-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)) (v6 : (c : Dev Cert.Kernel2Ideal.nD) → Buf (Elt Ideal) ((c.tc : Thread Cert.Kernel2Ideal.nD Cert.Kernel2Ideal.τ).loc Cert.Kernel2Ideal.main_v15_6)) (v7 : (c : Dev Cert.Kernel2Ideal.nD) → Buf (Elt Ideal) ((c.tc : Thread Cert.Kernel2Ideal.nD Cert.Kernel2Ideal.τ).loc Cert.Kernel2Ideal.main_v15_7)) (v8 : (c : Dev Cert.Kernel2Ideal.nD) → Buf (Elt Ideal) ((c.tc : Thread Cert.Kernel2Ideal.nD Cert.Kernel2Ideal.τ).loc Cert.Kernel2Ideal.main_v15_8)) (v9 : (c : Dev Cert.Kernel2Ideal.nD) → Buf (Elt Ideal) ((c.tc : Thread Cert.Kernel2Ideal.nD Cert.Kernel2Ideal.τ).loc Cert.Kernel2Ideal.main_v15_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_v15_6) = v6 c
          ∧ r.2.mem ((c.tc : Thread Cert.Kernel2Ideal.nD Cert.Kernel2Ideal.τ).loc Cert.Kernel2Ideal.main_v15_7) = v7 c
          ∧ r.2.mem ((c.tc : Thread Cert.Kernel2Ideal.nD Cert.Kernel2Ideal.τ).loc Cert.Kernel2Ideal.main_v15_8) = v8 c
          ∧ r.2.mem ((c.tc : Thread Cert.Kernel2Ideal.nD Cert.Kernel2Ideal.τ).loc Cert.Kernel2Ideal.main_v15_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_v111) = v1 c
          ∧ r.2.mem ((c.tc : Thread Cert.Reference2Ideal.nD Cert.Reference2Ideal.τ).loc Cert.Reference2Ideal.main_v112) = v2 c
          ∧ r.2.mem ((c.tc : Thread Cert.Reference2Ideal.nD Cert.Reference2Ideal.τ).loc Cert.Reference2Ideal.main_v113) = v3 c
          ∧ r.2.mem ((c.tc : Thread Cert.Reference2Ideal.nD Cert.Reference2Ideal.τ).loc Cert.Reference2Ideal.main_v114) = v4 c
          ∧ r.2.mem ((c.tc : Thread Cert.Reference2Ideal.nD Cert.Reference2Ideal.τ).loc Cert.Reference2Ideal.main_v117) = v5 c
          ∧ r.2.mem ((c.tc : Thread Cert.Reference2Ideal.nD Cert.Reference2Ideal.τ).loc Cert.Reference2Ideal.main_v119) = v6 c
          ∧ r.2.mem ((c.tc : Thread Cert.Reference2Ideal.nD Cert.Reference2Ideal.τ).loc Cert.Reference2Ideal.main_v121) = v7 c
          ∧ r.2.mem ((c.tc : Thread Cert.Reference2Ideal.nD Cert.Reference2Ideal.τ).loc Cert.Reference2Ideal.main_v123) = v8 c
          ∧ r.2.mem ((c.tc : Thread Cert.Reference2Ideal.nD Cert.Reference2Ideal.τ).loc Cert.Reference2Ideal.main_v125) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x4096x1280 : Shape := ⟨3, ![16, 4096, 1280]⟩
abbrev S16x4096x1024 : Shape := ⟨3, ![16, 4096, 1024]⟩
abbrev S1x4x1280 : Shape := ⟨3, ![1, 4, 1280]⟩
abbrev S1x1280 : Shape := ⟨2, ![1, 1280]⟩
abbrev S1x10x128x128 : Shape := ⟨4, ![1, 10, 128, 128]⟩
abbrev S1x1280x1024 : Shape := ⟨3, ![1, 1280, 1024]⟩
abbrev S10x128x128 : Shape := ⟨3, ![10, 128, 128]⟩
abbrev S10x128x256 : Shape := ⟨3, ![10, 128, 256]⟩
abbrev S4x1280 : Shape := ⟨2, ![4, 1280]⟩
abbrev S1280 : Shape := ⟨1, ![1280]⟩
abbrev S1280x1024 : Shape := ⟨2, ![1280, 1024]⟩
abbrev S16x32x1280 : Shape := ⟨3, ![16, 32, 1280]⟩
abbrev S16x32x1024 : Shape := ⟨3, ![16, 32, 1024]⟩
abbrev S10x640x128 : Shape := ⟨3, ![10, 640, 128]⟩
abbrev S10x48x128 : Shape := ⟨3, ![10, 48, 128]⟩
abbrev S10x512x128 : Shape := ⟨3, ![10, 512, 128]⟩
abbrev S10x16x128 : Shape := ⟨3, ![10, 16, 128]⟩
abbrev S512x1280 : Shape := ⟨2, ![512, 1280]⟩
abbrev S1x32x128 : Shape := ⟨3, ![1, 32, 128]⟩
abbrev S32x128 : Shape := ⟨2, ![32, 128]⟩
abbrev S1x16x128 : Shape := ⟨3, ![1, 16, 128]⟩
abbrev S16x128 : Shape := ⟨2, ![16, 128]⟩
abbrev S48x128 : Shape := ⟨2, ![48, 128]⟩
abbrev S1x48x128 : Shape := ⟨3, ![1, 48, 128]⟩
abbrev S1x128 : Shape := ⟨2, ![1, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x512x128 : Shape := ⟨3, ![1, 512, 128]⟩
abbrev S16x32x128 : Shape := ⟨3, ![16, 32, 128]⟩
abbrev S512x1024 : Shape := ⟨2, ![512, 1024]⟩

abbrev nBuf : Space → Nat
  | .hbm => 27
  | .vmem => 22
  | .smem => 0
  | _ => 0

abbrev bufTy : (tb : Table) → Fin (tcTables nBuf tb) → BufTy
  | .hbm, ⟨0, _⟩ => ⟨S16x4096x1280, .f32⟩
  | .hbm, ⟨1, _⟩ => ⟨S16x4096x1280, .bf16⟩
  | .hbm, ⟨2, _⟩ => ⟨S16x4096x1024, .bf16⟩
  | .hbm, ⟨3, _⟩ => ⟨S1x4x1280, .f32⟩
  | .hbm, ⟨4, _⟩ => ⟨S1x1280, .f32⟩
  | .hbm, ⟨5, _⟩ => ⟨S1x10x128x128, .f32⟩
  | .hbm, ⟨6, _⟩ => ⟨S1x1280, .f32⟩
  | .hbm, ⟨7, _⟩ => ⟨S1x10x128x128, .f32⟩
  | .hbm, ⟨8, _⟩ => ⟨S1x1280, .f32⟩
  | .hbm, ⟨9, _⟩ => ⟨S1x1280, .f32⟩
  | .hbm, ⟨10, _⟩ => ⟨S1x1280x1024, .f32⟩
  | .hbm, ⟨11, _⟩ => ⟨S10x128x128, .f32⟩
  | .hbm, ⟨12, _⟩ => ⟨S10x128x128, .f32⟩
  | .hbm, ⟨13, _⟩ => ⟨S10x128x256, .f32⟩
  | .hbm, ⟨14, _⟩ => ⟨S10x128x256, .bf16⟩
  | .hbm, ⟨15, _⟩ => ⟨S4x1280, .f32⟩
  | .hbm, ⟨16, _⟩ => ⟨S1280, .f32⟩
  | .hbm, ⟨17, _⟩ => ⟨S1x1280, .f32⟩
  | .hbm, ⟨18, _⟩ => ⟨S1280, .f32⟩
  | .hbm, ⟨19, _⟩ => ⟨S1x1280, .f32⟩
  | .hbm, ⟨20, _⟩ => ⟨S1280, .f32⟩
  | .hbm, ⟨21, _⟩ => ⟨S1x1280, .f32⟩
  | .hbm, ⟨22, _⟩ => ⟨S1280, .f32⟩
  | .hbm, ⟨23, _⟩ => ⟨S1x1280, .f32⟩
  | .hbm, ⟨24, _⟩ => ⟨S1280x1024, .f32⟩
  | .hbm, ⟨25, _⟩ => ⟨S1280x1024, .bf16⟩
  | .hbm, ⟨26, _⟩ => ⟨S16x4096x1024, .bf16⟩
  | .local _ .vmem, ⟨0, _⟩ => ⟨S16x32x1280, .f32⟩
  | .local _ .vmem, ⟨1, _⟩ => ⟨S16x32x1280, .f32⟩
  | .local _ .vmem, ⟨2, _⟩ => ⟨S16x32x1280, .bf16⟩
  | .local _ .vmem, ⟨3, _⟩ => ⟨S16x32x1280, .bf16⟩
  | .local _ .vmem, ⟨4, _⟩ => ⟨S16x32x1024, .bf16⟩
  | .local _ .vmem, ⟨5, _⟩ => ⟨S16x32x1024, .bf16⟩
  | .local _ .vmem, ⟨6, _⟩ => ⟨S4x1280, .f32⟩
  | .local _ .vmem, ⟨7, _⟩ => ⟨S1x1280, .f32⟩
  | .local _ .vmem, ⟨8, _⟩ => ⟨S10x128x256, .bf16⟩
  | .local _ .vmem, ⟨9, _⟩ => ⟨S1x1280, .f32⟩
  | .local _ .vmem, ⟨10, _⟩ => ⟨S1x1280, .f32⟩
  | .local _ .vmem, ⟨11, _⟩ => ⟨S1x1280, .f32⟩
  | .local _ .vmem, ⟨12, _⟩ => ⟨S1280x1024, .bf16⟩
  | .local _ .vmem, ⟨13, _⟩ => ⟨S16x32x1024, .bf16⟩
  | .local _ .vmem, ⟨14, _⟩ => ⟨S16x32x1024, .bf16⟩
  | .local _ .vmem, ⟨15, _⟩ => ⟨S10x640x128, .f32⟩
  | .local _ .vmem, ⟨16, _⟩ => ⟨S10x48x128, .f32⟩
  | .local _ .vmem, ⟨17, _⟩ => ⟨S10x512x128, .f32⟩
  | .local _ .vmem, ⟨18, _⟩ => ⟨S10x512x128, .f32⟩
  | .local _ .vmem, ⟨19, _⟩ => ⟨S10x640x128, .f32⟩
  | .local _ .vmem, ⟨20, _⟩ => ⟨S10x16x128, .f32⟩
  | .local _ .vmem, ⟨21, _⟩ => ⟨S512x1280, .bf16⟩
  | _, _ => ⟨S16x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x32x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x4096x1280 : Shape := ⟨3, ![16, 4096, 1280]⟩
abbrev S16x4096x1024 : Shape := ⟨3, ![16, 4096, 1024]⟩
abbrev S1x4x1280 : Shape := ⟨3, ![1, 4, 1280]⟩
abbrev S1x1280 : Shape := ⟨2, ![1, 1280]⟩
abbrev S1x10x128x128 : Shape := ⟨4, ![1, 10, 128, 128]⟩
abbrev S1x1280x1024 : Shape := ⟨3, ![1, 1280, 1024]⟩
abbrev S_ : Shape := ⟨0, ![]⟩
abbrev S16x4099x1280 : Shape := ⟨3, ![16, 4099, 1280]⟩
abbrev S4x1280 : Shape := ⟨2, ![4, 1280]⟩
abbrev S1280 : Shape := ⟨1, ![1280]⟩
abbrev S1x1x1280 : Shape := ⟨3, ![1, 1, 1280]⟩
abbrev S16x4096x10x128 : Shape := ⟨4, ![16, 4096, 10, 128]⟩
abbrev S10x128x128 : Shape := ⟨3, ![10, 128, 128]⟩
abbrev S10x128x16x4096 : Shape := ⟨4, ![10, 128, 16, 4096]⟩
abbrev S16x1280 : Shape := ⟨2, ![16, 1280]⟩
abbrev S4096x16x1280 : Shape := ⟨3, ![4096, 16, 1280]⟩
abbrev S1x16x1280 : Shape := ⟨3, ![1, 16, 1280]⟩
abbrev S1280x1024 : Shape := ⟨2, ![1280, 1024]⟩

abbrev nBuf : Space → Nat
  | .hbm => 154
  | .vmem => 0
  | .smem => 0
  | _ => 0

abbrev hbmTy0_0 (i : Nat) : BufTy := match i % 128 with
  | 0 => ⟨S16x4096x1280, .f32⟩
  | 1 => ⟨S16x4096x1280, .bf16⟩
  | 2 => ⟨S16x4096x1024, .bf16⟩
  | 3 => ⟨S1x4x1280, .f32⟩
  | 4 => ⟨S1x1280, .f32⟩
  | 5 => ⟨S1x10x128x128, .f32⟩
  | 6 => ⟨S1x1280, .f32⟩
  | 7 => ⟨S1x10x128x128, .f32⟩
  | 8 => ⟨S1x1280, .f32⟩
  | 9 => ⟨S1x1280, .f32⟩
  | 10 => ⟨S1x1280x1024, .f32⟩
  | 11 => ⟨S_, .i32⟩
  | 12 => ⟨S_, .f32⟩
  | 13 => ⟨S16x4099x1280, .f32⟩
  | 14 => ⟨S16x4096x1280, .f32⟩
  | 15 => ⟨S4x1280, .f32⟩
  | 16 => ⟨S1x1280, .f32⟩
  | 17 => ⟨S1280, .f32⟩
  | 18 => ⟨S1x1x1280, .f32⟩
  | 19 => ⟨S16x4096x1280, .f32⟩
  | 20 => ⟨S16x4096x1280, .f32⟩
  | 21 => ⟨S_, .f32⟩
  | 22 => ⟨S16x4096x1280, .f32⟩
  | 23 => ⟨S16x4096x1280, .f32⟩
  | 24 => ⟨S16x4096x1280, .f32⟩
  | 25 => ⟨S4x1280, .f32⟩
  | 26 => ⟨S1x1280, .f32⟩
  | 27 => ⟨S1280, .f32⟩
  | 28 => ⟨S1x1x1280, .f32⟩
  | 29 => ⟨S16x4096x1280, .f32⟩
  | 30 => ⟨S16x4096x1280, .f32⟩
  | 31 => ⟨S16x4096x1280, .f32⟩
  | 32 => ⟨S16x4096x1280, .f32⟩
  | 33 => ⟨S4x1280, .f32⟩
  | 34 => ⟨S1x1280, .f32⟩
  | 35 => ⟨S1280, .f32⟩
  | 36 => ⟨S1x1x1280, .f32⟩
  | 37 => ⟨S16x4096x1280, .f32⟩
  | 38 => ⟨S16x4096x1280, .f32⟩
  | 39 => ⟨S16x4096x1280, .f32⟩
  | 40 => ⟨S16x4096x1280, .f32⟩
  | 41 => ⟨S4x1280, .f32⟩
  | 42 => ⟨S1x1280, .f32⟩
  | 43 => ⟨S1280, .f32⟩
  | 44 => ⟨S1x1x1280, .f32⟩
  | 45 => ⟨S16x4096x1280, .f32⟩
  | 46 => ⟨S16x4096x1280, .f32⟩
  | 47 => ⟨S16x4096x1280, .f32⟩
  | 48 => ⟨S1280, .f32⟩
  | 49 => ⟨S1x1x1280, .f32⟩
  | 50 => ⟨S16x4096x1280, .f32⟩
  | 51 => ⟨S16x4096x1280, .f32⟩
  | 52 => ⟨S16x4096x10x128, .f32⟩
  | 53 => ⟨S10x128x128, .f32⟩
  | 54 => ⟨S10x128x16x4096, .f32⟩
  | 55 => ⟨S16x4096x10x128, .f32⟩
  | 56 => ⟨S16x4096x1280, .f32⟩
  | 57 => ⟨S1280, .f32⟩
  | 58 => ⟨S1x1x1280, .f32⟩
  | 59 => ⟨S16x4096x1280, .f32⟩
  | 60 => ⟨S16x4096x1280, .f32⟩
  | 61 => ⟨S16x4096x1280, .f32⟩
  | 62 => ⟨S16x4096x1280, .f32⟩
  | 63 => ⟨S_, .f32⟩
  | 64 => ⟨S16x4096x1280, .f32⟩
  | 65 => ⟨S16x4096x1280, .f32⟩
  | 66 => ⟨S_, .f32⟩
  | 67 => ⟨S16x4096x1280, .f32⟩
  | 68 => ⟨S16x4096x1280, .f32⟩
  | 69 => ⟨S10x128x128, .f32⟩
  | 70 => ⟨S10x128x16x4096, .f32⟩
  | 71 => ⟨S16x4096x10x128, .f32⟩
  | 72 => ⟨S16x4096x1280, .f32⟩
  | 73 => ⟨S1280, .f32⟩
  | 74 => ⟨S1x1x1280, .f32⟩
  | 75 => ⟨S16x4096x1280, .f32⟩
  | 76 => ⟨S16x4096x1280, .f32⟩
  | 77 => ⟨S16x4096x1280, .f32⟩
  | 78 => ⟨S16x4096x1280, .f32⟩
  | 79 => ⟨S_, .f32⟩
  | 80 => ⟨S16x4096x1280, .f32⟩
  | 81 => ⟨S16x4096x1280, .f32⟩
  | 82 => ⟨S_, .f32⟩
  | 83 => ⟨S16x4096x1280, .f32⟩
  | 84 => ⟨S16x4096x1280, .f32⟩
  | 85 => ⟨S_, .f32⟩
  | 86 => ⟨S16x4096x1280, .f32⟩
  | 87 => ⟨S16x4096x1280, .f32⟩
  | 88 => ⟨S1280, .f32⟩
  | 89 => ⟨S1280, .f32⟩
  | 90 => ⟨S_, .f32⟩
  | 91 => ⟨S1280, .f32⟩
  | 92 => ⟨S1280, .f32⟩
  | 93 => ⟨S1280, .f32⟩
  | 94 => ⟨S1280, .f32⟩
  | 95 => ⟨S1280, .i1⟩
  | 96 => ⟨S1280, .f32⟩
  | 97 => ⟨S1280, .f32⟩
  | 98 => ⟨S1280, .f32⟩
  | 99 => ⟨S1280, .f32⟩
  | 100 => ⟨S1280, .f32⟩
  | 101 => ⟨S1280, .f32⟩
  | 102 => ⟨S1280, .f32⟩
  | 103 => ⟨S1280, .f32⟩
  | 104 => ⟨S1x1x1280, .f32⟩
  | 105 => ⟨S16x4096x1280, .f32⟩
  | 106 => ⟨S16x4096x1280, .f32⟩
  | 107 => ⟨S16x4096x1280, .f32⟩
  | 108 => ⟨S_, .f32⟩
  | 109 => ⟨S16x4096x1280, .f32⟩
  | 110 => ⟨S16x4096x1280, .f32⟩
  | 111 => ⟨S16x4096x1280, .f32⟩
  | 112 => ⟨S16x4096x1280, .f32⟩
  | 113 => ⟨S16x4096x1280, .f32⟩
  | 114 => ⟨S16x4096x1280, .f32⟩
  | 115 => ⟨S16x4096x1280, .f32⟩
  | 116 => ⟨S_, .f32⟩
  | 117 => ⟨S16x1280, .f32⟩
  | 118 => ⟨S4096x16x1280, .f32⟩
  | 119 => ⟨S4096x16x1280, .f32⟩
  | 120 => ⟨S_, .f32⟩
  | 121 => ⟨S4096x16x1280, .f32⟩
  | 122 => ⟨S_, .i32⟩
  | 123 => ⟨S4096x16x1280, .f32⟩
  | 124 => ⟨S4096x16x1280, .f32⟩
  | 125 => ⟨S_, .i32⟩
  | 126 => ⟨S16x1280, .f32⟩
  | 127 => ⟨S4096x16x1280, .f32⟩
  | _ => ⟨S16x4096x1280, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S1x16x1280, .f32⟩
  | 5 => ⟨S16x1280, .f32⟩
  | 6 => ⟨S_, .i32⟩
  | 7 => ⟨S_, .i32⟩
  | 8 => ⟨S1x16x1280, .f32⟩
  | 9 => ⟨S16x1280, .f32⟩
  | 10 => ⟨S16x1280, .f32⟩
  | 11 => ⟨S16x1280, .f32⟩
  | 12 => ⟨S1x16x1280, .f32⟩
  | 13 => ⟨S_, .i32⟩
  | 14 => ⟨S_, .i32⟩
  | 15 => ⟨S4096x16x1280, .f32⟩
  | 16 => ⟨S_, .i32⟩
  | 17 => ⟨S_, .i32⟩
  | 18 => ⟨S16x4096x1280, .f32⟩
  | 19 => ⟨S16x4096x1280, .f32⟩
  | 20 => ⟨S16x4096x1280, .f32⟩
  | 21 => ⟨S1280x1024, .f32⟩
  | 22 => ⟨S16x4096x1024, .f32⟩
  | 23 => ⟨S16x4096x1024, .f32⟩
  | 24 => ⟨S16x4096x1024, .f32⟩
  | 25 => ⟨S16x4096x1024, .bf16⟩
  | _ => ⟨S16x4096x1280, .f32⟩

abbrev hbmTy (i : Nat) : BufTy := match i / 128 with
  | 0 => hbmTy0_0 i
  | 1 => hbmTy0_1 i
  | _ => ⟨S16x4096x1280, .f32⟩

abbrev bufTy : (tb : Table) → Fin (tcTables nBuf tb) → BufTy
  | .hbm, ⟨i, _⟩ => hbmTy i
  | _, _ => ⟨S16x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_0 : Ref sig .tc := ⟨.hbm, 63, rfl⟩
abbrev main_v49 : Ref sig .tc := ⟨.hbm, 64, rfl⟩
abbrev main_v50 : Ref sig .tc := ⟨.hbm, 65, rfl⟩
abbrev main_cst_1 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_2 : Ref sig .tc := ⟨.hbm, 79, rfl⟩
abbrev main_v63 : Ref sig .tc := ⟨.hbm, 80, rfl⟩
abbrev main_v64 : Ref sig .tc := ⟨.hbm, 81, rfl⟩
abbrev main_cst_3 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_5 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_6 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_7 : Ref sig .tc := ⟨.hbm, 120, rfl⟩
abbrev main_v86 : Ref sig .tc := ⟨.hbm, 121, rfl⟩
abbrev main_c_8 : Ref sig .tc := ⟨.hbm, 122, rfl⟩
abbrev main_v87_0 : Ref sig .tc := ⟨.hbm, 123, rfl⟩
abbrev main_v87_1 : Ref sig .tc := ⟨.hbm, 124, rfl⟩
abbrev main_v87_2 : Ref sig .tc := ⟨.hbm, 125, rfl⟩
abbrev main_v87_3 : Ref sig .tc := ⟨.hbm, 126, rfl⟩
abbrev main_v87_4 : Ref sig .tc := ⟨.hbm, 127, rfl⟩
abbrev main_while0c_c_13 : Ref sig .tc := ⟨.hbm, 128, rfl⟩
abbrev main_while0c_v96 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_call2_v0 : Ref sig .tc := ⟨.hbm, 132, rfl⟩
abbrev main_while0b_v96 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_v0 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_call4_v0 : Ref sig .tc := ⟨.hbm, 140, rfl⟩
abbrev main_while0b_call4_c : Ref sig .tc := ⟨.hbm, 141, rfl⟩
abbrev main_while0b_call4_c_0 : Ref sig .tc := ⟨.hbm, 142, rfl⟩
abbrev main_while0b_v100 : Ref sig .tc := ⟨.hbm, 143, rfl⟩
abbrev main_while0b_c_13 : Ref sig .tc := ⟨.hbm, 144, rfl⟩
abbrev main_while0b_v101 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16x4096x1024 : Shape := ⟨3, ![16, 4096, 1024]⟩
abbrev S1x1024 : Shape := ⟨2, ![1, 1024]⟩
abbrev S1x1024x8720 : Shape := ⟨3, ![1, 1024, 8720]⟩
abbrev S1x4x3072 : Shape := ⟨3, ![1, 4, 3072]⟩
abbrev S1024x8720 : Shape := ⟨2, ![1024, 8720]⟩
abbrev S1024x6656 : Shape := ⟨2, ![1024, 6656]⟩
abbrev S1024x2048 : Shape := ⟨2, ![1024, 2048]⟩
abbrev S1024x8704 : Shape := ⟨2, ![1024, 8704]⟩
abbrev S1024x8 : Shape := ⟨2, ![1024, 8]⟩
abbrev S_ : Shape := ⟨0, ![]⟩
abbrev S1024x128 : Shape := ⟨2, ![1024, 128]⟩
abbrev S65536x1024 : Shape := ⟨2, ![65536, 1024]⟩
abbrev S1024 : Shape := ⟨1, ![1024]⟩
abbrev S4x3072 : Shape := ⟨2, ![4, 3072]⟩
abbrev S65536x1280 : Shape := ⟨2, ![65536, 1280]⟩
abbrev S65536x128 : Shape := ⟨2, ![65536, 128]⟩
abbrev S256x1024 : Shape := ⟨2, ![256, 1024]⟩
abbrev S256x1280 : Shape := ⟨2, ![256, 1280]⟩
abbrev S256x128 : Shape := ⟨2, ![256, 128]⟩
abbrev S264x3072 : Shape := ⟨2, ![264, 3072]⟩
abbrev S8x3072 : Shape := ⟨2, ![8, 3072]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 33
  | .vmem => 28
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8720, .f32⟩
  | .hbm, ⟨3, _⟩ => ⟨S1x4x3072, .f32⟩
  | .hbm, ⟨4, _⟩ => ⟨S1024x8720, .f32⟩
  | .hbm, ⟨5, _⟩ => ⟨S1024x6656, .f32⟩
  | .hbm, ⟨6, _⟩ => ⟨S1024x2048, .f32⟩
  | .hbm, ⟨7, _⟩ => ⟨S1024x8704, .f32⟩
  | .hbm, ⟨8, _⟩ => ⟨S1024x8704, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S65536x1024, .f32⟩
  | .hbm, ⟨20, _⟩ => ⟨S1024, .f32⟩
  | .hbm, ⟨21, _⟩ => ⟨S1x1024, .f32⟩
  | .hbm, ⟨22, _⟩ => ⟨S4x3072, .f32⟩
  | .hbm, ⟨23, _⟩ => ⟨S65536x1280, .f32⟩
  | .hbm, ⟨24, _⟩ => ⟨S65536x1280, .bf16⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .bf16⟩
  | .hbm, ⟨29, _⟩ => ⟨S65536x1024, .bf16⟩
  | .hbm, ⟨30, _⟩ => ⟨S65536x1024, .bf16⟩
  | .hbm, ⟨31, _⟩ => ⟨S65536x128, .f32⟩
  | .hbm, ⟨32, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8704, .bf16⟩
  | .local _ .vmem, ⟨4, _⟩ => ⟨S1024x128, .bf16⟩
  | .local _ .vmem, ⟨5, _⟩ => ⟨S1024x128, .bf16⟩
  | .local _ .vmem, ⟨6, _⟩ => ⟨S4x3072, .f32⟩
  | .local _ .vmem, ⟨7, _⟩ => ⟨S256x1280, .f32⟩
  | .local _ .vmem, ⟨8, _⟩ => ⟨S256x1280, .f32⟩
  | .local _ .vmem, ⟨9, _⟩ => ⟨S256x1280, .bf16⟩
  | .local _ .vmem, ⟨10, _⟩ => ⟨S256x1280, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S264x3072, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v15_7 : Ref sig .tc := ⟨.hbm, 30, rfl⟩
abbrev main_v15_8 : Ref sig .tc := ⟨.hbm, 31, rfl⟩
abbrev main_v15_9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16x4096x1024 : Shape := ⟨3, ![16, 4096, 1024]⟩
abbrev S1x1024 : Shape := ⟨2, ![1, 1024]⟩
abbrev S1x1024x8720 : Shape := ⟨3, ![1, 1024, 8720]⟩
abbrev S1x4x3072 : Shape := ⟨3, ![1, 4, 3072]⟩
abbrev S_ : Shape := ⟨0, ![]⟩
abbrev S16x4096 : Shape := ⟨2, ![16, 4096]⟩
abbrev S16x4096x1 : Shape := ⟨3, ![16, 4096, 1]⟩
abbrev S1024 : Shape := ⟨1, ![1024]⟩
abbrev S1x1x1024 : Shape := ⟨3, ![1, 1, 1024]⟩
abbrev S1024x8720 : Shape := ⟨2, ![1024, 8720]⟩
abbrev S16x4096x8720 : Shape := ⟨3, ![16, 4096, 8720]⟩
abbrev S16x4096x1280 : Shape := ⟨3, ![16, 4096, 1280]⟩
abbrev S16x4096x3072 : Shape := ⟨3, ![16, 4096, 3072]⟩
abbrev S16x4096x8 : Shape := ⟨3, ![16, 4096, 8]⟩
abbrev S16x4099x3072 : Shape := ⟨3, ![16, 4099, 3072]⟩
abbrev S4x3072 : Shape := ⟨2, ![4, 3072]⟩
abbrev S1x3072 : Shape := ⟨2, ![1, 3072]⟩
abbrev S3072 : Shape := ⟨1, ![3072]⟩
abbrev S1x1x3072 : Shape := ⟨3, ![1, 1, 3072]⟩
abbrev S16x4096x3x8x128 : Shape := ⟨5, ![16, 4096, 3, 8, 128]⟩
abbrev S16x4096x1x8x128 : Shape := ⟨5, ![16, 4096, 1, 8, 128]⟩
abbrev S16x4096x8x128 : Shape := ⟨4, ![16, 4096, 8, 128]⟩
abbrev S16x4096x8x1 : Shape := ⟨4, ![16, 4096, 8, 1]⟩
abbrev S65536x1280 : Shape := ⟨2, ![65536, 1280]⟩
abbrev S65536x1024 : Shape := ⟨2, ![65536, 1024]⟩
abbrev S65536x8 : Shape := ⟨2, ![65536, 8]⟩
abbrev S65536x128 : Shape := ⟨2, ![65536, 128]⟩

abbrev nBuf : Space → Nat
  | .hbm => 169
  | .vmem => 0
  | .smem => 0
  | _ => 0

abbrev hbmTy0_0 (i : Nat) : BufTy := match i % 128 with
  | 0 => ⟨S16x4096x1024, .f32⟩
  | 1 => ⟨S1x1024, .f32⟩
  | 2 => ⟨S1x1024x8720, .f32⟩
  | 3 => ⟨S1x4x3072, .f32⟩
  | 4 => ⟨S16x4096x1024, .f32⟩
  | 5 => ⟨S_, .f32⟩
  | 6 => ⟨S16x4096, .f32⟩
  | 7 => ⟨S16x4096x1, .f32⟩
  | 8 => ⟨S_, .f32⟩
  | 9 => ⟨S16x4096x1, .f32⟩
  | 10 => ⟨S16x4096x1, .f32⟩
  | 11 => ⟨S_, .f32⟩
  | 12 => ⟨S16x4096x1, .f32⟩
  | 13 => ⟨S16x4096x1, .f32⟩
  | 14 => ⟨S16x4096x1, .f32⟩
  | 15 => ⟨S16x4096x1024, .f32⟩
  | 16 => ⟨S16x4096x1024, .f32⟩
  | 17 => ⟨S1024, .f32⟩
  | 18 => ⟨S1x1x1024, .f32⟩
  | 19 => ⟨S16x4096x1024, .f32⟩
  | 20 => ⟨S16x4096x1024, .f32⟩
  | 21 => ⟨S1024x8720, .f32⟩
  | 22 => ⟨S16x4096x8720, .f32⟩
  | 23 => ⟨S16x4096x1280, .f32⟩
  | 24 => ⟨S16x4096x1280, .f32⟩
  | 25 => ⟨S16x4096x1280, .f32⟩
  | 26 => ⟨S16x4096x1280, .f32⟩
  | 27 => ⟨S_, .f32⟩
  | 28 => ⟨S16x4096x1280, .f32⟩
  | 29 => ⟨S16x4096x1280, .f32⟩
  | 30 => ⟨S16x4096x1280, .f32⟩
  | 31 => ⟨S_, .f32⟩
  | 32 => ⟨S16x4096x1280, .f32⟩
  | 33 => ⟨S16x4096x1280, .f32⟩
  | 34 => ⟨S16x4096x1280, .f32⟩
  | 35 => ⟨S_, .f32⟩
  | 36 => ⟨S16x4096x1280, .f32⟩
  | 37 => ⟨S16x4096x1280, .f32⟩
  | 38 => ⟨S_, .f32⟩
  | 39 => ⟨S16x4096x1280, .f32⟩
  | 40 => ⟨S16x4096x1280, .f32⟩
  | 41 => ⟨S16x4096x1280, .f32⟩
  | 42 => ⟨S16x4096x3072, .f32⟩
  | 43 => ⟨S16x4096x1024, .f32⟩
  | 44 => ⟨S16x4096x8, .f32⟩
  | 45 => ⟨S16x4096x8, .f32⟩
  | 46 => ⟨S16x4096x1024, .f32⟩
  | 47 => ⟨S16x4096x1024, .f32⟩
  | 48 => ⟨S16x4096x1024, .f32⟩
  | 49 => ⟨S_, .f32⟩
  | 50 => ⟨S16x4096x1024, .f32⟩
  | 51 => ⟨S16x4096x1024, .f32⟩
  | 52 => ⟨S_, .f32⟩
  | 53 => ⟨S16x4096x1024, .f32⟩
  | 54 => ⟨S16x4096x1024, .f32⟩
  | 55 => ⟨S16x4096x1024, .f32⟩
  | 56 => ⟨S16x4096x1024, .f32⟩
  | 57 => ⟨S16x4096x1024, .f32⟩
  | 58 => ⟨S_, .f32⟩
  | 59 => ⟨S16x4096x1024, .f32⟩
  | 60 => ⟨S16x4096x1024, .f32⟩
  | 61 => ⟨S_, .f32⟩
  | 62 => ⟨S16x4096x1024, .f32⟩
  | 63 => ⟨S16x4096x1024, .f32⟩
  | 64 => ⟨S_, .i32⟩
  | 65 => ⟨S_, .f32⟩
  | 66 => ⟨S16x4099x3072, .f32⟩
  | 67 => ⟨S16x4096x3072, .f32⟩
  | 68 => ⟨S4x3072, .f32⟩
  | 69 => ⟨S1x3072, .f32⟩
  | 70 => ⟨S3072, .f32⟩
  | 71 => ⟨S1x1x3072, .f32⟩
  | 72 => ⟨S16x4096x3072, .f32⟩
  | 73 => ⟨S16x4096x3072, .f32⟩
  | 74 => ⟨S_, .f32⟩
  | 75 => ⟨S16x4096x3072, .f32⟩
  | 76 => ⟨S16x4096x3072, .f32⟩
  | 77 => ⟨S16x4096x3072, .f32⟩
  | 78 => ⟨S4x3072, .f32⟩
  | 79 => ⟨S1x3072, .f32⟩
  | 80 => ⟨S3072, .f32⟩
  | 81 => ⟨S1x1x3072, .f32⟩
  | 82 => ⟨S16x4096x3072, .f32⟩
  | 83 => ⟨S16x4096x3072, .f32⟩
  | 84 => ⟨S16x4096x3072, .f32⟩
  | 85 => ⟨S16x4096x3072, .f32⟩
  | 86 => ⟨S4x3072, .f32⟩
  | 87 => ⟨S1x3072, .f32⟩
  | 88 => ⟨S3072, .f32⟩
  | 89 => ⟨S1x1x3072, .f32⟩
  | 90 => ⟨S16x4096x3072, .f32⟩
  | 91 => ⟨S16x4096x3072, .f32⟩
  | 92 => ⟨S16x4096x3072, .f32⟩
  | 93 => ⟨S16x4096x3072, .f32⟩
  | 94 => ⟨S4x3072, .f32⟩
  | 95 => ⟨S1x3072, .f32⟩
  | 96 => ⟨S3072, .f32⟩
  | 97 => ⟨S1x1x3072, .f32⟩
  | 98 => ⟨S16x4096x3072, .f32⟩
  | 99 => ⟨S16x4096x3072, .f32⟩
  | 100 => ⟨S16x4096x3072, .f32⟩
  | 101 => ⟨S16x4096x3072, .f32⟩
  | 102 => ⟨S16x4096x3072, .f32⟩
  | 103 => ⟨S_, .f32⟩
  | 104 => ⟨S16x4096x3072, .f32⟩
  | 105 => ⟨S16x4096x3072, .f32⟩
  | 106 => ⟨S_, .f32⟩
  | 107 => ⟨S16x4096x3072, .f32⟩
  | 108 => ⟨S16x4096x3072, .f32⟩
  | 109 => ⟨S16x4096x3072, .f32⟩
  | 110 => ⟨S16x4096x3x8x128, .f32⟩
  | 111 => ⟨S16x4096x1x8x128, .f32⟩
  | 112 => ⟨S16x4096x8x128, .f32⟩
  | 113 => ⟨S16x4096x8x128, .f32⟩
  | 114 => ⟨S_, .f32⟩
  | 115 => ⟨S16x4096x8, .f32⟩
  | 116 => ⟨S16x4096x8x1, .f32⟩
  | 117 => ⟨S_, .f32⟩
  | 118 => ⟨S16x4096x8x1, .f32⟩
  | 119 => ⟨S16x4096x8x1, .f32⟩
  | 120 => ⟨S16x4096x8x1, .f32⟩
  | 121 => ⟨S16x4096x8x128, .f32⟩
  | 122 => ⟨S16x4096x8x128, .f32⟩
  | 123 => ⟨S_, .f32⟩
  | 124 => ⟨S16x4096x8x128, .f32⟩
  | 125 => ⟨S16x4096x8x128, .f32⟩
  | 126 => ⟨S16x4096x1x8x128, .f32⟩
  | 127 => ⟨S16x4096x8x128, .f32⟩
  | _ => ⟨S16x4096x1024, .f32⟩

abbrev hbmTy0_1 (i : Nat) : BufTy := match i % 128 with
  | 0 => ⟨S16x4096x8x128, .f32⟩
  | 1 => ⟨S_, .f32⟩
  | 2 => ⟨S16x4096x8, .f32⟩
  | 3 => ⟨S16x4096x8x1, .f32⟩
  | 4 => ⟨S_, .f32⟩
  | 5 => ⟨S16x4096x8x1, .f32⟩
  | 6 => ⟨S16x4096x8x1, .f32⟩
  | 7 => ⟨S16x4096x8x1, .f32⟩
  | 8 => ⟨S16x4096x8x128, .f32⟩
  | 9 => ⟨S16x4096x8x128, .f32⟩
  | 10 => ⟨S16x4096x1x8x128, .f32⟩
  | 11 => ⟨S16x4096x8x128, .f32⟩
  | 12 => ⟨S65536x1280, .f32⟩
  | 13 => ⟨S65536x1280, .f32⟩
  | 14 => ⟨S65536x1280, .bf16⟩
  | 15 => ⟨S65536x1024, .f32⟩
  | 16 => ⟨S65536x1024, .f32⟩
  | 17 => ⟨S65536x1024, .f32⟩
  | 18 => ⟨S16x4096x1024, .f32⟩
  | 19 => ⟨S16x4096x1024, .f32⟩
  | 20 => ⟨S_, .f32⟩
  | 21 => ⟨S16x4096x1024, .f32⟩
  | 22 => ⟨S16x4096x1024, .f32⟩
  | 23 => ⟨S_, .f32⟩
  | 24 => ⟨S16x4096x1024, .f32⟩
  | 25 => ⟨S16x4096x1024, .f32⟩
  | 26 => ⟨S16x4096x1024, .f32⟩
  | 27 => ⟨S65536x1024, .f32⟩
  | 28 => ⟨S65536x1024, .bf16⟩
  | 29 => ⟨S65536x1024, .f32⟩
  | 30 => ⟨S65536x1024, .bf16⟩
  | 31 => ⟨S65536x1024, .f32⟩
  | 32 => ⟨S65536x1024, .bf16⟩
  | 33 => ⟨S65536x8, .f32⟩
  | 34 => ⟨S_, .i32⟩
  | 35 => ⟨S_, .f32⟩
  | 36 => ⟨S65536x128, .f32⟩
  | 37 => ⟨S65536x8, .f32⟩
  | 38 => ⟨S_, .i32⟩
  | 39 => ⟨S_, .f32⟩
  | 40 => ⟨S65536x128, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call0_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_11 : Ref sig .tc := ⟨.hbm, 114, rfl⟩
abbrev main_v88 : Ref sig .tc := ⟨.hbm, 115, rfl⟩
abbrev main_v89 : Ref sig .tc := ⟨.hbm, 116, rfl⟩
abbrev main_cst_12 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_13 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_14 : Ref sig .tc := ⟨.hbm, 129, rfl⟩
abbrev main_v100 : Ref sig .tc := ⟨.hbm, 130, rfl⟩
abbrev main_v101 : Ref sig .tc := ⟨.hbm, 131, rfl⟩
abbrev main_cst_15 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_call2_v0 : Ref sig .tc := ⟨.hbm, 146, rfl⟩
abbrev main_call2_v1 : Ref sig .tc := ⟨.hbm, 147, rfl⟩
abbrev main_call2_cst : Ref sig .tc := ⟨.hbm, 148, rfl⟩
abbrev main_call2_v2 : Ref sig .tc := ⟨.hbm, 149, rfl⟩
abbrev main_call2_v3 : Ref sig .tc := ⟨.hbm, 150, rfl⟩
abbrev main_call2_cst_0 : Ref sig .tc := ⟨.hbm, 151, rfl⟩
abbrev main_call2_v4 : Ref sig .tc := ⟨.hbm, 152, rfl⟩
abbrev main_call2_v5 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_16 : Ref sig .tc := ⟨.hbm, 162, rfl⟩
abbrev main_call3_v0 : Ref sig .tc := ⟨.hbm, 163, rfl⟩
abbrev main_v123 : Ref sig .tc := ⟨.hbm, 164, rfl⟩
abbrev main_v124 : Ref sig .tc := ⟨.hbm, 165, rfl⟩
abbrev main_c_17 : Ref sig .tc := ⟨.hbm, 166, rfl⟩
abbrev main_call4_v0 : Ref sig .tc := ⟨.hbm, 167, rfl⟩
abbrev main_v125 : Ref sig .tc := ⟨.hbm, 168, rfl⟩

abbrev nD : Nat := 1
abbrev τ : Topo := Topo.v7x

variable {F : FTy → Type} [FloatOps F]
-- ==== Proof.Body.lean ====
/-
  One grid point of the RG-LRU branch kernel, written once for every channel chunk and every time step.

  The kernel works on ten chunks of 128 channels and on 32 time steps at a grid point, all of them written out one after
  the other. Here each stage is one function of the chunk and of the step: the depthwise convolution of a window of 35
  slabs, the two gates, the recurrence's coefficients, the 32 steps of the recurrence, and the gated rows handed to the
  output projection.
-/
module

public import proofs.«01_k».proof.Proof.Gen.KernelIdeal.Frame.Runs

@[expose] public section

set_option maxRecDepth 16384

noncomputable section

namespace Branch

open Cert.KernelIdeal Cert.KernelIdeal.Gen
open Idealize.ShloMosaic Idealize.ShloMosaic.TcCoe

variable {F : FTy → Type} [FloatOps F]

/-! ### Rectangles -/

theorem inb3 {A B C p q r a b c : Nat} (hp : p + a ≤ A) (hq : q + b ≤ B) (hr : r + c ≤ C) :
    ∀ x : Fin 3, (![p, q, r] : Fin 3 → Nat) x + (![a, b, c] : Fin 3 → Nat) x ≤ (![A, B, C] : Fin 3 → Nat) x := by
  intro x
  match x with
  | ⟨0, _⟩ => exact hp
  | ⟨1, _⟩ => exact hq
  | ⟨2, _⟩ => exact hr

theorem inb2 {A B p q a b : Nat} (hp : p + a ≤ A) (hq : q + b ≤ B) :
    ∀ x : Fin 2, (![p, q] : Fin 2 → Nat) x + (![a, b] : Fin 2 → Nat) x ≤ (![A, B] : Fin 2 → Nat) x := by
  intro x
  match x with
  | ⟨0, _⟩ => exact hp
  | ⟨1, _⟩ => exact hq

/-- 128 channels of the input rows of one batch row. -/
def xRect (n : Fin 10) (bi : Fin 16) : Rect S16x32x1280 :=
  Rect.unit ![bi.val, 0, n.val * 128] S1x32x128.size (inb3 (by omega) (by omega) (by omega))
/-- Where one batch row's tile stands in the staging buffer. -/
def tRect (n : Fin 10) (bi : Fin 16) : Rect S10x640x128 :=
  Rect.unit ![n.val, bi.val * 40, 0] S1x32x128.size (inb3 (by omega) (by omega) (by omega))
/-- One time row of every batch row. -/
def rowRect (n : Fin 10) (t : Fin 32) : Rect S10x640x128 where
  off := ![n.val, t.val, 0]
  size := S1x16x128.size
  stride := ![1, 40, 1]
  inb a := by
    match a with
    | ⟨0, _⟩ => exact Or.inr (show n.val + 1 * (1 - 1) < 10 by omega)
    | ⟨1, _⟩ => exact Or.inr (show t.val + 40 * (16 - 1) < 640 by omega)
    | ⟨2, _⟩ => exact Or.inr (show 0 + 1 * (128 - 1) < 128 by omega)
  stride_pos a := by
    match a with
    | ⟨0, _⟩ => exact Nat.one_pos
    | ⟨1, _⟩ => exact (by decide : 0 < 40)
    | ⟨2, _⟩ => exact Nat.one_pos
/-- One chunk of the coefficient buffers. -/
def cRect (n : Fin 10) : Rect S10x512x128 :=
  Rect.unit ![n.val, 0, 0] S1x512x128.size (inb3 (by omega) (by omega) (by omega))
/-- One time step of one chunk of the coefficient buffers. -/
def cRow (n : Fin 10) (t : Fin 32) : Rect S10x512x128 :=
  Rect.unit ![n.val, t.val * 16, 0] S1x16x128.size (inb3 (by omega) (by omega) (by omega))
/-- The three last slabs of one chunk. -/
def pRect (n : Fin 10) : Rect S10x48x128 :=
  Rect.unit ![n.val, 0, 0] S1x48x128.size (inb3 (by omega) (by omega) (by omega))
/-- One of the three last slabs of one chunk. -/
def pRow (n : Fin 10) (k : Fin 3) : Rect S10x48x128 :=
  Rect.unit ![n.val, k.val * 16, 0] S1x16x128.size (inb3 (by omega) (by omega) (by omega))
/-- The state of one chunk. -/
def hRect (n : Fin 10) : Rect S10x16x128 :=
  Rect.unit ![n.val, 0, 0] S1x16x128.size (inb3 (by omega) (by omega) (by omega))
/-- 128 columns of a row of weights. -/
def wRect (n : Fin 10) : Rect S1x1280 :=
  Rect.unit ![0, n.val * 128] S1x128.size (inb2 (by omega) (by omega))
/-- 128 columns of one tap's row. -/
def kRect (n : Fin 10) (k : Fin 4) : Rect S4x1280 :=
  Rect.unit ![k.val, n.val * 128] S1x128.size (inb2 (by omega) (by omega))
/-- One chunk's gate weights. -/
def gRect (n : Fin 10) : Rect S10x128x256 :=
  Rect.unit ![n.val, 0, 0] S1x128x256.size (inb3 (by omega) (by omega) (by omega))
/-- 128 channels of the gate branch's rows. -/
def rgRect (n : Fin 10) : Rect S16x32x1280 :=
  Rect.unit ![0, 0, n.val * 128] S16x32x128.size (inb3 (by omega) (by omega) (by omega))
/-- One chunk of the gated rows. -/
def oRect (n : Fin 10) : Rect S512x1280 :=
  Rect.unit ![0, n.val * 128] S512x128.size (inb2 (by omega) (by omega))

/-! ### The stages -/

/-- What a grid point reads. -/
structure Ins (F : FTy → Type) where
  /-- the 35 slabs of a chunk: the three carried over, then the point's own 32 -/
  slab : Fin 10 → Fin 35 → FVec F S16x128 .f32
  tap : Fin 10 → Fin 4 → FVec F S1x128 .f32
  cb : Fin 10 → FVec F S1x128 .f32
  wg : Fin 10 → FVec F S1x128x256 .bf16
  ba : Fin 10 → FVec F S1x128 .f32
  bx : Fin 10 → FVec F S1x128 .f32
  lam : FVec F S1x1280 .f32

/-- A row of 128 lanes repeated on 16 rows. -/
def rep (v : FVec F S1x128 .f32) : FVec F S16x128 .f32 :=
  broadcastTo S16x128 (shapeCast S1x128 (shapeCast S1x128 v shapeCasts_S1x128_S1x128) shapeCasts_S1x128_S1x128)
    broadcasts_S1x128_S16x128

/-- The convolution at step `t`. -/
def conv (I : Ins F) (n : Fin 10) (t : Fin 32) : FVec F S16x128 .f32 :=
  addf (addf (addf (addf (rep (I.cb n))
      (mulf (rep (I.tap n 0)) (I.slab n ⟨t.val, by omega⟩)))
      (mulf (rep (I.tap n 1)) (I.slab n ⟨t.val + 1, by omega⟩)))
      (mulf (rep (I.tap n 2)) (I.slab n ⟨t.val + 2, by omega⟩)))
      (mulf (rep (I.tap n 3)) (I.slab n ⟨t.val + 3, by omega⟩))

theorem concats32 (f : Fin 32 → FVec F S16x128 .f32) :
    Shape.Concatenates ((List.ofFn fun t : Fin 32 => (⟨S16x128, f t⟩ : (s : Shape) × (s.Idx → F .f32))).map (·.1)) S512x128 0 := by
  rw [List.map_ofFn]; exact (by decide : Shape.Concatenates (List.ofFn fun _ : Fin 32 => S16x128) S512x128 0)

theorem concats16 (f : Fin 16 → FVec F S32x128 .f32) :
    Shape.Concatenates ((List.ofFn fun t : Fin 16 => (⟨S32x128, f t⟩ : (s : Shape) × (s.Idx → F .f32))).map (·.1)) S512x128 0 := by
  rw [List.map_ofFn]; exact (by decide : Shape.Concatenates (List.ofFn fun _ : Fin 16 => S32x128) S512x128 0)

theorem concats3 (f : Fin 3 → FVec F S16x128 .f32) :
    Shape.Concatenates ((List.ofFn fun t : Fin 3 => (⟨S16x128, f t⟩ : (s : Shape) × (s.Idx → F .f32))).map (·.1)) S48x128 0 := by
  rw [List.map_ofFn]; exact (by decide : Shape.Concatenates (List.ofFn fun _ : Fin 3 => S16x128) S48x128 0)

/-- The convolved rows of a chunk, step by step. -/
def xb (I : Ins F) (n : Fin 10) : FVec F S512x128 .f32 :=
  concatenate S512x128 0 (List.ofFn fun t : Fin 32 => (⟨S16x128, conv I n t⟩ : (s : Shape) × (s.Idx → F .f32))) (concats32 _)

/-- Both gates' pre-activations, side by side. -/
def pre (I : Ins F) (n : Fin 10) : FVec F S512x256 .f32 :=
  matmul dot_S512x128_S128x256_S512x256_1_0_0_1_n_n none (truncf .bf16 (xb I n) bitsLt_bf16_f32)
    (shapeCast S128x256 (I.wg n) shapeCasts_S1x128x256_S128x256) (constant S512x256 .f32 0x00000000#32)

/-- The sigmoid as the kernel takes it. -/
def sg (p : FVec F S512x128 .f32) (b : FVec F S1x128 .f32) : FVec F S512x128 .f32 :=
  addf (mulf (broadcast S512x128 (Scalar.ofBits .f32 0x3F000000#32)) (tanh (mulf (broadcast S512x128 (Scalar.ofBits .f32 0x3F000000#32))
    (addf p (broadcastTo S512x128 (shapeCast S1x128 b shapeCasts_S1x128_S1x128) broadcasts_S1x128_S512x128)))))
    (broadcast S512x128 (Scalar.ofBits .f32 0x3F000000#32))

def gr (I : Ins F) (n : Fin 10) : FVec F S512x128 .f32 :=
  sg (extractStridedSlice S512x128 ![0, 0] (pre I n) slices_S512x256_o0_0_S512x128) (I.ba n)

def gi (I : Ins F) (n : Fin 10) : FVec F S512x128 .f32 :=
  sg (extractStridedSlice S512x128 ![0, 128] (pre I n) slices_S512x256_o0_128_S512x128) (I.bx n)

/-- Eight times the softplus of the negated weights. -/
def decay (l : FVec F S1x1280 .f32) : FVec F S1x1280 .f32 := k0_pay4 l

theorem slicesLam (n : Fin 10) : Shape.Slices S1x1280 ![0, n.val * 128] S1x128 := by
  revert n; decide

/-- The recurrence's factor. -/
def av (I : Ins F) (n : Fin 10) : FVec F S512x128 .f32 :=
  exp (subf (broadcast S512x128 (Scalar.ofBits .f32 0x00000000#32))
    (mulf (gr I n) (broadcastTo S512x128 (extractStridedSlice S1x128 ![0, n.val * 128] (decay I.lam) (slicesLam n)) broadcasts_S1x128_S512x128)))

def om (I : Ins F) (n : Fin 10) : FVec F S512x128 .f32 :=
  subf (broadcast S512x128 (Scalar.ofBits .f32 0x3F800000#32)) (mulf (av I n) (av I n))

/-- The recurrence's summand. -/
def bv (I : Ins F) (n : Fin 10) : FVec F S512x128 .f32 :=
  mulf (select (cmpf .ogt (om I n) (broadcast S512x128 (Scalar.ofBits .f32 0x00000000#32))) (mulf (om I n) (rsqrt (om I n)))
    (broadcast S512x128 (Scalar.ofBits .f32 0x00000000#32))) (mulf (gi I n) (xb I n))

/-- The staged input tiles, the last chunk first. -/
def xsList (x : Fin 10 → Fin 16 → Vec F S1x32x128 .f32) : List (View.Piece (Elt F) S10x640x128 .f32) :=
  List.ofFn fun k : Fin 160 => ⟨tRect ⟨(159 - k.val) / 16, by omega⟩ ⟨(159 - k.val) % 16, by omega⟩,
    shapeCast S1x32x128 (shapeCast S32x128 (x ⟨(159 - k.val) / 16, by omega⟩ ⟨(159 - k.val) % 16, by omega⟩) shapeCasts_S1x32x128_S32x128)
      shapeCasts_S32x128_S1x32x128⟩

/-- The factors as staged. -/
def aList (I : Ins F) : List (View.Piece (Elt F) S10x512x128 .f32) :=
  List.ofFn fun k : Fin 10 => ⟨cRect k.rev, shapeCast S1x512x128 (av I k.rev) shapeCasts_S512x128_S1x512x128⟩

/-- The summands as staged. -/
def bList (I : Ins F) : List (View.Piece (Elt F) S10x512x128 .f32) :=
  List.ofFn fun k : Fin 10 => ⟨cRect k.rev, shapeCast S1x512x128 (bv I k.rev) shapeCasts_S512x128_S1x512x128⟩

/-- What the recurrence reads: its factors and summands at a step, and the state it starts from. -/
structure Rec (F : FTy → Type) where
  a : Fin 10 → Fin 32 → FVec F S1x16x128 .f32
  b : Fin 10 → Fin 32 → FVec F S1x16x128 .f32
  h0 : Fin 10 → FVec F S1x16x128 .f32

/-- The state after `t` steps. -/
def hs (R : Rec F) (n : Fin 10) (t : Nat) : FVec F S16x128 .f32 :=
  Nat.rec (shapeCast S16x128 (R.h0 n) shapeCasts_S1x16x128_S16x128)
    (fun t h => addf (mulf (shapeCast S16x128 (R.a n (Fin.ofNat 32 t)) shapeCasts_S1x16x128_S16x128) h)
      (shapeCast S16x128 (R.b n (Fin.ofNat 32 t)) shapeCasts_S1x16x128_S16x128)) t

/-- The states as staged, the last first. -/
def hList (R : Rec F) : List (View.Piece (Elt F) S10x640x128 .f32) :=
  List.ofFn fun k : Fin 320 => ⟨rowRect ⟨(319 - k.val) / 32, by omega⟩ ⟨(319 - k.val) % 32, by omega⟩,
    shapeCast S1x16x128 (hs R ⟨(319 - k.val) / 32, by omega⟩ ((319 - k.val) % 32 + 1)) shapeCasts_S16x128_S1x16x128⟩

/-- The carried states. -/
def cList (R : Rec F) : List (View.Piece (Elt F) S10x16x128 .f32) :=
  List.ofFn fun k : Fin 10 => ⟨hRect k.rev, shapeCast S1x16x128 (hs R k.rev 32) shapeCasts_S16x128_S1x16x128⟩

/-- The carried slabs. -/
def pList (I : Ins F) : List (View.Piece (Elt F) S10x48x128 .f32) :=
  List.ofFn fun k : Fin 10 => ⟨pRect k.rev, shapeCast S1x48x128
    (concatenate S48x128 0 (List.ofFn fun j : Fin 3 => (⟨S16x128, I.slab k.rev ⟨j.val + 32, by omega⟩⟩ : (s : Shape) × (s.Idx → F .f32))) (concats3 _))
    shapeCasts_S48x128_S1x48x128⟩

/-- One chunk's gated rows. -/
def gated (g : Fin 10 → Vec F S16x32x128 .bf16) (h : Fin 10 → Fin 16 → Vec F S1x32x128 .f32) (n : Fin 10) : FVec F S512x128 .bf16 :=
  shapeCast S512x128 (truncf .bf16 (mulf (extf .f32 (shapeCast S512x128 (g n) shapeCasts_S16x32x128_S512x128) bitsLt_bf16_f32)
    (concatenate S512x128 0 (List.ofFn fun bi : Fin 16 =>
      (⟨S32x128, shapeCast S32x128 (h n bi) shapeCasts_S1x32x128_S32x128⟩ : (s : Shape) × (s.Idx → F .f32))) (concats16 _))) bitsLt_bf16_f32)
    shapeCasts_S512x128_S512x128

/-- The gated rows as staged. -/
def gList (g : Fin 10 → Vec F S16x32x128 .bf16) (h : Fin 10 → Fin 16 → Vec F S1x32x128 .f32) : List (View.Piece (Elt F) S512x1280 .bf16) :=
  List.ofFn fun k : Fin 10 => ⟨oRect k.rev, gated g h k.rev⟩

/-! ### The stages over the buffers' reads -/

variable (arg1 : Memref sig .tc .vmem S16x32x1280 .f32) (harg1 : arg1.IsWhole) (arg2 : Memref sig .tc .vmem S16x32x1280 .bf16) (harg2 : arg2.IsWhole)
  (arg4 : Memref sig .tc .vmem S4x1280 .f32) (harg4 : arg4.IsWhole) (arg5 : Memref sig .tc .vmem S1x1280 .f32) (harg5 : arg5.IsWhole)
  (arg6 : Memref sig .tc .vmem S10x128x256 .bf16) (harg6 : arg6.IsWhole) (arg7 : Memref sig .tc .vmem S1x1280 .f32) (harg7 : arg7.IsWhole)
  (arg8 : Memref sig .tc .vmem S1x1280 .f32) (harg8 : arg8.IsWhole) (arg9 : Memref sig .tc .vmem S1x1280 .f32) (harg9 : arg9.IsWhole)
  (arg12 : Memref sig .tc .vmem S10x640x128 .f32) (arg14 : Memref sig .tc .vmem S10x512x128 .f32) (arg15 : Memref sig .tc .vmem S10x512x128 .f32)
  (arg16 : Memref sig .tc .vmem S10x640x128 .f32)
  (x0 : Vec F S16x32x1280 .f32) (x1 : Vec F S16x32x1280 .bf16) (x3 : Vec F S4x1280 .f32) (x4 : Vec F S1x1280 .f32)
  (x5 : Vec F S10x128x256 .bf16) (x6 : Vec F S1x1280 .f32) (x7 : Vec F S1x1280 .f32) (x8 : Vec F S1x1280 .f32)

/-- The input tiles as loaded. -/
def xRd (n : Fin 10) (bi : Fin 16) : Vec F S1x32x128 .f32 :=
  arg1.view.readAt (Elt F) (xRect n bi).toLoadRect (harg1.unread x0)

/-- A chunk's 35 slabs. -/
def slabOf (pr : Fin 10 → Fin 3 → Vec F S1x16x128 .f32) (xr : Fin 10 → Fin 32 → Vec F S1x16x128 .f32) (n : Fin 10) (t : Fin 35) :
    FVec F S16x128 .f32 :=
  shapeCast S16x128 (if h : t.val < 3 then pr n ⟨t.val, h⟩ else xr n ⟨t.val - 3, by omega⟩) shapeCasts_S1x16x128_S16x128

/-- What a grid point reads, over its buffers. -/
def insOf (pr : Fin 10 → Fin 3 → Vec F S1x16x128 .f32) (L0 : List (View.Piece (Elt F) S10x640x128 .f32)) : Ins F where
  slab := slabOf pr fun n t => arg12.view.readCov L0 (rowRect n t).toLoadRect
  tap n k := arg4.view.readAt (Elt F) (kRect n k).toLoadRect (harg4.unread x3)
  cb n := arg5.view.readAt (Elt F) (wRect n).toLoadRect (harg5.unread x4)
  wg n := arg6.view.readAt (Elt F) (gRect n).toLoadRect (harg6.unread x5)
  ba n := arg7.view.readAt (Elt F) (wRect n).toLoadRect (harg7.unread x6)
  bx n := arg8.view.readAt (Elt F) (wRect n).toLoadRect (harg8.unread x7)
  lam := arg9.view.readAt (Elt F) (Rect.unit ![0, 0] S1x1280.size inb_S1x1280_S1x1280_0_0).toLoadRect (harg9.unread x8)

/-- What the recurrence reads, over the coefficient buffers. -/
def recOf (h0 : Fin 10 → Vec F S1x16x128 .f32) (La : List (View.Piece (Elt F) S10x512x128 .f32))
    (Lb : List (View.Piece (Elt F) S10x512x128 .f32)) : Rec F where
  a n t := arg14.view.readCov La (cRow n t).toLoadRect
  b n t := arg15.view.readCov Lb (cRow n t).toLoadRect
  h0 := h0

/-- The gate branch's rows as loaded. -/
def gRd (n : Fin 10) : Vec F S16x32x128 .bf16 :=
  arg2.view.readAt (Elt F) (rgRect n).toLoadRect (harg2.unread x1)

/-- The output block: the gated rows projected, gated once more. -/
def outOf (arg3 : Memref sig .tc .vmem S16x32x1024 .bf16) (harg3 : arg3.IsWhole) (arg10 : Memref sig .tc .vmem S1280x1024 .bf16) (harg10 : arg10.IsWhole)
    (x2 : Vec F S16x32x1024 .bf16) (x9 : Vec F S1280x1024 .bf16) (g : Vec F S512x1280 .bf16) : FVec F S16x32x1024 .bf16 :=
  k0_pay1 (k0_pay1817 g (arg10.view.readAt (Elt F) (Rect.unit ![0, 0] S1280x1024.size inb_S1280x1024_S1280x1024_0_0).toLoadRect (harg10.unread x9)))
    (arg3.view.readAt (Elt F) (Rect.unit ![0, 0, 0] S16x32x1024.size inb_S16x32x1024_S16x32x1024_0_0_0).toLoadRect (harg3.unread x2))

end Branch

end
-- ==== Proof.PieceA.lean ====
/-
  A first grid point of a row: what is staged is the stages of one chunk and one step, at every chunk and step.
-/
module

public import proofs.«01_k».proof.Proof.Gen.KernelIdeal.Frame.RunA
public import proofs.«01_k».proof.Proof.Body

@[expose] public section

set_option maxRecDepth 16384

noncomputable section

namespace Branch.A

open Cert.KernelIdeal Cert.KernelIdeal.Gen
open Idealize.ShloMosaic Idealize.ShloMosaic.TcCoe

variable {F : FTy → Type} [FloatOps F]
variable (c : Dev nD) (i : grid0.Coords) (arg1 : Memref sig .tc .vmem S16x32x1280 .f32) (harg1 : arg1.IsWhole) (arg2 : Memref sig .tc .vmem S16x32x1280 .bf16) (harg2 : arg2.IsWhole) (arg3 : Memref sig .tc .vmem S16x32x1024 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S10x128x256 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1280x1024 .bf16) (harg10 : arg10.IsWhole) (arg11 : Memref sig .tc .vmem S16x32x1024 .bf16) (harg11 : arg11.IsWhole) (arg12 : Memref sig .tc .vmem S10x640x128 .f32) (harg12 : arg12.IsWhole) (arg13 : Memref sig .tc .vmem S10x48x128 .f32) (harg13 : arg13.IsWhole) (arg14 : Memref sig .tc .vmem S10x512x128 .f32) (harg14 : arg14.IsWhole) (arg15 : Memref sig .tc .vmem S10x512x128 .f32) (harg15 : arg15.IsWhole) (arg16 : Memref sig .tc .vmem S10x640x128 .f32) (harg16 : arg16.IsWhole) (arg17 : Memref sig .tc .vmem S10x16x128 .f32) (harg17 : arg17.IsWhole) (arg18 : Memref sig .tc .vmem S512x1280 .bf16) (harg18 : arg18.IsWhole) (hc0 : cond0_0 i)
    (x0 : Vec F S16x32x1280 .f32) (x1 : Vec F S16x32x1280 .bf16) (x2 : Vec F S16x32x1024 .bf16) (x3 : Vec F S4x1280 .f32) (x4 : Vec F S1x1280 .f32) (x5 : Vec F S10x128x256 .bf16) (x6 : Vec F S1x1280 .f32) (x7 : Vec F S1x1280 .f32) (x8 : Vec F S1x1280 .f32) (x9 : Vec F S1280x1024 .bf16)

/-- The carried slabs as chunk `n` reads them: the buffer's own zeros under what the chunks before stored. -/
def HP : Fin 10 → List (View.Piece (Elt F) S10x48x128 .f32) :=
  ![kernelRun0_A.sl.HS1_1, kernelRun0_A.sl.HS1_2 c arg1 harg1 arg12 x0, kernelRun0_A.sl.HS1_3 c arg1 harg1 arg12 x0, kernelRun0_A.sl.HS1_4 c arg1 harg1 arg12 x0, kernelRun0_A.sl.HS1_5 c arg1 harg1 arg12 x0, kernelRun0_A.sl.HS1_6 c arg1 harg1 arg12 x0, kernelRun0_A.sl.HS1_7 c arg1 harg1 arg12 x0, kernelRun0_A.sl.HS1_8 c arg1 harg1 arg12 x0, kernelRun0_A.sl.HS1_9 c arg1 harg1 arg12 x0, kernelRun0_A.sl.HS1_10 c arg1 harg1 arg12 x0]

def prRd (n : Fin 10) (k : Fin 3) : Vec F S1x16x128 .f32 :=
  arg13.view.readCov (HP c arg1 harg1 arg12 x0 n) (pRow n k).toLoadRect

theorem xs_eq : kernelRun0_A.sl.HS0_160 c arg1 harg1 x0 = xsList (xRd arg1 harg1 x0) := by sl_kernel_rfl

def ins : Ins F :=
  insOf arg4 harg4 arg5 harg5 arg6 harg6 arg7 harg7 arg8 harg8 arg9 harg9 arg12 x3 x4 x5 x6 x7 x8
    (prRd c arg1 harg1 arg12 arg13 x0) (kernelRun0_A.sl.HS0_160 c arg1 harg1 x0)

theorem a_eq : kernelRun0_A.sl.HS2_10 c arg1 harg1 arg4 harg4 arg5 harg5 arg6 harg6 arg7 harg7 arg9 harg9 arg12 arg13 x0 x3 x4 x5 x6 x8
    = aList (ins c arg1 harg1 arg4 harg4 arg5 harg5 arg6 harg6 arg7 harg7 arg8 harg8 arg9 harg9 arg12 arg13 x0 x3 x4 x5 x6 x7 x8) := by sl_kernel_rfl

theorem b_eq : kernelRun0_A.sl.HS3_10 c arg1 harg1 arg4 harg4 arg5 harg5 arg6 harg6 arg7 harg7 arg8 harg8 arg9 harg9 arg12 arg13 x0 x3 x4 x5 x6 x7 x8
    = bList (ins c arg1 harg1 arg4 harg4 arg5 harg5 arg6 harg6 arg7 harg7 arg8 harg8 arg9 harg9 arg12 arg13 x0 x3 x4 x5 x6 x7 x8) := by sl_kernel_rfl

/-- The carried state as chunk `n` reads it. -/
def HC : Fin 10 → List (View.Piece (Elt F) S10x16x128 .f32) :=
  ![kernelRun0_A.sl.HS5_1, kernelRun0_A.sl.HS5_2 c arg1 harg1 arg4 harg4 arg5 harg5 arg6 harg6 arg7 harg7 arg8 harg8 arg9 harg9 arg12 arg13 arg14 arg15 arg17 x0 x3 x4 x5 x6 x7 x8, kernelRun0_A.sl.HS5_3 c arg1 harg1 arg4 harg4 arg5 harg5 arg6 harg6 arg7 harg7 arg8 harg8 arg9 harg9 arg12 arg13 arg14 arg15 arg17 x0 x3 x4 x5 x6 x7 x8, kernelRun0_A.sl.HS5_4 c arg1 harg1 arg4 harg4 arg5 harg5 arg6 harg6 arg7 harg7 arg8 harg8 arg9 harg9 arg12 arg13 arg14 arg15 arg17 x0 x3 x4 x5 x6 x7 x8, kernelRun0_A.sl.HS5_5 c arg1 harg1 arg4 harg4 arg5 harg5 arg6 harg6 arg7 harg7 arg8 harg8 arg9 harg9 arg12 arg13 arg14 arg15 arg17 x0 x3 x4 x5 x6 x7 x8, kernelRun0_A.sl.HS5_6 c arg1 harg1 arg4 harg4 arg5 harg5 arg6 harg6 arg7 harg7 arg8 harg8 arg9 harg9 arg12 arg13 arg14 arg15 arg17 x0 x3 x4 x5 x6 x7 x8, kernelRun0_A.sl.HS5_7 c arg1 harg1 arg4 harg4 arg5 harg5 arg6 harg6 arg7 harg7 arg8 harg8 arg9 harg9 arg12 arg13 arg14 arg15 arg17 x0 x3 x4 x5 x6 x7 x8, kernelRun0_A.sl.HS5_8 c arg1 harg1 arg4 harg4 arg5 harg5 arg6 harg6 arg7 harg7 arg8 harg8 arg9 harg9 arg12 arg13 arg14 arg15 arg17 x0 x3 x4 x5 x6 x7 x8, kernelRun0_A.sl.HS5_9 c arg1 harg1 arg4 harg4 arg5 harg5 arg6 harg6 arg7 harg7 arg8 harg8 arg9 harg9 arg12 arg13 arg14 arg15 arg17 x0 x3 x4 x5 x6 x7 x8, kernelRun0_A.sl.HS5_10 c arg1 harg1 arg4 harg4 arg5 harg5 arg6 harg6 arg7 harg7 arg8 harg8 arg9 harg9 arg12 arg13 arg14 arg15 arg17 x0 x3 x4 x5 x6 x7 x8]

def h0Rd (n : Fin 10) : Vec F S1x16x128 .f32 :=
  arg17.view.readCov (HC c arg1 harg1 arg4 harg4 arg5 harg5 arg6 harg6 arg7 harg7 arg8 harg8 arg9 harg9 arg12 arg13 arg14 arg15 arg17 x0 x3 x4 x5 x6 x7 x8 n) (hRect n).toLoadRect

def rec : Rec F :=
  recOf arg14 arg15 (h0Rd c arg1 harg1 arg4 harg4 arg5 harg5 arg6 harg6 arg7 harg7 arg8 harg8 arg9 harg9 arg12 arg13 arg14 arg15 arg17 x0 x3 x4 x5 x6 x7 x8) (kernelRun0_A.sl.HS2_10 c arg1 harg1 arg4 harg4 arg5 harg5 arg6 harg6 arg7 harg7 arg9 harg9 arg12 arg13 x0 x3 x4 x5 x6 x8)
    (kernelRun0_A.sl.HS3_10 c arg1 harg1 arg4 harg4 arg5 harg5 arg6 harg6 arg7 harg7 arg8 harg8 arg9 harg9 arg12 arg13 x0 x3 x4 x5 x6 x7 x8)

theorem h_eq : kernelRun0_A.sl.HS4_320 c arg1 harg1 arg4 harg4 arg5 harg5 arg6 harg6 arg7 harg7 arg8 harg8 arg9 harg9 arg12 arg13 arg14 arg15 arg17 x0 x3 x4 x5 x6 x7 x8
    = hList (rec c arg1 harg1 arg4 harg4 arg5 harg5 arg6 harg6 arg7 harg7 arg8 harg8 arg9 harg9 arg12 arg13 arg14 arg15 arg17 x0 x3 x4 x5 x6 x7 x8) := by sl_kernel_rfl

/-- The states of a batch row as read back. -/
def hRd (n : Fin 10) (bi : Fin 16) : Vec F S1x32x128 .f32 :=
  arg16.view.readCov (kernelRun0_A.sl.HS4_320 c arg1 harg1 arg4 harg4 arg5 harg5 arg6 harg6 arg7 harg7 arg8 harg8 arg9 harg9 arg12 arg13 arg14 arg15 arg17 x0 x3 x4 x5 x6 x7 x8) (tRect n bi).toLoadRect

theorem g_eq : kernelRun0_A.sl.HS6_10 c arg1 harg1 arg2 harg2 arg4 harg4 arg5 harg5 arg6 harg6 arg7 harg7 arg8 harg8 arg9 harg9 arg12 arg13 arg14 arg15 arg16 arg17 x0 x1 x3 x4 x5 x6 x7 x8
    = gList (gRd arg2 harg2 x1) (hRd c arg1 harg1 arg4 harg4 arg5 harg5 arg6 harg6 arg7 harg7 arg8 harg8 arg9 harg9 arg12 arg13 arg14 arg15 arg16 arg17 x0 x3 x4 x5 x6 x7 x8) := by sl_kernel_rfl

theorem out_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1
    = [⟨Rect.unit ![0, 0, 0] S16x32x1024.size inb_S16x32x1024_S16x32x1024_0_0_0,
        outOf arg3 harg3 arg10 harg10 x2 x9 (arg18.view.readCov (kernelRun0_A.sl.HS6_10 c arg1 harg1 arg2 harg2 arg4 harg4 arg5 harg5 arg6 harg6 arg7 harg7 arg8 harg8 arg9 harg9 arg12 arg13 arg14 arg15 arg16 arg17 x0 x1 x3 x4 x5 x6 x7 x8) (Rect.unit ![0, 0] S512x1280.size inb_S512x1280_S512x1280_0_0).toLoadRect)⟩] := by
  dsimp only [kernelRun0_A]; sl_kernel_rfl

theorem p_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1
    = pList (ins c arg1 harg1 arg4 harg4 arg5 harg5 arg6 harg6 arg7 harg7 arg8 harg8 arg9 harg9 arg12 arg13 x0 x3 x4 x5 x6 x7 x8) ++ [⟨Rect.unit ![0, 0, 0] S10x48x128.size inb_S10x48x128_S10x48x128_0_0_0, k0_pay2⟩] := by
  dsimp only [kernelRun0_A]; sl_kernel_rfl

theorem c_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1
    = cList (rec c arg1 harg1 arg4 harg4 arg5 harg5 arg6 harg6 arg7 harg7 arg8 harg8 arg9 harg9 arg12 arg13 arg14 arg15 arg17 x0 x3 x4 x5 x6 x7 x8) ++ [⟨Rect.unit ![0, 0, 0] S10x16x128.size inb_S10x16x128_S10x16x128_0_0_0, k0_pay3⟩] := by
  dsimp only [kernelRun0_A]; sl_kernel_rfl

end Branch.A

end
-- ==== Proof.Spec.lean ====
/-
  The RG-LRU branch as plain arithmetic over the extended reals, time step by time step.
-/
module

public import Idealize.ShloMosaic.PureOps.Ideal

@[expose] public section

noncomputable section

namespace Branch

open Idealize.ShloMosaic

/-- Channel `l` of chunk `n`. -/
def chn (n : Fin 10) (l : Fin 128) : Fin 1280 := ⟨n.val * 128 + l.val, by omega⟩

/-- What the branch's recurrence is computed from. `xp` is the input with three zero steps before the first. -/
structure Data where
  xp : Fin 16 → Nat → Fin 1280 → Ideal .f32
  w : Fin 4 → Fin 1280 → Ideal .f32
  cb : Fin 1280 → Ideal .f32
  ba : Fin 1280 → Ideal .f32
  bx : Fin 1280 → Ideal .f32
  lam : Fin 1280 → Ideal .f32
  wa : Fin 10 → Fin 128 → Fin 128 → Ideal .f32
  wx : Fin 10 → Fin 128 → Fin 128 → Ideal .f32

/-- One half, as the kernel writes it. -/
def half : Ideal .f32 := Ideal.ofBits .f32 0x3F000000#32
/-- Eight, as the kernel writes it. -/
def eight : Ideal .f32 := Ideal.ofBits .f32 0x41000000#32

/-- The logistic function by way of the hyperbolic tangent. -/
def sgm (z : Ideal .f32) : Ideal .f32 := half * Ideal.tanh (half * z) + half

/-- Eight times the softplus of `-z`. -/
def spl (z : Ideal .f32) : Ideal .f32 :=
  eight * (max (0 - z) 0 + Ideal.log (1 + Ideal.exp (0 - FloatOps.absf (0 - z))))

/-- The square root, zero where the argument is not positive. -/
def root (o : Ideal .f32) : Ideal .f32 := Scalar.select (FloatOps.cmpf CmpFPredicate.ogt o 0) (o * Ideal.rsqrt o) 0

variable (D : Data)

/-- The convolution over the four last steps. -/
def Data.cv (b : Fin 16) (s : Nat) (ch : Fin 1280) : Ideal .f32 :=
  D.cb ch + D.w 0 ch * D.xp b s ch + D.w 1 ch * D.xp b (s + 1) ch + D.w 2 ch * D.xp b (s + 2) ch + D.w 3 ch * D.xp b (s + 3) ch

/-- A gate. -/
def Data.gate (W : Fin 10 → Fin 128 → Fin 128 → Ideal .f32) (bias : Fin 1280 → Ideal .f32) (b : Fin 16) (s : Nat) (n : Fin 10) (l : Fin 128) :
    Ideal .f32 :=
  sgm (∑ k : Fin 128, D.cv b s (chn n k) * W n k l + bias (chn n l))

/-- The recurrence's factor. -/
def Data.A (b : Fin 16) (s : Nat) (n : Fin 10) (l : Fin 128) : Ideal .f32 :=
  Ideal.exp (0 - D.gate D.wa D.ba b s n l * spl (D.lam (chn n l)))

/-- The recurrence's summand. -/
def Data.B (b : Fin 16) (s : Nat) (n : Fin 10) (l : Fin 128) : Ideal .f32 :=
  root (1 - D.A b s n l * D.A b s n l) * (D.gate D.wx D.bx b s n l * D.cv b s (chn n l))

/-- The state after `s` steps. -/
def Data.H (b : Fin 16) (n : Fin 10) (l : Fin 128) (s : Nat) : Ideal .f32 :=
  Nat.rec 0 (fun s h => D.A b s n l * h + D.B b s n l) s

theorem Data.H_succ (b : Fin 16) (n : Fin 10) (l : Fin 128) (s : Nat) :
    D.H b n l (s + 1) = D.A b s n l * D.H b n l s + D.B b s n l := rfl

/-- The chunk of a channel. -/
def chk (ch : Fin 1280) : Fin 10 := ⟨ch.val / 128, by omega⟩
/-- The lane of a channel. -/
def lane (ch : Fin 1280) : Fin 128 := ⟨ch.val % 128, Nat.mod_lt _ (by decide)⟩

theorem chn_chk_lane (ch : Fin 1280) : chn (chk ch) (lane ch) = ch := by
  apply Fin.ext; show ch.val / 128 * 128 + ch.val % 128 = ch.val; omega

theorem chk_chn (n : Fin 10) (l : Fin 128) : chk (chn n l) = n := by
  apply Fin.ext; show (n.val * 128 + l.val) / 128 = n.val; omega

theorem lane_chn (n : Fin 10) (l : Fin 128) : lane (chn n l) = l := by
  apply Fin.ext; show (n.val * 128 + l.val) % 128 = l.val; omega

/-- One element of the branch: the gated states projected, gated once more. -/
def Data.out (rg : Fin 16 → Nat → Fin 1280 → Ideal .f32) (ga : Fin 16 → Nat → Fin 1024 → Ideal .f32) (W : Fin 1280 → Fin 1024 → Ideal .f32)
    (b : Fin 16) (s : Nat) (j : Fin 1024) : Ideal .f32 :=
  ga b s j * ∑ ch : Fin 1280, rg b s ch * D.H b (chk ch) (lane ch) (s + 1) * W ch j

end Branch

end
-- ==== Proof.Reads.lean ====
/-
  The stages of a grid point, element by element, and what the staging buffers hold.
-/
module

public import proofs.«01_k».proof.Proof.Body
public import proofs.«01_k».proof.Proof.Spec
public import Idealize.ShloMosaic.Lib.Pointwise.Tactic
public import Idealize.ShloMosaic.Lib.Pointwise.Contract
public import Idealize.ShloMosaic.Lib.Pipeline.Value
public import Idealize.ShloMosaic.Lib.Pipeline.CanonAppend
public import Idealize.ShloMosaic.Lib.WholeRead

@[expose] public section

set_option maxRecDepth 16384

noncomputable section

namespace Branch

open Cert.KernelIdeal Cert.KernelIdeal.Gen
open Idealize.ShloMosaic Idealize.ShloMosaic.TcCoe Idealize.SL

/-- A grid point's inputs are the data's, its first step being `s0`. -/
structure Fits (I : Ins Ideal) (D : Data) (s0 : Nat) : Prop where
  slab : ∀ n τ bi l, I.slab n τ (ix2 bi l) = D.xp bi (s0 + τ.val) (chn n l)
  tap : ∀ n k l, I.tap n k (ix2 0 l) = D.w k (chn n l)
  cb : ∀ n l, I.cb n (ix2 0 l) = D.cb (chn n l)
  ba : ∀ n l, I.ba n (ix2 0 l) = D.ba (chn n l)
  bx : ∀ n l, I.bx n (ix2 0 l) = D.bx (chn n l)
  lam : ∀ ch, I.lam (ix2 0 ch) = D.lam ch
  wa : ∀ n (k l : Fin 128), I.wg n (ix3 0 k ⟨l.val, by omega⟩) = D.wa n k l
  wx : ∀ n (k l : Fin 128), I.wg n (ix3 0 k ⟨128 + l.val, by omega⟩) = D.wx n k l

/-- A leading unit axis dropped. -/
theorem cast3 {p q : Nat} {α : Type} (x : (⟨3, ![1, p, q]⟩ : Shape).Idx → α) (h : (⟨3, ![1, p, q]⟩ : Shape).ShapeCasts ⟨2, ![p, q]⟩)
    (i : Fin p) (j : Fin q) : shapeCast ⟨2, ![p, q]⟩ x h (ix2 i j) = x (ix3 0 i j) := by
  refine shapeCast_apply x h _ _ ?_
  rw [Shape.rowMajor_val_three, Shape.rowMajor_val_two]
  show (0 * p + i.val) * q + j.val = i.val * q + j.val
  rw [Nat.zero_mul, Nat.zero_add]

/-- A leading unit axis put in front. -/
theorem cast2 {p q : Nat} {α : Type} (x : (⟨2, ![p, q]⟩ : Shape).Idx → α) (h : (⟨2, ![p, q]⟩ : Shape).ShapeCasts ⟨3, ![1, p, q]⟩)
    (i : Fin p) (j : Fin q) : shapeCast ⟨3, ![1, p, q]⟩ x h (ix3 0 i j) = x (ix2 i j) := by
  refine shapeCast_apply x h _ _ ?_
  rw [Shape.rowMajor_val_three, Shape.rowMajor_val_two]
  show i.val * q + j.val = (0 * p + i.val) * q + j.val
  rw [Nat.zero_mul, Nat.zero_add]

/-- An index of a shape with a leading unit axis. -/
theorem ix3_unit {p q : Nat} (x : (⟨3, ![1, p, q]⟩ : Shape).Idx) : x = ix3 (0 : Fin 1) (x 1) (x 2) := by
  funext a
  match a with
  | ⟨0, _⟩ => exact Subsingleton.elim (α := Fin 1) _ _
  | ⟨1, _⟩ => rfl
  | ⟨2, _⟩ => rfl

theorem row_apply (v : FVec Ideal S1x128 .f32) (l : Fin 128) : shapeCast S1x128 v shapeCasts_S1x128_S1x128 (ix2 0 l) = v (ix2 0 l) := by
  rw [shapeCast_self]

section Stages
variable {I : Ins Ideal} {D : Data} {s0 : Nat} (h : Fits I D s0)
include h

theorem conv_apply (n : Fin 10) (t : Fin 32) (bi : Fin 16) (l : Fin 128) :
    conv I n t (ix2 bi l) = D.cv bi (s0 + t.val) (chn n l) := by
  unfold conv rep
  simp only [shapeCast_self]
  pointwise
  simp only [h.slab, h.tap, h.cb, Data.cv, Nat.add_assoc]

/-- The batch row of a staged row. -/
def rb (r : Fin 512) : Fin 16 := ⟨r.val % 16, Nat.mod_lt _ (by decide)⟩

theorem xb_apply (n : Fin 10) (r : Fin 512) (l : Fin 128) :
    xb I n (ix2 r l) = D.cv (rb r) (s0 + r.val / 16) (chn n l) := by
  unfold xb
  rw [concatenate_ofFn_apply (t := S512x128) (s₁ := S16x128) 0 _ _ rfl 16 rfl _ ⟨r.val / 16, by omega⟩ rfl (ix2 (rb r) l) rfl ?_]
  · exact conv_apply h n _ _ l
  · intro b hb
    match b with
    | ⟨0, _⟩ => exact absurd rfl hb
    | ⟨1, _⟩ => rfl

theorem pre_apply (n : Fin 10) (r : Fin 512) (j : Fin 256) :
    pre I n (ix2 r j) = ∑ k : Fin 128, D.cv (rb r) (s0 + r.val / 16) (chn n k) * I.wg n (ix3 0 k j) := by
  unfold pre
  pointwise
  refine Finset.sum_congr rfl fun k _ => ?_
  rw [xb_apply h, cast3]

theorem gr_apply (n : Fin 10) (r : Fin 512) (l : Fin 128) :
    gr I n (ix2 r l) = D.gate D.wa D.ba (rb r) (s0 + r.val / 16) n l := by
  unfold gr sg
  simp only [shapeCast_self]
  pointwise
  rw [pre_apply h]
  simp only [h.wa, h.ba]
  rfl

theorem gi_apply (n : Fin 10) (r : Fin 512) (l : Fin 128) :
    gi I n (ix2 r l) = D.gate D.wx D.bx (rb r) (s0 + r.val / 16) n l := by
  unfold gi sg
  simp only [shapeCast_self]
  pointwise
  rw [pre_apply h]
  simp only [h.wx, h.bx]
  rfl

theorem decay_apply (ch : Fin 1280) : decay I.lam (ix2 0 ch) = spl (D.lam ch) := by
  unfold decay k0_pay4
  simp only [shapeCast_self]
  pointwise
  rw [h.lam]
  rfl

theorem av_apply (n : Fin 10) (r : Fin 512) (l : Fin 128) :
    av I n (ix2 r l) = D.A (rb r) (s0 + r.val / 16) n l := by
  unfold av
  pointwise
  rw [gr_apply h, decay_apply h]
  rfl

theorem bv_apply (n : Fin 10) (r : Fin 512) (l : Fin 128) :
    bv I n (ix2 r l) = D.B (rb r) (s0 + r.val / 16) n l := by
  unfold bv om
  pointwise
  rw [av_apply h, gi_apply h, xb_apply h]
  rfl

end Stages

/-- The recurrence reads the data's coefficients and state. -/
structure RecFits (R : Rec Ideal) (D : Data) (s0 : Nat) : Prop where
  a : ∀ n t bi l, R.a n t (ix3 0 bi l) = D.A bi (s0 + t.val) n l
  b : ∀ n t bi l, R.b n t (ix3 0 bi l) = D.B bi (s0 + t.val) n l
  h0 : ∀ n bi l, R.h0 n (ix3 0 bi l) = D.H bi n l s0

theorem slab_apply (v : Vec Ideal S1x16x128 .f32) (bi : Fin 16) (l : Fin 128) :
    shapeCast S16x128 v shapeCasts_S1x16x128_S16x128 (ix2 bi l) = v (ix3 0 bi l) := by
  exact cast3 v _ bi l

theorem hs_apply {R : Rec Ideal} {D : Data} {s0 : Nat} (h : RecFits R D s0) (n : Fin 10) (bi : Fin 16) (l : Fin 128) :
    ∀ t, t ≤ 32 → hs R n t (ix2 bi l) = D.H bi n l (s0 + t)
  | 0, _ => by
    show shapeCast S16x128 (R.h0 n) shapeCasts_S1x16x128_S16x128 (ix2 bi l) = _
    rw [slab_apply, h.h0]; rfl
  | t + 1, ht => by
    have ih := hs_apply h n bi l t (by omega)
    show addf (mulf (shapeCast S16x128 (R.a n (Fin.ofNat 32 t)) shapeCasts_S1x16x128_S16x128) (hs R n t))
      (shapeCast S16x128 (R.b n (Fin.ofNat 32 t)) shapeCasts_S1x16x128_S16x128) (ix2 bi l) = _
    have e : (Fin.ofNat 32 t).val = t := Nat.mod_eq_of_lt ht
    pointwise
    rw [slab_apply, slab_apply, ih, h.a, h.b, e, ← Nat.add_assoc, D.H_succ]

/-! ### What the staging buffers hold -/

/-- A family of stores that all agree with one function of the buffer's index, read where one of them lies. -/
theorem canon_fam {S : Shape} {e : EltTy} {N : Nat} (R : Fin N → Rect S) (P : (k : Fin N) → (R k).shape.Idx → Elt Ideal e)
    (L' : List (View.Piece (Elt Ideal) S e)) (G : S.Idx → Elt Ideal e) (hp : ∀ k x, P k x = G ((R k).emb x)) (y : S.Idx)
    (hy : ∃ k, y ∈ (R k).set) :
    View.canon ((List.ofFn fun k => (⟨R k, P k⟩ : View.Piece (Elt Ideal) S e)) ++ L') y = G y := by
  refine View.canon_append_of_pieces G L' _ ?_ y ?_
  · intro p hm
    obtain ⟨k, rfl⟩ := List.mem_ofFn.mp hm
    exact hp k
  · obtain ⟨k, hk⟩ := hy
    exact ⟨_, List.mem_ofFn.mpr ⟨k, rfl⟩, hk⟩

/-- Where a rectangle of a buffer lies. -/
theorem mem_rect {S : Shape} {r : Rect S} {i : S.Idx} (h : ∀ a, ∃ j < r.size a, (i a : Nat) = r.off a + r.stride a * j) : i ∈ r.set :=
  r.mem_set.mpr h

variable (D : Data) (s0 : Nat)

/-- The staged input. -/
def Gx (i : S10x640x128.Idx) : Ideal .f32 :=
  D.xp ⟨(i 1).val / 40, Nat.div_lt_of_lt_mul (show (i 1).val < 40 * 16 from (i 1).isLt)⟩ (s0 + 3 + (i 1).val % 40) (chn (i 0) (i 2))

theorem Gx_at (i : S10x640x128.Idx) (n : Fin 10) (b : Fin 16) (t : Nat) (l : Fin 128) (ht : t < 40) (h0 : (i 0).val = n.val)
    (h1 : (i 1).val = b.val * 40 + t) (h2 : (i 2).val = l.val) : Gx D s0 i = D.xp b (s0 + 3 + t) (chn n l) := by
  have e0 : (i 0 : Fin 10) = n := Fin.ext h0
  have e2 : (i 2 : Fin 128) = l := Fin.ext h2
  have e1 : (⟨(i 1).val / 40, Nat.div_lt_of_lt_mul (show (i 1).val < 40 * 16 from (i 1).isLt)⟩ : Fin 16) = b := Fin.ext (by show (i 1).val / 40 = b.val; omega)
  unfold Gx
  rw [e0, e1, e2, show (i 1).val % 40 = t by omega]

/-- The staged states. -/
def Gh (i : S10x640x128.Idx) : Ideal .f32 :=
  D.H ⟨(i 1).val / 40, Nat.div_lt_of_lt_mul (show (i 1).val < 40 * 16 from (i 1).isLt)⟩ (i 0) (i 2) (s0 + ((i 1).val % 40 + 1))

theorem Gh_at (i : S10x640x128.Idx) (n : Fin 10) (b : Fin 16) (t : Nat) (l : Fin 128) (ht : t < 40) (h0 : (i 0).val = n.val)
    (h1 : (i 1).val = b.val * 40 + t) (h2 : (i 2).val = l.val) : Gh D s0 i = D.H b n l (s0 + (t + 1)) := by
  have e0 : (i 0 : Fin 10) = n := Fin.ext h0
  have e2 : (i 2 : Fin 128) = l := Fin.ext h2
  have e1 : (⟨(i 1).val / 40, Nat.div_lt_of_lt_mul (show (i 1).val < 40 * 16 from (i 1).isLt)⟩ : Fin 16) = b := Fin.ext (by show (i 1).val / 40 = b.val; omega)
  unfold Gh
  rw [e0, e1, e2, show (i 1).val % 40 = t by omega]

/-- A staged coefficient. -/
def Gc (A : Fin 16 → Nat → Fin 10 → Fin 128 → Ideal .f32) (i : S10x512x128.Idx) : Ideal .f32 :=
  A ⟨(i 1).val % 16, Nat.mod_lt _ (by decide)⟩ (s0 + (i 1).val / 16) (i 0) (i 2)

theorem Gc_at (A : Fin 16 → Nat → Fin 10 → Fin 128 → Ideal .f32) (i : S10x512x128.Idx) (n : Fin 10) (b : Fin 16) (t : Nat) (l : Fin 128)
    (h0 : (i 0).val = n.val) (h1 : (i 1).val = t * 16 + b.val) (h2 : (i 2).val = l.val) : Gc s0 A i = A b (s0 + t) n l := by
  have e0 : (i 0 : Fin 10) = n := Fin.ext h0
  have e2 : (i 2 : Fin 128) = l := Fin.ext h2
  have e1 : (⟨(i 1).val % 16, Nat.mod_lt _ (by decide)⟩ : Fin 16) = b := Fin.ext (by show (i 1).val % 16 = b.val; omega)
  unfold Gc
  rw [e0, e1, e2, show (i 1).val / 16 = t by omega]

/-- The carried slabs. -/
def Gp (i : S10x48x128.Idx) : Ideal .f32 :=
  D.xp ⟨(i 1).val % 16, Nat.mod_lt _ (by decide)⟩ (s0 + (i 1).val / 16) (chn (i 0) (i 2))

theorem Gp_at (i : S10x48x128.Idx) (n : Fin 10) (b : Fin 16) (t : Nat) (l : Fin 128)
    (h0 : (i 0).val = n.val) (h1 : (i 1).val = t * 16 + b.val) (h2 : (i 2).val = l.val) : Gp D s0 i = D.xp b (s0 + t) (chn n l) := by
  have e0 : (i 0 : Fin 10) = n := Fin.ext h0
  have e2 : (i 2 : Fin 128) = l := Fin.ext h2
  have e1 : (⟨(i 1).val % 16, Nat.mod_lt _ (by decide)⟩ : Fin 16) = b := Fin.ext (by show (i 1).val % 16 = b.val; omega)
  unfold Gp
  rw [e0, e1, e2, show (i 1).val / 16 = t by omega]

/-- The carried states. -/
def Gs (i : S10x16x128.Idx) : Ideal .f32 := D.H (i 1) (i 0) (i 2) s0

variable {D s0}

/-- The staged input tiles, read a time row at a time. -/
theorem xs_read {sig : RefSig} {κ : Kind} {sp : Space} (v : View sig κ sp S10x640x128 .f32) (x : Fin 10 → Fin 16 → Vec Ideal S1x32x128 .f32)
    (hx : ∀ n bi (t : Fin 32) l, x n bi (ix3 0 t l) = D.xp bi (s0 + 3 + t.val) (chn n l)) (n : Fin 10) (t : Fin 32) (bi : Fin 16) (l : Fin 128) :
    v.readCov (xsList x) (rowRect n t).toLoadRect (ix3 0 bi l) = D.xp bi (s0 + 3 + t.val) (chn n l) := by
  rw [View.readCov_eq_canon']
  show View.canon (xsList x) _ = _
  rw [← List.append_nil (xsList x)]
  unfold xsList
  refine (canon_fam _ _ [] (Gx D s0) ?_ _ ?_).trans ?_
  rotate_left 2
  · exact Gx_at D s0 _ n bi t.val l (by omega) (by show n.val + 1 * 0 = n.val; omega) (by show t.val + 40 * bi.val = _; omega)
      (by show 0 + 1 * l.val = _; omega)
  · intro k (y : S1x32x128.Idx)
    rw [ix3_unit y]
    refine (cast2 _ _ _ _).trans ((cast3 _ _ _ _).trans ?_)
    refine (hx _ _ _ _).trans (Gx_at D s0 _ _ _ _ _ ?_ ?_ ?_ ?_).symm
    · have := (y 1).isLt; exact Nat.lt_of_lt_of_le (y 1).isLt (by decide)
    · exact Nat.add_zero _
    · show _ + 1 * (y 1).val = _; rw [Nat.one_mul]; rfl
    · show 0 + 1 * (y 2).val = _; rw [Nat.one_mul, Nat.zero_add]
  · refine ⟨⟨159 - (n.val * 16 + bi.val), by omega⟩, Rect.mem_set_unit.mpr ?_⟩
    intro a
    match a with
    | ⟨0, _⟩ =>
      show (159 - (159 - (n.val * 16 + bi.val))) / 16 ≤ n.val + 1 * 0 ∧ n.val + 1 * 0 < (159 - (159 - (n.val * 16 + bi.val))) / 16 + 1
      omega
    | ⟨1, _⟩ =>
      show (159 - (159 - (n.val * 16 + bi.val))) % 16 * 40 ≤ t.val + 40 * bi.val ∧ t.val + 40 * bi.val < (159 - (159 - (n.val * 16 + bi.val))) % 16 * 40 + 32
      omega
    | ⟨2, _⟩ =>
      show 0 ≤ 0 + 1 * l.val ∧ 0 + 1 * l.val < 0 + 128
      omega

/-- A staged coefficient, read a step at a time. -/
theorem c_read {sig : RefSig} {κ : Kind} {sp : Space} (v : View sig κ sp S10x512x128 .f32) (x : Fin 10 → FVec Ideal S512x128 .f32)
    (A : Fin 16 → Nat → Fin 10 → Fin 128 → Ideal .f32)
    (hx : ∀ n r l, x n (ix2 r l) = A (rb r) (s0 + r.val / 16) n l) (n : Fin 10) (t : Fin 32) (bi : Fin 16) (l : Fin 128) :
    v.readCov (List.ofFn fun k : Fin 10 => (⟨cRect k.rev, shapeCast S1x512x128 (x k.rev) shapeCasts_S512x128_S1x512x128⟩ : View.Piece (Elt Ideal) S10x512x128 .f32))
      (cRow n t).toLoadRect (ix3 0 bi l) = A bi (s0 + t.val) n l := by
  rw [View.readCov_eq_canon']
  show View.canon (List.ofFn _) _ = _
  rw [← List.append_nil (List.ofFn _)]
  refine (canon_fam _ _ [] (Gc s0 A) ?_ _ ?_).trans ?_
  rotate_left 2
  · exact Gc_at s0 A _ n bi t.val l (by show n.val + 1 * 0 = n.val; omega) (by show t.val * 16 + 1 * bi.val = _; omega)
      (by show 0 + 1 * l.val = _; omega)
  · intro k (y : S1x512x128.Idx)
    rw [ix3_unit y]
    refine (cast2 _ _ _ _).trans ?_
    refine (hx _ _ _).trans (Gc_at s0 A _ _ _ _ _ ?_ ?_ ?_).symm
    · exact Nat.add_zero _
    · show 0 + 1 * (y 1).val = (y 1).val / 16 * 16 + (y 1).val % 16; omega
    · show 0 + 1 * (y 2).val = _; rw [Nat.one_mul, Nat.zero_add]
  · refine ⟨n.rev, ?_⟩
    rw [Fin.rev_rev]
    refine Rect.mem_set_unit.mpr ?_
    intro a
    match a with
    | ⟨0, _⟩ => show n.val ≤ n.val + 1 * 0 ∧ n.val + 1 * 0 < n.val + 1; omega
    | ⟨1, _⟩ => show 0 ≤ t.val * 16 + 1 * bi.val ∧ t.val * 16 + 1 * bi.val < 0 + 512; omega
    | ⟨2, _⟩ => show 0 ≤ 0 + 1 * l.val ∧ 0 + 1 * l.val < 0 + 128; omega

/-- The staged states, read a batch row at a time. -/
theorem h_read {sig : RefSig} {κ : Kind} {sp : Space} (v : View sig κ sp S10x640x128 .f32) (R : Rec Ideal) (hR : RecFits R D s0)
    (n : Fin 10) (bi : Fin 16) (t : Fin 32) (l : Fin 128) :
    v.readCov (hList R) (tRect n bi).toLoadRect (ix3 0 t l) = D.H bi n l (s0 + (t.val + 1)) := by
  rw [View.readCov_eq_canon']
  show View.canon (hList R) _ = _
  rw [← List.append_nil (hList R)]
  unfold hList
  refine (canon_fam _ _ [] (Gh D s0) ?_ _ ?_).trans ?_
  rotate_left 2
  · exact Gh_at D s0 _ n bi t.val l (by omega) (by show n.val + 1 * 0 = n.val; omega) (by show bi.val * 40 + 1 * t.val = _; omega)
      (by show 0 + 1 * l.val = _; omega)
  · intro k (y : S1x16x128.Idx)
    rw [ix3_unit y]
    refine (cast2 _ _ _ _).trans ?_
    refine (hs_apply hR _ _ _ _ (by omega)).trans (Gh_at D s0 _ _ _ _ _ ?_ ?_ ?_ ?_).symm
    · omega
    · exact Nat.add_zero _
    · show (319 - k.val) % 32 + 40 * (y 1).val = (y 1).val * 40 + (319 - k.val) % 32; omega
    · show 0 + 1 * (y 2).val = _; rw [Nat.one_mul, Nat.zero_add]
  · refine ⟨⟨319 - (n.val * 32 + t.val), by omega⟩, mem_rect ?_⟩
    intro a
    match a with
    | ⟨0, _⟩ =>
      refine ⟨0, Nat.one_pos, ?_⟩
      show n.val + 1 * 0 = (319 - (319 - (n.val * 32 + t.val))) / 32 + 1 * 0
      omega
    | ⟨1, _⟩ =>
      refine ⟨bi.val, bi.isLt, ?_⟩
      show bi.val * 40 + 1 * t.val = (319 - (319 - (n.val * 32 + t.val))) % 32 + 40 * bi.val
      omega
    | ⟨2, _⟩ =>
      refine ⟨l.val, l.isLt, ?_⟩
      show 0 + 1 * l.val = 0 + 1 * l.val
      rfl

/-- The carried slabs as the point leaves them. -/
theorem p_canon {I : Ins Ideal} (h : Fits I D s0) (L' : List (View.Piece (Elt Ideal) S10x48x128 .f32)) :
    View.canon (pList I ++ L') = Gp D (s0 + 32) := by
  funext y
  unfold pList
  refine canon_fam _ _ L' (Gp D (s0 + 32)) ?_ _ ?_
  · intro k (y : S1x48x128.Idx)
    rw [ix3_unit y]
    refine (cast2 _ _ _ _).trans ?_
    rw [concatenate_ofFn_apply (t := S48x128) (s₁ := S16x128) 0 _ _ rfl 16 rfl _ ⟨(y 1).val / 16, Nat.div_lt_of_lt_mul (show (y 1).val < 16 * 3 from (y 1).isLt)⟩ rfl
      (ix2 ⟨(y 1).val % 16, Nat.mod_lt _ (by decide)⟩ (y 2)) rfl ?_]
    · refine (h.slab _ _ _ _).trans (Eq.trans ?_ (Gp_at D (s0 + 32) _ k.rev ⟨(y 1).val % 16, Nat.mod_lt _ (by decide)⟩ ((y 1).val / 16) (y 2) ?_ ?_ ?_).symm)
      · show D.xp _ (s0 + ((y 1).val / 16 + 32)) _ = _
        rw [Nat.add_comm _ 32, Nat.add_assoc]
      · exact Nat.add_zero _
      · show 0 + 1 * (y 1).val = (y 1).val / 16 * 16 + (y 1).val % 16; omega
      · show 0 + 1 * (y 2).val = _; rw [Nat.one_mul, Nat.zero_add]
    · intro b hb
      match b with
      | ⟨0, _⟩ => exact absurd rfl hb
      | ⟨1, _⟩ => rfl
  · refine ⟨(y 0 : Fin 10).rev, ?_⟩
    show y ∈ (pRect (y 0 : Fin 10).rev.rev).set
    refine (congrArg (fun n => y ∈ (pRect n).set) (Fin.rev_rev (y 0 : Fin 10))).mpr ?_
    refine Rect.mem_set_unit.mpr ?_
    intro a
    match a with
    | ⟨0, _⟩ => exact ⟨Nat.le_refl _, Nat.lt_succ_self _⟩
    | ⟨1, _⟩ => exact ⟨Nat.zero_le _, (Nat.zero_add 48).symm ▸ (y 1).isLt⟩
    | ⟨2, _⟩ => exact ⟨Nat.zero_le _, (Nat.zero_add 128).symm ▸ (y 2).isLt⟩

/-- The carried states as the point leaves them. -/
theorem s_canon {R : Rec Ideal} (h : RecFits R D s0) (L' : List (View.Piece (Elt Ideal) S10x16x128 .f32)) :
    View.canon (cList R ++ L') = Gs D (s0 + 32) := by
  funext y
  unfold cList
  refine canon_fam _ _ L' (Gs D (s0 + 32)) ?_ _ ?_
  · intro k (y : S1x16x128.Idx)
    rw [ix3_unit y]
    refine (cast2 _ _ _ _).trans ?_
    refine (hs_apply h _ _ _ 32 (by omega)).trans ?_
    show _ = D.H _ _ _ _
    have e1 : (y 1 : Fin 16) = ((hRect k.rev).emb (ix3 0 (y 1) (y 2)) 1 : Fin 16) :=
      Fin.ext (show (y 1).val = 0 + 1 * (y 1).val by rw [Nat.one_mul, Nat.zero_add])
    have e0 : k.rev = ((hRect k.rev).emb (ix3 0 (y 1) (y 2)) 0 : Fin 10) := Fin.ext rfl
    have e2 : (y 2 : Fin 128) = ((hRect k.rev).emb (ix3 0 (y 1) (y 2)) 2 : Fin 128) :=
      Fin.ext (show (y 2).val = 0 + 1 * (y 2).val by rw [Nat.one_mul, Nat.zero_add])
    exact congrFun (congr (congr (congrArg D.H e1) e0) e2) (s0 + 32)
  · refine ⟨(y 0 : Fin 10).rev, ?_⟩
    show y ∈ (hRect (y 0 : Fin 10).rev.rev).set
    refine (congrArg (fun n => y ∈ (hRect n).set) (Fin.rev_rev (y 0 : Fin 10))).mpr ?_
    refine Rect.mem_set_unit.mpr ?_
    intro a
    match a with
    | ⟨0, _⟩ => exact ⟨Nat.le_refl _, Nat.lt_succ_self _⟩
    | ⟨1, _⟩ => exact ⟨Nat.zero_le _, (Nat.zero_add 16).symm ▸ (y 1).isLt⟩
    | ⟨2, _⟩ => exact ⟨Nat.zero_le _, (Nat.zero_add 128).symm ▸ (y 2).isLt⟩

/-! ### The output -/

/-- The row of a batch row and a step in the output's order. -/
def orow (b : Fin 16) (t : Fin 32) : Fin 512 := ⟨b.val * 32 + t.val, by omega⟩

theorem gated_apply (g : Fin 10 → Vec Ideal S16x32x128 .bf16) (h : Fin 10 → Fin 16 → Vec Ideal S1x32x128 .f32) (n : Fin 10) (r : Fin 512)
    (l : Fin 128) : gated g h n (ix2 r l) =
      g n (ix3 ⟨r.val / 32, by omega⟩ ⟨r.val % 32, Nat.mod_lt _ (by decide)⟩ l) *
        h n ⟨r.val / 32, by omega⟩ (ix3 0 ⟨r.val % 32, Nat.mod_lt _ (by decide)⟩ l) := by
  unfold gated
  rw [shapeCast_self]
  show shapeCast S512x128 (g n) shapeCasts_S16x32x128_S512x128 (ix2 r l) * _ = _
  congr 1
  · refine shapeCast_apply (g n) _ _ _ ?_
    rw [Shape.rowMajor_val_three, Shape.rowMajor_val_two]
    show (r.val / 32 * 32 + r.val % 32) * 128 + l.val = r.val * 128 + l.val
    rw [Nat.div_add_mod']
  · rw [concatenate_ofFn_apply (t := S512x128) (s₁ := S32x128) 0 _ _ rfl 32 rfl _ ⟨r.val / 32, by omega⟩ rfl
      (ix2 ⟨r.val % 32, Nat.mod_lt _ (by decide)⟩ l) rfl ?_]
    · exact cast3 _ _ _ _
    · intro b hb
      match b with
      | ⟨0, _⟩ => exact absurd rfl hb
      | ⟨1, _⟩ => rfl

variable (D s0) in
/-- The gated rows. -/
def Gg (rg : Fin 16 → Nat → Fin 1280 → Ideal .f32) (i : S512x1280.Idx) : Ideal .f32 :=
  rg ⟨(i 0).val / 32, Nat.div_lt_of_lt_mul (show (i 0).val < 32 * 16 from (i 0).isLt)⟩ (s0 + (i 0).val % 32) (i 1) *
    D.H ⟨(i 0).val / 32, Nat.div_lt_of_lt_mul (show (i 0).val < 32 * 16 from (i 0).isLt)⟩ (chk (i 1)) (lane (i 1)) (s0 + ((i 0).val % 32 + 1))

theorem Gg_at (rg : Fin 16 → Nat → Fin 1280 → Ideal .f32) (i : S512x1280.Idx) (b : Fin 16) (t : Fin 32) (ch : Fin 1280)
    (h0 : (i 0).val = b.val * 32 + t.val) (h1 : (i 1).val = ch.val) :
    Gg D s0 rg i = rg b (s0 + t.val) ch * D.H b (chk ch) (lane ch) (s0 + (t.val + 1)) := by
  have e1 : (i 1 : Fin 1280) = ch := Fin.ext h1
  have e0 : (⟨(i 0).val / 32, Nat.div_lt_of_lt_mul (show (i 0).val < 32 * 16 from (i 0).isLt)⟩ : Fin 16) = b :=
    Fin.ext (by show (i 0).val / 32 = b.val; omega)
  unfold Gg
  rw [e0, e1, show (i 0).val % 32 = t.val by omega]

theorem g_read {sig : RefSig} {κ : Kind} {sp : Space} (v : View sig κ sp S512x1280 .bf16) (g : Fin 10 → Vec Ideal S16x32x128 .bf16)
    (h : Fin 10 → Fin 16 → Vec Ideal S1x32x128 .f32) (rg : Fin 16 → Nat → Fin 1280 → Ideal .f32)
    (hg : ∀ n b (t : Fin 32) l, g n (ix3 b t l) = rg b (s0 + t.val) (chn n l))
    (hh : ∀ n b (t : Fin 32) l, h n b (ix3 0 t l) = D.H b n l (s0 + (t.val + 1))) (B : LoadRect S512x1280) (x : B.shape.Idx) :
    v.readCov (gList g h) B x = Gg D s0 rg (B.idx x) := by
  rw [View.readCov_eq_canon']
  show View.canon (gList g h) _ = _
  rw [← List.append_nil (gList g h)]
  unfold gList
  refine canon_fam (S := S512x1280) (e := .bf16) _ _ [] (Gg D s0 rg) ?_ _ ?_
  · intro k (y : S512x128.Idx)
    obtain ⟨r, l, rfl⟩ : ∃ (r : Fin 512) (l : Fin 128), y = ix2 r l := ⟨y 0, y 1, eq_ix2 y⟩
    refine (gated_apply _ _ _ _ _).trans ?_
    rw [hg, hh]
    refine Eq.trans ?_ (Gg_at (D := D) (s0 := s0) rg _ ⟨r.val / 32, by omega⟩
      ⟨r.val % 32, Nat.mod_lt _ (by decide)⟩ (chn k.rev l) ?_ ?_).symm
    · rw [chk_chn, lane_chn]
    · show 0 + 1 * r.val = r.val / 32 * 32 + r.val % 32; omega
    · show k.rev.val * 128 + 1 * l.val = k.rev.val * 128 + l.val; rw [Nat.one_mul]
  · refine ⟨(chk (B.idx x 1)).rev, ?_⟩
    refine (congrArg (fun n => B.idx x ∈ (oRect n).set) (Fin.rev_rev _)).mpr ?_
    refine Rect.mem_set_unit.mpr ?_
    intro a
    match a with
    | ⟨0, _⟩ => exact ⟨Nat.zero_le _, (Nat.zero_add 512).symm ▸ (B.idx x 0).isLt⟩
    | ⟨1, _⟩ =>
      show (B.idx x 1).val / 128 * 128 ≤ (B.idx x 1).val ∧ (B.idx x 1).val < (B.idx x 1).val / 128 * 128 + 128
      omega

theorem out_apply (arg3 : Memref sig .tc .vmem S16x32x1024 .bf16) (harg3 : arg3.IsWhole) (arg10 : Memref sig .tc .vmem S1280x1024 .bf16)
    (harg10 : arg10.IsWhole) (x2 : Vec Ideal S16x32x1024 .bf16) (x9 : Vec Ideal S1280x1024 .bf16) (g : Vec Ideal S512x1280 .bf16)
    (b : Fin 16) (t : Fin 32) (j : Fin 1024) :
    outOf arg3 harg3 arg10 harg10 x2 x9 g (ix3 b t j) =
      x2 (ix3 b t j) * ∑ ch : Fin 1280, g (ix2 (orow b t) ch) * x9 (ix2 ch j) := by
  unfold outOf k0_pay1 k0_pay1817
  simp only [shapeCast_self]
  rw [show ∀ (v : FVec Ideal S16x32x1024 .f32) i, truncf .bf16 v bitsLt_bf16_f32 i = v i from fun _ _ => rfl]
  refine (shapeCast_apply _ _ _ (ix2 (orow b t) j) ?_).trans ?_
  · rw [Shape.rowMajor_val_three, Shape.rowMajor_val_two]
    show (b.val * 32 + t.val) * 1024 + j.val = (b.val * 32 + t.val) * 1024 + j.val
    rfl
  · pointwise
    congr 1
    · refine (shapeCast_apply _ _ _ (ix3 b t j) ?_).trans ?_
      · rw [Shape.rowMajor_val_three, Shape.rowMajor_val_two]
        rfl
      · refine (harg3.readAt_unread _ _ _).trans (congrArg x2 ?_)
        funext a
        match a with
        | ⟨0, _⟩ => exact Fin.ext (show 0 + 1 * b.val = b.val by omega)
        | ⟨1, _⟩ => exact Fin.ext (show 0 + 1 * t.val = t.val by omega)
        | ⟨2, _⟩ => exact Fin.ext (show 0 + 1 * j.val = j.val by omega)
    · refine Finset.sum_congr rfl fun ch _ => congrArg (g (ix2 (orow b t) ch) * ·) ?_
      refine (harg10.readAt_unread _ _ _).trans (congrArg x9 ?_)
      funext a
      match a with
      | ⟨0, _⟩ => exact Fin.ext (show 0 + 1 * ch.val = ch.val by omega)
      | ⟨1, _⟩ => exact Fin.ext (show 0 + 1 * j.val = j.val by omega)

end Branch
end
-- ==== Proof.Point.lean ====
/-
  One grid point: what it writes out and what it carries over, from the blocks that it reads.
-/
module

public import proofs.«01_k».proof.Proof.Reads

@[expose] public section

set_option maxRecDepth 16384

noncomputable section

namespace Branch

open Cert.KernelIdeal Cert.KernelIdeal.Gen
open Idealize.ShloMosaic Idealize.ShloMosaic.TcCoe Idealize.SL

/-- What the branch is computed from: the recurrence's data, the two gating branches and the output weights. -/
structure Full where
  D : Data
  rg : Fin 16 → Nat → Fin 1280 → Ideal .f32
  ga : Fin 16 → Nat → Fin 1024 → Ideal .f32
  W : Fin 1280 → Fin 1024 → Ideal .f32

/-- One element of the result. -/
def Full.out (E : Full) (b : Fin 16) (s : Nat) (j : Fin 1024) : Ideal .f32 := E.D.out E.rg E.ga E.W b s j

/-- The blocks of a grid point whose first step is `s0`. -/
structure Blocks (E : Full) (s0 : Nat) (x0 : Vec Ideal S16x32x1280 .f32) (x1 : Vec Ideal S16x32x1280 .bf16) (x2 : Vec Ideal S16x32x1024 .bf16)
    (x3 : Vec Ideal S4x1280 .f32) (x4 : Vec Ideal S1x1280 .f32) (x5 : Vec Ideal S10x128x256 .bf16) (x6 : Vec Ideal S1x1280 .f32)
    (x7 : Vec Ideal S1x1280 .f32) (x8 : Vec Ideal S1x1280 .f32) (x9 : Vec Ideal S1280x1024 .bf16) : Prop where
  x0 : ∀ b (t : Fin 32) ch, x0 (ix3 b t ch) = E.D.xp b (s0 + 3 + t.val) ch
  x1 : ∀ b (t : Fin 32) ch, x1 (ix3 b t ch) = E.rg b (s0 + t.val) ch
  x2 : ∀ b (t : Fin 32) j, x2 (ix3 b t j) = E.ga b (s0 + t.val) j
  x3 : ∀ k ch, x3 (ix2 k ch) = E.D.w k ch
  x4 : ∀ ch, x4 (ix2 0 ch) = E.D.cb ch
  x5a : ∀ n (k l : Fin 128), x5 (ix3 n k ⟨l.val, by omega⟩) = E.D.wa n k l
  x5x : ∀ n (k l : Fin 128), x5 (ix3 n k ⟨128 + l.val, by omega⟩) = E.D.wx n k l
  x6 : ∀ ch, x6 (ix2 0 ch) = E.D.ba ch
  x7 : ∀ ch, x7 (ix2 0 ch) = E.D.bx ch
  x8 : ∀ ch, x8 (ix2 0 ch) = E.D.lam ch
  x9 : ∀ ch j, x9 (ix2 ch j) = E.W ch j

/-- 128 columns of a whole row, loaded. -/
theorem row_read {sp : Space} (m : Memref sig .tc sp S1x1280 .f32) (hm : m.IsWhole) (X : Vec Ideal S1x1280 .f32) (n : Fin 10) (l : Fin 128) :
    m.view.readAt (Elt Ideal) (wRect n).toLoadRect (hm.unread X) (ix2 0 l) = X (ix2 0 (chn n l)) := by
  refine (hm.readAt_unread _ _ _).trans (congrArg X ?_)
  funext a
  match a with
  | ⟨0, _⟩ => rfl
  | ⟨1, _⟩ => exact Fin.ext (show n.val * 128 + 1 * l.val = n.val * 128 + l.val by omega)

section
variable (arg1 : Memref sig .tc .vmem S16x32x1280 .f32) (harg1 : arg1.IsWhole) (arg2 : Memref sig .tc .vmem S16x32x1280 .bf16) (harg2 : arg2.IsWhole)
  (arg4 : Memref sig .tc .vmem S4x1280 .f32) (harg4 : arg4.IsWhole) (arg5 : Memref sig .tc .vmem S1x1280 .f32) (harg5 : arg5.IsWhole)
  (arg6 : Memref sig .tc .vmem S10x128x256 .bf16) (harg6 : arg6.IsWhole) (arg7 : Memref sig .tc .vmem S1x1280 .f32) (harg7 : arg7.IsWhole)
  (arg8 : Memref sig .tc .vmem S1x1280 .f32) (harg8 : arg8.IsWhole) (arg9 : Memref sig .tc .vmem S1x1280 .f32) (harg9 : arg9.IsWhole)
  (arg12 : Memref sig .tc .vmem S10x640x128 .f32) (arg14 : Memref sig .tc .vmem S10x512x128 .f32) (arg15 : Memref sig .tc .vmem S10x512x128 .f32)
  (arg16 : Memref sig .tc .vmem S10x640x128 .f32)
  (arg3 : Memref sig .tc .vmem S16x32x1024 .bf16) (harg3 : arg3.IsWhole) (arg10 : Memref sig .tc .vmem S1280x1024 .bf16) (harg10 : arg10.IsWhole)
  (arg18 : Memref sig .tc .vmem S512x1280 .bf16)
variable {x0 : Vec Ideal S16x32x1280 .f32} {x1 : Vec Ideal S16x32x1280 .bf16} {x2 : Vec Ideal S16x32x1024 .bf16}
    {x3 : Vec Ideal S4x1280 .f32} {x4 : Vec Ideal S1x1280 .f32} {x5 : Vec Ideal S10x128x256 .bf16} {x6 : Vec Ideal S1x1280 .f32}
    {x7 : Vec Ideal S1x1280 .f32} {x8 : Vec Ideal S1x1280 .f32} {x9 : Vec Ideal S1280x1024 .bf16} {E : Full} {s0 : Nat}

theorem ins_fits (h : Blocks E s0 x0 x1 x2 x3 x4 x5 x6 x7 x8 x9) (pr : Fin 10 → Fin 3 → Vec Ideal S1x16x128 .f32)
    (hpr : ∀ n k bi l, pr n k (ix3 0 bi l) = E.D.xp bi (s0 + k.val) (chn n l)) (L0 : List (View.Piece (Elt Ideal) S10x640x128 .f32))
    (h0 : L0 = xsList (xRd arg1 harg1 x0)) :
    Fits (insOf arg4 harg4 arg5 harg5 arg6 harg6 arg7 harg7 arg8 harg8 arg9 harg9 arg12 x3 x4 x5 x6 x7 x8 pr L0) E.D s0 where
  slab n τ bi l := by
    show slabOf (F := Ideal) pr (fun n t => arg12.view.readCov L0 (rowRect n t).toLoadRect) n τ (ix2 bi l) = _
    unfold slabOf
    rw [slab_apply]
    by_cases hτ : τ.val < 3
    · exact (congrArg (fun v : Vec Ideal S1x16x128 .f32 => v (ix3 0 bi l)) (dif_pos hτ)).trans (hpr n ⟨τ.val, hτ⟩ bi l)
    · refine (congrArg (fun v : Vec Ideal S1x16x128 .f32 => v (ix3 0 bi l)) (dif_neg hτ)).trans ?_
      subst h0
      refine (xs_read (D := E.D) (s0 := s0) _ _ ?_ _ _ _ _).trans ?_
      · intro n bi t l
        refine (harg1.readAt_unread _ _ _).trans (Eq.trans (congrArg x0 ?_) (h.x0 bi t (chn n l)))
        funext a
        match a with
        | ⟨0, _⟩ => exact Fin.ext (show bi.val + 1 * 0 = bi.val by omega)
        | ⟨1, _⟩ => exact Fin.ext (show 0 + 1 * t.val = t.val by omega)
        | ⟨2, _⟩ => exact Fin.ext (show n.val * 128 + 1 * l.val = n.val * 128 + l.val by omega)
      · show E.D.xp bi (s0 + 3 + (τ.val - 3)) (chn n l) = _
        rw [show s0 + 3 + (τ.val - 3) = s0 + τ.val by omega]
  tap n k l := by
    refine (harg4.readAt_unread _ _ _).trans (Eq.trans (congrArg x3 ?_) (h.x3 k (chn n l)))
    funext a
    match a with
    | ⟨0, _⟩ => exact Fin.ext (show k.val + 1 * 0 = k.val by omega)
    | ⟨1, _⟩ => exact Fin.ext (show n.val * 128 + 1 * l.val = n.val * 128 + l.val by omega)
  cb n l := (row_read _ _ _ _ _).trans (h.x4 _)
  ba n l := (row_read _ _ _ _ _).trans (h.x6 _)
  bx n l := (row_read _ _ _ _ _).trans (h.x7 _)
  lam ch := by
    refine (harg9.readAt_unread _ _ _).trans (Eq.trans (congrArg x8 ?_) (h.x8 ch))
    funext a
    match a with
    | ⟨0, _⟩ => rfl
    | ⟨1, _⟩ => exact Fin.ext (show 0 + 1 * ch.val = ch.val by omega)
  wa n k l := by
    refine (harg6.readAt_unread _ _ _).trans (Eq.trans (congrArg x5 ?_) (h.x5a n k l))
    funext a
    match a with
    | ⟨0, _⟩ => exact Fin.ext (show n.val + 1 * 0 = n.val by omega)
    | ⟨1, _⟩ => exact Fin.ext (show 0 + 1 * k.val = k.val by omega)
    | ⟨2, _⟩ => exact Fin.ext (show 0 + 1 * l.val = l.val by omega)
  wx n k l := by
    refine (harg6.readAt_unread _ _ _).trans (Eq.trans (congrArg x5 ?_) (h.x5x n k l))
    funext a
    match a with
    | ⟨0, _⟩ => exact Fin.ext (show n.val + 1 * 0 = n.val by omega)
    | ⟨1, _⟩ => exact Fin.ext (show 0 + 1 * k.val = k.val by omega)
    | ⟨2, _⟩ => exact Fin.ext (show 0 + 1 * (128 + l.val) = 128 + l.val by omega)

theorem rec_fits {D : Data} {I : Ins Ideal} (hI : Fits I D s0) (h0 : Fin 10 → Vec Ideal S1x16x128 .f32)
    (hh : ∀ n bi l, h0 n (ix3 0 bi l) = D.H bi n l s0) (La Lb : List (View.Piece (Elt Ideal) S10x512x128 .f32)) (ha : La = aList I)
    (hb : Lb = bList I) : RecFits (recOf arg14 arg15 h0 La Lb) D s0 where
  a n t bi l := by
    subst ha
    exact c_read arg14.view (av I) (fun b s n l => D.A b s n l) (fun n r l => av_apply hI n r l) n t bi l
  b n t bi l := by
    subst hb
    exact c_read arg15.view (bv I) (fun b s n l => D.B b s n l) (fun n r l => bv_apply hI n r l) n t bi l
  h0 := hh

theorem out_canon (h : Blocks E s0 x0 x1 x2 x3 x4 x5 x6 x7 x8 x9) {R : Rec Ideal} (hR : RecFits R E.D s0)
    (Lh : List (View.Piece (Elt Ideal) S10x640x128 .f32)) (hLh : Lh = hList R) (Lg : List (View.Piece (Elt Ideal) S512x1280 .bf16))
    (hLg : Lg = gList (gRd arg2 harg2 x1) fun n bi => arg16.view.readCov Lh (tRect n bi).toLoadRect) (b : Fin 16) (t : Fin 32) (j : Fin 1024) :
    View.canon [(⟨Rect.unit ![0, 0, 0] S16x32x1024.size inb_S16x32x1024_S16x32x1024_0_0_0,
        outOf arg3 harg3 arg10 harg10 x2 x9 (arg18.view.readCov Lg (Rect.unit ![0, 0] S512x1280.size inb_S512x1280_S512x1280_0_0).toLoadRect)⟩
          : View.Piece (Elt Ideal) S16x32x1024 .bf16)] (ix3 b t j) = E.out b (s0 + t.val) j := by
  rw [View.canon_unit_zero (by funext a; match a with | ⟨0, _⟩ => rfl | ⟨1, _⟩ => rfl | ⟨2, _⟩ => rfl)]
  refine (out_apply _ _ _ _ _ _ _ _ _ _).trans ?_
  unfold Full.out Data.out
  rw [h.x2]
  refine congrArg (E.ga b (s0 + t.val) j * ·) (Finset.sum_congr rfl fun ch _ => ?_)
  rw [h.x9]
  refine congrArg (· * E.W ch j) ?_
  subst hLg hLh
  refine (g_read (D := E.D) (s0 := s0) _ _ _ E.rg ?_ ?_ _ _).trans (Gg_at E.rg _ b t ch ?_ ?_)
  · intro n b t l
    refine (harg2.readAt_unread _ _ _).trans (Eq.trans (congrArg x1 ?_) (h.x1 b t (chn n l)))
    funext a
    match a with
    | ⟨0, _⟩ => exact Fin.ext (show 0 + 1 * b.val = b.val by omega)
    | ⟨1, _⟩ => exact Fin.ext (show 0 + 1 * t.val = t.val by omega)
    | ⟨2, _⟩ => exact Fin.ext (show n.val * 128 + 1 * l.val = n.val * 128 + l.val by omega)
  · intro n b t l
    exact h_read _ R hR n b t l
  · show 0 + 1 * (b.val * 32 + t.val) = _; omega
  · show 0 + 1 * ch.val = _; omega

end

/-- Stores that all miss an index, on top of a store of the whole buffer. -/
theorem canon_miss {S : Shape} {e : EltTy} (p : View.Piece (Elt Ideal) S e) (y : S.Idx) :
    ∀ (L : List (View.Piece (Elt Ideal) S e)), (∀ q ∈ L, y ∉ q.1.set) → View.canon (L ++ [p]) y = View.canon [p] y
  | [], _ => rfl
  | q :: L, h => by
    rw [List.cons_append, View.canon_cons_of_not_mem _ _ (h q List.mem_cons_self)]
    exact canon_miss p y L fun r hr => h r (List.mem_cons_of_mem _ hr)

/-- What the last `k` of a family of stores are. -/
theorem mem_drop_fam {S : Shape} {e : EltTy} {N : Nat} (P : Fin N → View.Piece (Elt Ideal) S e) (k : Nat) (q : View.Piece (Elt Ideal) S e)
    (h : q ∈ (List.ofFn P).drop k) : ∃ i : Fin N, k ≤ i.val ∧ q = P i := by
  obtain ⟨i, hi, rfl⟩ := List.getElem_of_mem h
  rw [List.length_drop, List.length_ofFn] at hi
  exact ⟨⟨k + i, by omega⟩, Nat.le_add_right _ _, by rw [List.getElem_drop, List.getElem_ofFn]⟩

/-- A chunk's carried slabs at a first point: still zero, whatever the chunks before stored. -/
theorem p_zero {sp : Space} (v : View sig .tc sp S10x48x128 .f32) (I : Ins Ideal) (n : Fin 10) (k : Fin 3) (bi : Fin 16) (l : Fin 128) :
    v.readCov ((pList I).drop (10 - n.val) ++ [⟨Rect.unit ![0, 0, 0] S10x48x128.size inb_S10x48x128_S10x48x128_0_0_0, k0_pay2 (F := Ideal)⟩])
      (pRow n k).toLoadRect (ix3 0 bi l) = (0 : Ideal .f32) := by
  rw [View.readCov_eq_canon']
  refine (canon_miss _ _ _ ?_).trans ?_
  · intro q hq hm
    obtain ⟨i, hi, rfl⟩ := mem_drop_fam _ _ _ hq
    have hm' : _ ∈ (pRect i.rev).set := hm
    unfold pRect at hm'
    have := (Rect.mem_set_unit.mp hm' 0).2
    replace this : n.val + 1 * 0 < i.rev.val + 1 := this
    have e : i.rev.val = 10 - (i.val + 1) := rfl
    omega
  · rw [View.canon_unit_zero (by funext a; match a with | ⟨0, _⟩ => rfl | ⟨1, _⟩ => rfl | ⟨2, _⟩ => rfl)]
    unfold k0_pay2
    rw [shapeCast_self]
    exact Ideal.ofBits_zero .f32

/-- A chunk's carried state at a first point: still zero, whatever the chunks before stored. -/
theorem s_zero {sp : Space} (v : View sig .tc sp S10x16x128 .f32) (R : Rec Ideal) (n : Fin 10) (bi : Fin 16) (l : Fin 128) :
    v.readCov ((cList R).drop (10 - n.val) ++ [⟨Rect.unit ![0, 0, 0] S10x16x128.size inb_S10x16x128_S10x16x128_0_0_0, k0_pay3 (F := Ideal)⟩])
      (hRect n).toLoadRect (ix3 0 bi l) = (0 : Ideal .f32) := by
  rw [View.readCov_eq_canon']
  refine (canon_miss _ _ _ ?_).trans ?_
  · intro q hq hm
    obtain ⟨i, hi, rfl⟩ := mem_drop_fam _ _ _ hq
    have hm' : _ ∈ (hRect i.rev).set := hm
    unfold hRect at hm'
    have := (Rect.mem_set_unit.mp hm' 0).2
    replace this : n.val + 1 * 0 < i.rev.val + 1 := this
    have e : i.rev.val = 10 - (i.val + 1) := rfl
    omega
  · rw [View.canon_unit_zero (by funext a; match a with | ⟨0, _⟩ => rfl | ⟨1, _⟩ => rfl | ⟨2, _⟩ => rfl)]
    unfold k0_pay3
    rw [shapeCast_self]
    exact Ideal.ofBits_zero .f32

end Branch
end
-- ==== Proof.PointA.lean ====
/-
  A first grid point: what it writes out and what it carries over.
-/
module

public import proofs.«01_k».proof.Proof.PieceA
public import proofs.«01_k».proof.Proof.Point
public import proofs.«01_k».proof.Proof.Gen.KernelIdeal.Frame

@[expose] public section

set_option maxRecDepth 16384

noncomputable section

namespace Branch.A

open Cert.KernelIdeal Cert.KernelIdeal.Gen
open Idealize.ShloMosaic Idealize.ShloMosaic.TcCoe Idealize.SL

section
variable {F : FTy → Type} [FloatOps F] (c : Dev nD) (i : grid0.Coords) (arg1 : Memref sig .tc .vmem S16x32x1280 .f32) (harg1 : arg1.IsWhole) (arg2 : Memref sig .tc .vmem S16x32x1280 .bf16) (harg2 : arg2.IsWhole) (arg3 : Memref sig .tc .vmem S16x32x1024 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S10x128x256 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1280x1024 .bf16) (harg10 : arg10.IsWhole) (arg11 : Memref sig .tc .vmem S16x32x1024 .bf16) (harg11 : arg11.IsWhole) (arg12 : Memref sig .tc .vmem S10x640x128 .f32) (harg12 : arg12.IsWhole) (arg13 : Memref sig .tc .vmem S10x48x128 .f32) (harg13 : arg13.IsWhole) (arg14 : Memref sig .tc .vmem S10x512x128 .f32) (harg14 : arg14.IsWhole) (arg15 : Memref sig .tc .vmem S10x512x128 .f32) (harg15 : arg15.IsWhole) (arg16 : Memref sig .tc .vmem S10x640x128 .f32) (harg16 : arg16.IsWhole) (arg17 : Memref sig .tc .vmem S10x16x128 .f32) (harg17 : arg17.IsWhole) (arg18 : Memref sig .tc .vmem S512x1280 .bf16) (harg18 : arg18.IsWhole) (hc0 : cond0_0 i)
    (x0 : Vec F S16x32x1280 .f32) (x1 : Vec F S16x32x1280 .bf16) (x2 : Vec F S16x32x1024 .bf16) (x3 : Vec F S4x1280 .f32) (x4 : Vec F S1x1280 .f32) (x5 : Vec F S10x128x256 .bf16) (x6 : Vec F S1x1280 .f32) (x7 : Vec F S1x1280 .f32) (x8 : Vec F S1x1280 .f32) (x9 : Vec F S1280x1024 .bf16)

/-- What a chunk reads of the carried slabs: the stores of the chunks before it over the zeros. -/
theorem hp_eq (n : Fin 10) : HP c arg1 harg1 arg12 x0 n = (pList (ins c arg1 harg1 arg4 harg4 arg5 harg5 arg6 harg6 arg7 harg7 arg8 harg8 arg9 harg9 arg12 arg13 x0 x3 x4 x5 x6 x7 x8)).drop (10 - n.val)
    ++ [⟨Rect.unit ![0, 0, 0] S10x48x128.size inb_S10x48x128_S10x48x128_0_0_0, k0_pay2⟩] := by
  fin_cases n <;> sl_kernel_rfl

/-- What a chunk reads of the carried state: the stores of the chunks before it over the zeros. -/
theorem hc_eq (n : Fin 10) : HC c arg1 harg1 arg4 harg4 arg5 harg5 arg6 harg6 arg7 harg7 arg8 harg8 arg9 harg9 arg12 arg13 arg14 arg15 arg17 x0 x3 x4 x5 x6 x7 x8 n = (cList (rec c arg1 harg1 arg4 harg4 arg5 harg5 arg6 harg6 arg7 harg7 arg8 harg8 arg9 harg9 arg12 arg13 arg14 arg15 arg17 x0 x3 x4 x5 x6 x7 x8)).drop (10 - n.val)
    ++ [⟨Rect.unit ![0, 0, 0] S10x16x128.size inb_S10x16x128_S10x16x128_0_0_0, k0_pay3⟩] := by
  fin_cases n <;> sl_kernel_rfl
end

variable (c : Dev nD) (i : grid0.Coords) (arg1 : Memref sig .tc .vmem S16x32x1280 .f32) (harg1 : arg1.IsWhole) (arg2 : Memref sig .tc .vmem S16x32x1280 .bf16) (harg2 : arg2.IsWhole) (arg3 : Memref sig .tc .vmem S16x32x1024 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S10x128x256 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1280x1024 .bf16) (harg10 : arg10.IsWhole) (arg11 : Memref sig .tc .vmem S16x32x1024 .bf16) (harg11 : arg11.IsWhole) (arg12 : Memref sig .tc .vmem S10x640x128 .f32) (harg12 : arg12.IsWhole) (arg13 : Memref sig .tc .vmem S10x48x128 .f32) (harg13 : arg13.IsWhole) (arg14 : Memref sig .tc .vmem S10x512x128 .f32) (harg14 : arg14.IsWhole) (arg15 : Memref sig .tc .vmem S10x512x128 .f32) (harg15 : arg15.IsWhole) (arg16 : Memref sig .tc .vmem S10x640x128 .f32) (harg16 : arg16.IsWhole) (arg17 : Memref sig .tc .vmem S10x16x128 .f32) (harg17 : arg17.IsWhole) (arg18 : Memref sig .tc .vmem S512x1280 .bf16) (harg18 : arg18.IsWhole) (hc0 : cond0_0 i)
    {x0 : Vec Ideal S16x32x1280 .f32} {x1 : Vec Ideal S16x32x1280 .bf16} {x2 : Vec Ideal S16x32x1024 .bf16} {x3 : Vec Ideal S4x1280 .f32} {x4 : Vec Ideal S1x1280 .f32} {x5 : Vec Ideal S10x128x256 .bf16} {x6 : Vec Ideal S1x1280 .f32} {x7 : Vec Ideal S1x1280 .f32} {x8 : Vec Ideal S1x1280 .f32} {x9 : Vec Ideal S1280x1024 .bf16} {E : Full} {s0 : Nat}
variable (h : Blocks E s0 x0 x1 x2 x3 x4 x5 x6 x7 x8 x9)
    (hp : ∀ (bi : Fin 16) (k : Fin 3) (ch : Fin 1280), E.D.xp bi (s0 + k.val) ch = 0) (hh : ∀ bi n l, E.D.H bi n l s0 = 0)
include h hp hh

theorem fits : Fits (ins c arg1 harg1 arg4 harg4 arg5 harg5 arg6 harg6 arg7 harg7 arg8 harg8 arg9 harg9 arg12 arg13 x0 x3 x4 x5 x6 x7 x8) E.D s0 :=
  ins_fits arg1 harg1 arg4 harg4 arg5 harg5 arg6 harg6 arg7 harg7 arg8 harg8 arg9 harg9 arg12 h _ (fun n k bi l => by
    show View.readCov arg13.view (HP c arg1 harg1 arg12 x0 n) (pRow n k).toLoadRect (ix3 0 bi l) = _
    rw [hp_eq (F := Ideal) c arg1 harg1 arg4 harg4 arg5 harg5 arg6 harg6 arg7 harg7 arg8 harg8 arg9 harg9 arg12 arg13 x0 x3 x4 x5 x6 x7 x8 n, hp bi k]
    exact p_zero _ _ n k bi l)
    _ (xs_eq ..)

theorem rfits : RecFits (rec c arg1 harg1 arg4 harg4 arg5 harg5 arg6 harg6 arg7 harg7 arg8 harg8 arg9 harg9 arg12 arg13 arg14 arg15 arg17 x0 x3 x4 x5 x6 x7 x8) E.D s0 :=
  rec_fits arg14 arg15 (fits (s0 := s0) (h := h) (hp := hp) (hh := hh) ..) _ (fun n bi l => by
    show View.readCov arg17.view (HC c arg1 harg1 arg4 harg4 arg5 harg5 arg6 harg6 arg7 harg7 arg8 harg8 arg9 harg9 arg12 arg13 arg14 arg15 arg17 x0 x3 x4 x5 x6 x7 x8 n) (hRect n).toLoadRect (ix3 0 bi l) = _
    rw [hc_eq (F := Ideal) c arg1 harg1 arg4 harg4 arg5 harg5 arg6 harg6 arg7 harg7 arg8 harg8 arg9 harg9 arg12 arg13 arg14 arg15 arg17 x0 x3 x4 x5 x6 x7 x8 n, hh bi n l]
    exact s_zero _ _ n bi l)
    _ _ (a_eq ..) (b_eq ..)

/-- The block written out. -/
theorem out_val (b : Fin 16) (t : Fin 32) (j : Fin 1024) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1 (ix3 b t j) = E.out b (s0 + t.val) j := by
  rw [out_eq]
  exact out_canon arg2 harg2 arg16 arg3 harg3 arg10 harg10 arg18 h (rfits (s0 := s0) (h := h) (hp := hp) (hh := hh) ..) _ (h_eq ..) _ (g_eq ..) b t j

/-- The slabs carried over. -/
theorem p_val : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1 = Gp E.D (s0 + 32) := by
  rw [p_eq]
  exact p_canon (fits (s0 := s0) (h := h) (hp := hp) (hh := hh) ..) _

/-- The states carried over. -/
theorem c_val : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1 = Gs E.D (s0 + 32) := by
  rw [c_eq]
  exact s_canon (rfits (s0 := s0) (h := h) (hp := hp) (hh := hh) ..) _

/-- The block as the frame names it. -/
theorem out_val' (b : Fin 16) (t : Fin 32) (j : Fin 1024) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix3 b t j) = E.out b (s0 + t.val) j := by
  unfold out0_A_10
  rw [View.read_writes_junk_eq_canon]
  exact out_val (s0 := s0) (h := h) (hp := hp) (hh := hh) ..

theorem p_val' : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = Gp E.D (s0 + 32) := by
  unfold sout0_A_1
  rw [View.read_writes_junk_eq_canon]
  exact p_val (s0 := s0) (h := h) (hp := hp) (hh := hh) ..

theorem c_val' : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = Gs E.D (s0 + 32) := by
  unfold sout0_A_5
  rw [View.read_writes_junk_eq_canon]
  exact c_val (s0 := s0) (h := h) (hp := hp) (hh := hh) ..

end Branch.A
end
-- ==== Proof.PieceB.lean ====
/-
  A later grid point: what is staged is the stages of one chunk and one step, at every chunk and step.
-/
module

public import proofs.«01_k».proof.Proof.Gen.KernelIdeal.Frame.RunB
public import proofs.«01_k».proof.Proof.Body

@[expose] public section

set_option maxRecDepth 16384

noncomputable section

namespace Branch.B

open Cert.KernelIdeal Cert.KernelIdeal.Gen
open Idealize.ShloMosaic Idealize.ShloMosaic.TcCoe

variable {F : FTy → Type} [FloatOps F]
variable (c : Dev nD) (i : grid0.Coords) (arg1 : Memref sig .tc .vmem S16x32x1280 .f32) (harg1 : arg1.IsWhole) (arg2 : Memref sig .tc .vmem S16x32x1280 .bf16) (harg2 : arg2.IsWhole) (arg3 : Memref sig .tc .vmem S16x32x1024 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S10x128x256 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1280x1024 .bf16) (harg10 : arg10.IsWhole) (arg11 : Memref sig .tc .vmem S16x32x1024 .bf16) (harg11 : arg11.IsWhole) (arg12 : Memref sig .tc .vmem S10x640x128 .f32) (harg12 : arg12.IsWhole) (arg13 : Memref sig .tc .vmem S10x48x128 .f32) (harg13 : arg13.IsWhole) (arg14 : Memref sig .tc .vmem S10x512x128 .f32) (harg14 : arg14.IsWhole) (arg15 : Memref sig .tc .vmem S10x512x128 .f32) (harg15 : arg15.IsWhole) (arg16 : Memref sig .tc .vmem S10x640x128 .f32) (harg16 : arg16.IsWhole) (arg17 : Memref sig .tc .vmem S10x16x128 .f32) (harg17 : arg17.IsWhole) (arg18 : Memref sig .tc .vmem S512x1280 .bf16) (harg18 : arg18.IsWhole) (hc0 : ¬cond0_0 i)
    (x0 : Vec F S16x32x1280 .f32) (x1 : Vec F S16x32x1280 .bf16) (x2 : Vec F S16x32x1024 .bf16) (x3 : Vec F S4x1280 .f32) (x4 : Vec F S1x1280 .f32) (x5 : Vec F S10x128x256 .bf16) (x6 : Vec F S1x1280 .f32) (x7 : Vec F S1x1280 .f32) (x8 : Vec F S1x1280 .f32) (x9 : Vec F S1280x1024 .bf16) (xs1 : Vec F S10x48x128 .f32) (xs5 : Vec F S10x16x128 .f32)

def prRd (n : Fin 10) (k : Fin 3) : Vec F S1x16x128 .f32 :=
  arg13.view.readAt (Elt F) (pRow n k).toLoadRect (harg13.unread xs1)

theorem xs_eq : kernelRun0_B.sl.HS0_160 c arg1 harg1 x0 = xsList (xRd arg1 harg1 x0) := by sl_kernel_rfl

def ins : Ins F :=
  insOf arg4 harg4 arg5 harg5 arg6 harg6 arg7 harg7 arg8 harg8 arg9 harg9 arg12 x3 x4 x5 x6 x7 x8
    (prRd arg13 harg13 xs1) (kernelRun0_B.sl.HS0_160 c arg1 harg1 x0)

theorem a_eq : kernelRun0_B.sl.HS2_10 c arg1 harg1 arg4 harg4 arg5 harg5 arg6 harg6 arg7 harg7 arg9 harg9 arg12 arg13 harg13 x0 x3 x4 x5 x6 x8 xs1
    = aList (ins c arg1 harg1 arg4 harg4 arg5 harg5 arg6 harg6 arg7 harg7 arg8 harg8 arg9 harg9 arg12 arg13 harg13 x0 x3 x4 x5 x6 x7 x8 xs1) := by sl_kernel_rfl

theorem b_eq : kernelRun0_B.sl.HS3_10 c arg1 harg1 arg4 harg4 arg5 harg5 arg6 harg6 arg7 harg7 arg8 harg8 arg9 harg9 arg12 arg13 harg13 x0 x3 x4 x5 x6 x7 x8 xs1
    = bList (ins c arg1 harg1 arg4 harg4 arg5 harg5 arg6 harg6 arg7 harg7 arg8 harg8 arg9 harg9 arg12 arg13 harg13 x0 x3 x4 x5 x6 x7 x8 xs1) := by sl_kernel_rfl

def h0Rd (n : Fin 10) : Vec F S1x16x128 .f32 :=
  arg17.view.readAt (Elt F) (hRect n).toLoadRect (harg17.unread xs5)

def rec : Rec F :=
  recOf arg14 arg15 (h0Rd arg17 harg17 xs5) (kernelRun0_B.sl.HS2_10 c arg1 harg1 arg4 harg4 arg5 harg5 arg6 harg6 arg7 harg7 arg9 harg9 arg12 arg13 harg13 x0 x3 x4 x5 x6 x8 xs1)
    (kernelRun0_B.sl.HS3_10 c arg1 harg1 arg4 harg4 arg5 harg5 arg6 harg6 arg7 harg7 arg8 harg8 arg9 harg9 arg12 arg13 harg13 x0 x3 x4 x5 x6 x7 x8 xs1)

theorem h_eq : kernelRun0_B.sl.HS4_320 c arg1 harg1 arg4 harg4 arg5 harg5 arg6 harg6 arg7 harg7 arg8 harg8 arg9 harg9 arg12 arg13 harg13 arg14 arg15 arg17 harg17 x0 x3 x4 x5 x6 x7 x8 xs1 xs5
    = hList (rec c arg1 harg1 arg4 harg4 arg5 harg5 arg6 harg6 arg7 harg7 arg8 harg8 arg9 harg9 arg12 arg13 harg13 arg14 arg15 arg17 harg17 x0 x3 x4 x5 x6 x7 x8 xs1 xs5) := by sl_kernel_rfl

/-- The states of a batch row as read back. -/
def hRd (n : Fin 10) (bi : Fin 16) : Vec F S1x32x128 .f32 :=
  arg16.view.readCov (kernelRun0_B.sl.HS4_320 c arg1 harg1 arg4 harg4 arg5 harg5 arg6 harg6 arg7 harg7 arg8 harg8 arg9 harg9 arg12 arg13 harg13 arg14 arg15 arg17 harg17 x0 x3 x4 x5 x6 x7 x8 xs1 xs5) (tRect n bi).toLoadRect

theorem g_eq : kernelRun0_B.sl.HS6_10 c arg1 harg1 arg2 harg2 arg4 harg4 arg5 harg5 arg6 harg6 arg7 harg7 arg8 harg8 arg9 harg9 arg12 arg13 harg13 arg14 arg15 arg16 arg17 harg17 x0 x1 x3 x4 x5 x6 x7 x8 xs1 xs5
    = gList (gRd arg2 harg2 x1) (hRd c arg1 harg1 arg4 harg4 arg5 harg5 arg6 harg6 arg7 harg7 arg8 harg8 arg9 harg9 arg12 arg13 harg13 arg14 arg15 arg16 arg17 harg17 x0 x3 x4 x5 x6 x7 x8 xs1 xs5) := by sl_kernel_rfl

theorem out_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5).1
    = [⟨Rect.unit ![0, 0, 0] S16x32x1024.size inb_S16x32x1024_S16x32x1024_0_0_0,
        outOf arg3 harg3 arg10 harg10 x2 x9 (arg18.view.readCov (kernelRun0_B.sl.HS6_10 c arg1 harg1 arg2 harg2 arg4 harg4 arg5 harg5 arg6 harg6 arg7 harg7 arg8 harg8 arg9 harg9 arg12 arg13 harg13 arg14 arg15 arg16 arg17 harg17 x0 x1 x3 x4 x5 x6 x7 x8 xs1 xs5) (Rect.unit ![0, 0] S512x1280.size inb_S512x1280_S512x1280_0_0).toLoadRect)⟩] := by
  dsimp only [kernelRun0_B]; sl_kernel_rfl

theorem p_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5).2.1
    = pList (ins c arg1 harg1 arg4 harg4 arg5 harg5 arg6 harg6 arg7 harg7 arg8 harg8 arg9 harg9 arg12 arg13 harg13 x0 x3 x4 x5 x6 x7 x8 xs1) := by
  dsimp only [kernelRun0_B]; sl_kernel_rfl

theorem c_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5).2.2.1
    = cList (rec c arg1 harg1 arg4 harg4 arg5 harg5 arg6 harg6 arg7 harg7 arg8 harg8 arg9 harg9 arg12 arg13 harg13 arg14 arg15 arg17 harg17 x0 x3 x4 x5 x6 x7 x8 xs1 xs5) := by
  dsimp only [kernelRun0_B]; sl_kernel_rfl

end Branch.B

end
-- ==== Proof.PointB.lean ====
/-
  A later grid point: what it writes out and what it carries over.
-/
module

public import proofs.«01_k».proof.Proof.PieceB
public import proofs.«01_k».proof.Proof.Point
public import proofs.«01_k».proof.Proof.Gen.KernelIdeal.Frame

@[expose] public section

set_option backward.proofsInPublic true
set_option maxRecDepth 16384

noncomputable section

namespace Branch.B

open Cert.KernelIdeal Cert.KernelIdeal.Gen
open Idealize.ShloMosaic Idealize.ShloMosaic.TcCoe Idealize.SL

variable (c : Dev nD) (i : grid0.Coords) (arg1 : Memref sig .tc .vmem S16x32x1280 .f32) (harg1 : arg1.IsWhole) (arg2 : Memref sig .tc .vmem S16x32x1280 .bf16) (harg2 : arg2.IsWhole) (arg3 : Memref sig .tc .vmem S16x32x1024 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S10x128x256 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1280x1024 .bf16) (harg10 : arg10.IsWhole) (arg11 : Memref sig .tc .vmem S16x32x1024 .bf16) (harg11 : arg11.IsWhole) (arg12 : Memref sig .tc .vmem S10x640x128 .f32) (harg12 : arg12.IsWhole) (arg13 : Memref sig .tc .vmem S10x48x128 .f32) (harg13 : arg13.IsWhole) (arg14 : Memref sig .tc .vmem S10x512x128 .f32) (harg14 : arg14.IsWhole) (arg15 : Memref sig .tc .vmem S10x512x128 .f32) (harg15 : arg15.IsWhole) (arg16 : Memref sig .tc .vmem S10x640x128 .f32) (harg16 : arg16.IsWhole) (arg17 : Memref sig .tc .vmem S10x16x128 .f32) (harg17 : arg17.IsWhole) (arg18 : Memref sig .tc .vmem S512x1280 .bf16) (harg18 : arg18.IsWhole) (hc0 : ¬cond0_0 i)
    {x0 : Vec Ideal S16x32x1280 .f32} {x1 : Vec Ideal S16x32x1280 .bf16} {x2 : Vec Ideal S16x32x1024 .bf16} {x3 : Vec Ideal S4x1280 .f32} {x4 : Vec Ideal S1x1280 .f32} {x5 : Vec Ideal S10x128x256 .bf16} {x6 : Vec Ideal S1x1280 .f32} {x7 : Vec Ideal S1x1280 .f32} {x8 : Vec Ideal S1x1280 .f32} {x9 : Vec Ideal S1280x1024 .bf16} {xs1 : Vec Ideal S10x48x128 .f32} {xs5 : Vec Ideal S10x16x128 .f32} {E : Full} {s0 : Nat}
variable (h : Blocks E s0 x0 x1 x2 x3 x4 x5 x6 x7 x8 x9)
    (hp : ∀ n (k : Fin 3) (bi : Fin 16) (l : Fin 128), xs1 (ix3 n ⟨k.val * 16 + bi.val, by omega⟩ l) = E.D.xp bi (s0 + k.val) (chn n l))
    (hh : ∀ n (bi : Fin 16) (l : Fin 128), xs5 (ix3 n bi l) = E.D.H bi n l s0)
include h hp hh

theorem fits : Fits (ins c arg1 harg1 arg4 harg4 arg5 harg5 arg6 harg6 arg7 harg7 arg8 harg8 arg9 harg9 arg12 arg13 harg13 x0 x3 x4 x5 x6 x7 x8 xs1) E.D s0 :=
  ins_fits arg1 harg1 arg4 harg4 arg5 harg5 arg6 harg6 arg7 harg7 arg8 harg8 arg9 harg9 arg12 h _ (fun n k bi l => by
    refine (harg13.readAt_unread _ _ _).trans (Eq.trans (congrArg xs1 ?_) (hp n k bi l))
    funext a
    match a with
    | ⟨0, _⟩ => exact Fin.ext (show n.val + 1 * 0 = n.val by omega)
    | ⟨1, _⟩ => exact Fin.ext (show k.val * 16 + 1 * bi.val = k.val * 16 + bi.val by omega)
    | ⟨2, _⟩ => exact Fin.ext (show 0 + 1 * l.val = l.val by omega))
    _ (xs_eq ..)

theorem rfits : RecFits (rec c arg1 harg1 arg4 harg4 arg5 harg5 arg6 harg6 arg7 harg7 arg8 harg8 arg9 harg9 arg12 arg13 harg13 arg14 arg15 arg17 harg17 x0 x3 x4 x5 x6 x7 x8 xs1 xs5) E.D s0 :=
  rec_fits arg14 arg15 (fits (s0 := s0) (h := h) (hp := hp) (hh := hh) ..) _ (fun n bi l => by
    refine (harg17.readAt_unread _ _ _).trans (Eq.trans (congrArg xs5 ?_) (hh n bi l))
    funext a
    match a with
    | ⟨0, _⟩ => exact Fin.ext (show n.val + 1 * 0 = n.val by omega)
    | ⟨1, _⟩ => exact Fin.ext (show 0 + 1 * bi.val = bi.val by omega)
    | ⟨2, _⟩ => exact Fin.ext (show 0 + 1 * l.val = l.val by omega))
    _ _ (a_eq ..) (b_eq ..)

/-- The block written out. -/
theorem out_val (b : Fin 16) (t : Fin 32) (j : Fin 1024) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5).1 (ix3 b t j) = E.out b (s0 + t.val) j := by
  rw [out_eq]
  exact out_canon arg2 harg2 arg16 arg3 harg3 arg10 harg10 arg18 h (rfits (s0 := s0) (h := h) (hp := hp) (hh := hh) ..) _ (h_eq ..) _ (g_eq ..) b t j

/-- The slabs carried over. -/
theorem p_val : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5).2.1 = Gp E.D (s0 + 32) := by
  rw [p_eq]
  exact (congrArg View.canon (List.append_nil _).symm).trans (p_canon (fits (s0 := s0) (h := h) (hp := hp) (hh := hh) ..) [])

/-- The states carried over. -/
theorem c_val : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5).2.2.1 = Gs E.D (s0 + 32) := by
  rw [c_eq]
  exact (congrArg View.canon (List.append_nil _).symm).trans (s_canon (rfits (s0 := s0) (h := h) (hp := hp) (hh := hh) ..) [])

/-- The block as the frame names it. -/
theorem out_val' (b : Fin 16) (t : Fin 32) (j : Fin 1024) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5 (ix3 b t j) = E.out b (s0 + t.val) j := by
  unfold out0_B_10
  rw [View.read_writes_junk_eq_canon]
  exact out_val (s0 := s0) (h := h) (hp := hp) (hh := hh) ..

theorem p_val' : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5 = Gp E.D (s0 + 32) := by
  unfold sout0_B_1
  rw [View.read_writes_junk_eq_canon]
  exact p_val (s0 := s0) (h := h) (hp := hp) (hh := hh) ..

theorem c_val' : sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs1 xs5 = Gs E.D (s0 + 32) := by
  unfold sout0_B_5
  rw [View.read_writes_junk_eq_canon]
  exact c_val (s0 := s0) (h := h) (hp := hp) (hh := hh) ..

end Branch.B
end
-- ==== Proof.Entry.lean ====
/-
  The blocks that each grid point reads, from the program's arguments.
-/
module

public import proofs.«01_k».proof.Proof.Gen.KernelIdeal.Frame
public import proofs.«01_k».proof.Proof.Point

@[expose] public section

set_option maxRecDepth 16384

noncomputable section

namespace Branch

open Cert.KernelIdeal Cert.KernelIdeal.Gen
open Idealize.ShloMosaic Idealize.ShloMosaic.TcCoe Idealize.ShloMosaic.Tactic Idealize.SL

/-- The branch's data, from the eleven arguments. -/
def mk (rx : Vec Ideal S16x4096x1280 .f32) (rg : Vec Ideal S16x4096x1280 .bf16) (ga : Vec Ideal S16x4096x1024 .bf16)
    (cw : Vec Ideal S1x4x1280 .f32) (cb : Vec Ideal S1x1280 .f32) (wa : Vec Ideal S1x10x128x128 .f32) (ba : Vec Ideal S1x1280 .f32)
    (wx : Vec Ideal S1x10x128x128 .f32) (bx lam : Vec Ideal S1x1280 .f32) (wo : Vec Ideal S1x1280x1024 .f32) : Full where
  D :=
    { xp := fun b s ch => if h : 3 ≤ s ∧ s - 3 < 4096 then rx (ix3 b ⟨s - 3, h.2⟩ ch) else 0
      w := fun k ch => cw (ix3 0 k ch)
      cb := fun ch => cb (ix2 0 ch)
      ba := fun ch => ba (ix2 0 ch)
      bx := fun ch => bx (ix2 0 ch)
      lam := fun ch => lam (ix2 0 ch)
      wa := fun n k l => wa (ix4 0 n k l)
      wx := fun n k l => wx (ix4 0 n k l) }
  rg := fun b s ch => if h : s < 4096 then rg (ix3 b ⟨s, h⟩ ch) else 0
  ga := fun b s j => if h : s < 4096 then ga (ix3 b ⟨s, h⟩ j) else 0
  W := fun ch j => wo (ix3 0 ch j)

variable (m : (ℓ : Loc nD τ sig) → Buf (Elt Ideal) ℓ) (c : Dev nD)

/-- The branch's data, as launched. -/
def E : Full := mk (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-- The three streamed windows move along time with the grid. -/
theorem idx_stream : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

theorem time_lt (t : Fin cfg0.N) (τ' : Fin 32) : 32 * t.val + τ'.val < 4096 := by
  have h := lt_of_lt_of_eq t.isLt (show cfg0.N = 128 from N_0); omega

theorem iblk0 (t : Fin cfg0.N) (b : Fin 16) (u : Fin 32) (ch : Fin 1280) :
    (iblk m c 0 t : Vec Ideal S16x32x1280 .f32) (ix3 b u ch) = (m ((c : Thread nD τ).loc main_arg0) : Vec Ideal S16x4096x1280 .f32) (ix3 b ⟨32 * t.val + u.val, time_lt t u⟩ ch) := by
  obtain ⟨h0, h1, h2, -⟩ := idx_stream t
  refine Eq.trans ?_ (congrFun (V_main_arg0 m c) _)
  refine congrArg (V m c main_arg0) (funext fun a => Fin.ext ?_)
  match a with
  | ⟨0, _⟩ => show win0_0.index t (0 : Fin 3) * 16 + 1 * b.val = b.val; omega
  | ⟨1, _⟩ => show win0_0.index t (1 : Fin 3) * 32 + 1 * u.val = 32 * t.val + u.val; omega
  | ⟨2, _⟩ => show win0_0.index t (2 : Fin 3) * 1280 + 1 * ch.val = ch.val; omega

theorem iblk1 (t : Fin cfg0.N) (b : Fin 16) (u : Fin 32) (ch : Fin 1280) :
    (iblk m c 1 t : Vec Ideal S16x32x1280 .bf16) (ix3 b u ch) = (m ((c : Thread nD τ).loc main_arg1) : Vec Ideal S16x4096x1280 .bf16) (ix3 b ⟨32 * t.val + u.val, time_lt t u⟩ ch) := by
  obtain ⟨-, -, -, h0, h1, h2, -⟩ := idx_stream t
  refine Eq.trans ?_ (congrFun (V_main_arg1 m c) _)
  refine congrArg (V m c main_arg1) (funext fun a => Fin.ext ?_)
  match a with
  | ⟨0, _⟩ => show win0_1.index t (0 : Fin 3) * 16 + 1 * b.val = b.val; omega
  | ⟨1, _⟩ => show win0_1.index t (1 : Fin 3) * 32 + 1 * u.val = 32 * t.val + u.val; omega
  | ⟨2, _⟩ => show win0_1.index t (2 : Fin 3) * 1280 + 1 * ch.val = ch.val; omega

theorem iblk2 (t : Fin cfg0.N) (b : Fin 16) (u : Fin 32) (j : Fin 1024) :
    (iblk m c 2 t : Vec Ideal S16x32x1024 .bf16) (ix3 b u j) = (m ((c : Thread nD τ).loc main_arg2) : Vec Ideal S16x4096x1024 .bf16) (ix3 b ⟨32 * t.val + u.val, time_lt t u⟩ j) := by
  obtain ⟨-, -, -, -, -, -, h0, h1, h2⟩ := idx_stream t
  refine Eq.trans ?_ (congrFun (V_main_arg2 m c) _)
  refine congrArg (V m c main_arg2) (funext fun a => Fin.ext ?_)
  match a with
  | ⟨0, _⟩ => show win0_2.index t (0 : Fin 3) * 16 + 1 * b.val = b.val; omega
  | ⟨1, _⟩ => show win0_2.index t (1 : Fin 3) * 32 + 1 * u.val = 32 * t.val + u.val; omega
  | ⟨2, _⟩ => show win0_2.index t (2 : Fin 3) * 1024 + 1 * j.val = j.val; omega

/-- The weights' windows hold their arrays whole. -/
theorem iblk3 (t : Fin cfg0.N) (k : Fin 4) (ch : Fin 1280) : (iblk m c 3 t : Vec Ideal S4x1280 .f32) (ix2 k ch) = (V m c main_v4 : Vec Ideal S4x1280 .f32) (ix2 k ch) := by
  refine congrArg (V m c main_v4) (funext fun a => Fin.ext ?_)
  match a with
  | ⟨0, _⟩ => show 0 * 4 + 1 * k.val = k.val; omega
  | ⟨1, _⟩ => show 0 * 1280 + 1 * ch.val = ch.val; omega

theorem iblk4 (t : Fin cfg0.N) (ch : Fin 1280) : (iblk m c 4 t : Vec Ideal S1x1280 .f32) (ix2 0 ch) = (V m c main_v6 : Vec Ideal S1x1280 .f32) (ix2 0 ch) := by
  refine congrArg (V m c main_v6) (funext fun a => Fin.ext ?_)
  match a with
  | ⟨0, _⟩ => rfl
  | ⟨1, _⟩ => show 0 * 1280 + 1 * ch.val = ch.val; omega

theorem iblk5 (t : Fin cfg0.N) (n : Fin 10) (k : Fin 128) (l : Fin 256) : (iblk m c 5 t : Vec Ideal S10x128x256 .bf16) (ix3 n k l) = (V m c main_v3 : Vec Ideal S10x128x256 .bf16) (ix3 n k l) := by
  refine congrArg (V m c main_v3) (funext fun a => Fin.ext ?_)
  match a with
  | ⟨0, _⟩ => show 0 * 10 + 1 * n.val = n.val; omega
  | ⟨1, _⟩ => show 0 * 128 + 1 * k.val = k.val; omega
  | ⟨2, _⟩ => show 0 * 256 + 1 * l.val = l.val; omega

theorem iblk6 (t : Fin cfg0.N) (ch : Fin 1280) : (iblk m c 6 t : Vec Ideal S1x1280 .f32) (ix2 0 ch) = (V m c main_v8 : Vec Ideal S1x1280 .f32) (ix2 0 ch) := by
  refine congrArg (V m c main_v8) (funext fun a => Fin.ext ?_)
  match a with
  | ⟨0, _⟩ => rfl
  | ⟨1, _⟩ => show 0 * 1280 + 1 * ch.val = ch.val; omega

theorem iblk7 (t : Fin cfg0.N) (ch : Fin 1280) : (iblk m c 7 t : Vec Ideal S1x1280 .f32) (ix2 0 ch) = (V m c main_v10 : Vec Ideal S1x1280 .f32) (ix2 0 ch) := by
  refine congrArg (V m c main_v10) (funext fun a => Fin.ext ?_)
  match a with
  | ⟨0, _⟩ => rfl
  | ⟨1, _⟩ => show 0 * 1280 + 1 * ch.val = ch.val; omega

theorem iblk8 (t : Fin cfg0.N) (ch : Fin 1280) : (iblk m c 8 t : Vec Ideal S1x1280 .f32) (ix2 0 ch) = (V m c main_v12 : Vec Ideal S1x1280 .f32) (ix2 0 ch) := by
  refine congrArg (V m c main_v12) (funext fun a => Fin.ext ?_)
  match a with
  | ⟨0, _⟩ => rfl
  | ⟨1, _⟩ => show 0 * 1280 + 1 * ch.val = ch.val; omega

theorem iblk9 (t : Fin cfg0.N) (ch : Fin 1280) (j : Fin 1024) : (iblk m c 9 t : Vec Ideal S1280x1024 .bf16) (ix2 ch j) = (V m c main_v14 : Vec Ideal S1280x1024 .bf16) (ix2 ch j) := by
  refine congrArg (V m c main_v14) (funext fun a => Fin.ext ?_)
  match a with
  | ⟨0, _⟩ => show 0 * 1280 + 1 * ch.val = ch.val; omega
  | ⟨1, _⟩ => show 0 * 1024 + 1 * j.val = j.val; omega

/-- The leading unit axis of a row dropped, or of a stack of matrices. -/
theorem cast_row {p : Nat} {α : Type} (x : (⟨2, ![1, p]⟩ : Shape).Idx → α) (h : (⟨2, ![1, p]⟩ : Shape).ShapeCasts ⟨1, ![p]⟩) (i : Fin p) :
    shapeCast ⟨1, ![p]⟩ x h (ix1 i) = x (ix2 0 i) := by
  refine shapeCast_apply x h _ _ ?_
  rw [Shape.rowMajor_val_two, Shape.rowMajor_val_one]
  show 0 * p + i.val = i.val
  omega

theorem cast_stack {n p q : Nat} {α : Type} (x : (⟨4, ![1, n, p, q]⟩ : Shape).Idx → α) (h : (⟨4, ![1, n, p, q]⟩ : Shape).ShapeCasts ⟨3, ![n, p, q]⟩)
    (a : Fin n) (i : Fin p) (j : Fin q) : shapeCast ⟨3, ![n, p, q]⟩ x h (ix3 a i j) = x (ix4 0 a i j) := by
  refine shapeCast_apply x h _ _ ?_
  rw [Shape.rowMajor_val_four, Shape.rowMajor_val_three]
  show ((0 * n + a.val) * p + i.val) * q + j.val = (a.val * p + i.val) * q + j.val
  rw [Nat.zero_mul, Nat.zero_add]

theorem arg_row_apply (x : Vec Ideal S1x1280 .f32) (ch : Fin 1280) :
    (broadcastInDim S1x1280 ![1] bcast_S1280_S1x1280_1 (shapeCast S1280 x shapeCasts_S1x1280_S1280 : Vec Ideal S1280 .f32) : Vec Ideal S1x1280 .f32) (ix2 0 ch) = x (ix2 0 ch) := by
  refine Eq.trans ?_ (cast_row x shapeCasts_S1x1280_S1280 ch)
  pointwise

/-- The two gates' maps, side by side. -/
def pair (x y : Vec Ideal S10x128x128 .f32) : FVec Ideal S10x128x256 .f32 :=
  concatenate S10x128x256 2 [⟨S10x128x128, x⟩, ⟨S10x128x128, y⟩] concatenates_S10x128x128_S10x128x128_S10x128x256_d2

theorem pair_left (x y : Vec Ideal S10x128x128 .f32) (n : Fin 10) (k l : Fin 128) : pair x y (ix3 n k ⟨l.val, by omega⟩) = x (ix3 n k l) :=
  concatenate_pair_apply_left (t := S10x128x256) (s₁ := S10x128x128) (s₂ := S10x128x128) 2 x y _ _ rfl (ix3 n k l) (fun b => by
    match b with
    | ⟨0, _⟩ => rfl
    | ⟨1, _⟩ => rfl
    | ⟨2, _⟩ => rfl)

theorem pair_right (x y : Vec Ideal S10x128x128 .f32) (n : Fin 10) (k l : Fin 128) : pair x y (ix3 n k ⟨128 + l.val, by omega⟩) = y (ix3 n k l) :=
  concatenate_pair_apply_right (t := S10x128x256) (s₁ := S10x128x128) (s₂ := S10x128x128) 2 x y _ _ rfl rfl (ix3 n k l) (fun b hb => by
    match b, hb with
    | ⟨0, _⟩, _ => rfl
    | ⟨1, _⟩, _ => rfl
    | ⟨2, _⟩, hb => exact absurd rfl hb) (Nat.add_comm _ _)

theorem V_v4 (k : Fin 4) (ch : Fin 1280) : (V m c main_v4 : Vec Ideal S4x1280 .f32) (ix2 k ch) = (m ((c : Thread nD τ).loc main_arg3) : Vec Ideal S1x4x1280 .f32) (ix3 0 k ch) := by
  dsimp only [V]; after_results; exact cast3 _ _ k ch

theorem V_v6 (ch : Fin 1280) : (V m c main_v6 : Vec Ideal S1x1280 .f32) (ix2 0 ch) = (m ((c : Thread nD τ).loc main_arg4) : Vec Ideal S1x1280 .f32) (ix2 0 ch) := by
  dsimp only [V]; after_results; exact arg_row_apply _ ch

theorem V_v8 (ch : Fin 1280) : (V m c main_v8 : Vec Ideal S1x1280 .f32) (ix2 0 ch) = (m ((c : Thread nD τ).loc main_arg6) : Vec Ideal S1x1280 .f32) (ix2 0 ch) := by
  dsimp only [V]; after_results; exact arg_row_apply _ ch

theorem V_v10 (ch : Fin 1280) : (V m c main_v10 : Vec Ideal S1x1280 .f32) (ix2 0 ch) = (m ((c : Thread nD τ).loc main_arg8) : Vec Ideal S1x1280 .f32) (ix2 0 ch) := by
  dsimp only [V]; after_results; exact arg_row_apply _ ch

theorem V_v12 (ch : Fin 1280) : (V m c main_v12 : Vec Ideal S1x1280 .f32) (ix2 0 ch) = (m ((c : Thread nD τ).loc main_arg9) : Vec Ideal S1x1280 .f32) (ix2 0 ch) := by
  dsimp only [V]; after_results; exact arg_row_apply _ ch

theorem V_v14 (ch : Fin 1280) (j : Fin 1024) : (V m c main_v14 : Vec Ideal S1280x1024 .bf16) (ix2 ch j) = (m ((c : Thread nD τ).loc main_arg10) : Vec Ideal S1x1280x1024 .f32) (ix3 0 ch j) := by
  dsimp only [V]; after_results; exact cast3 _ _ ch j

theorem V_v3_left (n : Fin 10) (k l : Fin 128) : (V m c main_v3 : Vec Ideal S10x128x256 .bf16) (ix3 n k ⟨l.val, by omega⟩) = (m ((c : Thread nD τ).loc main_arg5) : Vec Ideal S1x10x128x128 .f32) (ix4 0 n k l) := by
  dsimp only [V]; after_results; exact (pair_left _ _ n k l).trans (cast_stack _ _ n k l)

theorem V_v3_right (n : Fin 10) (k l : Fin 128) : (V m c main_v3 : Vec Ideal S10x128x256 .bf16) (ix3 n k ⟨128 + l.val, by omega⟩) = (m ((c : Thread nD τ).loc main_arg7) : Vec Ideal S1x10x128x128 .f32) (ix4 0 n k l) := by
  dsimp only [V]; after_results; exact (pair_right _ _ n k l).trans (cast_stack _ _ n k l)

/-- The blocks of a grid point. -/
theorem blocks (t : Fin cfg0.N) : Blocks (E m c) (32 * t.val) (iblk m c 0 t) (iblk m c 1 t) (iblk m c 2 t) (iblk m c 3 t) (iblk m c 4 t) (iblk m c 5 t)
    (iblk m c 6 t) (iblk m c 7 t) (iblk m c 8 t) (iblk m c 9 t) where
  x0 b u ch := by
    refine (iblk0 m c t b u ch).trans (Eq.symm ((dif_pos ⟨by omega, by have := time_lt t u; omega⟩).trans ?_))
    refine congrArg _ (congrArg (fun s => ix3 b s ch) (Fin.ext ?_))
    show 32 * t.val + 3 + u.val - 3 = 32 * t.val + u.val; omega
  x1 b u ch := by
    refine (iblk1 m c t b u ch).trans (Eq.symm ?_)
    exact dif_pos (time_lt t u)
  x2 b u j := by
    refine (iblk2 m c t b u j).trans (Eq.symm ?_)
    exact dif_pos (time_lt t u)
  x3 k ch := (iblk3 m c t k ch).trans (V_v4 m c k ch)
  x4 ch := (iblk4 m c t ch).trans (V_v6 m c ch)
  x5a n k l := (iblk5 m c t n k _).trans (V_v3_left m c n k l)
  x5x n k l := (iblk5 m c t n k _).trans (V_v3_right m c n k l)
  x6 ch := (iblk6 m c t ch).trans (V_v8 m c ch)
  x7 ch := (iblk7 m c t ch).trans (V_v10 m c ch)
  x8 ch := (iblk8 m c t ch).trans (V_v12 m c ch)
  x9 ch j := (iblk9 m c t ch j).trans (V_v14 m c ch j)

end Branch
end
-- ==== Proof.Chain.lean ====
/-
  The grid points in order: every step's block of the result, and the result array.
-/
module

public import proofs.«01_k».proof.Proof.Gen.KernelIdeal.Value
public import proofs.«01_k».proof.Proof.PointA
public import proofs.«01_k».proof.Proof.PointB
public import proofs.«01_k».proof.Proof.Entry

@[expose] public section

set_option backward.proofsInPublic true
set_option maxRecDepth 16384

noncomputable section

namespace Branch

open Cert.KernelIdeal Cert.KernelIdeal.Gen Cert.KernelIdeal.Value
open Idealize.ShloMosaic Idealize.ShloMosaic.TcCoe Idealize.SL

variable (m : (ℓ : Loc nD τ sig) → Buf (Elt Ideal) ℓ) (c : Dev nD)

/-- What a point leaves: its block of the result, the last slabs, the states. -/
def Holds (n : Nat) (o : Vec Ideal S16x32x1024 .bf16 × Vec Ideal S10x48x128 .f32 × Vec Ideal S10x16x128 .f32) : Prop :=
  (∀ b (u : Fin 32) j, o.1 (ix3 b u j) = (E m c).out b (32 * n + u.val) j) ∧ o.2.1 = Gp (E m c).D (32 * n + 32) ∧ o.2.2 = Gs (E m c).D (32 * n + 32)

theorem holds_first (t : Fin cfg0.N) (h0 : t.val % 128 = 0) : Holds m c t.val (outsAt0 m c t.val t.isLt) := by
  have hN := lt_of_lt_of_eq t.isLt (show cfg0.N = 128 from N_0)
  have ht : t.val = 0 := by omega
  have hp : ∀ bi (k : Fin 3) ch, (E m c).D.xp bi (32 * t.val + k.val) ch = 0 := fun bi k ch => dif_neg (fun h => by omega)
  have hh : ∀ bi n l, (E m c).D.H bi n l (32 * t.val) = 0 := fun bi n l => by rw [ht]; rfl
  have e := outsAt0_A m c t h0
  refine ⟨fun b u j => (congrFun (congrArg Prod.fst e) _).trans ?_, (congrArg (fun o => o.2.1) e).trans ?_, (congrArg (fun o => o.2.2) e).trans ?_⟩
  · dsimp only; exact A.out_val' (h := blocks m c t) (hp := hp) (hh := hh) ..
  · dsimp only; exact A.p_val' (h := blocks m c t) (hp := hp) (hh := hh) ..
  · dsimp only; exact A.c_val' (h := blocks m c t) (hp := hp) (hh := hh) ..

theorem holds_next (t : Fin cfg0.N) (h0 : ¬t.val % 128 = 0)
    (ih : Holds m c (t.val - 1) (outsAt0 m c (t.val - 1) (Nat.lt_of_le_of_lt (Nat.sub_le _ _) t.isLt))) :
    Holds m c t.val (outsAt0 m c t.val t.isLt) := by
  obtain ⟨-, i1, i2⟩ := ih
  have hs : 32 * (t.val - 1) + 32 = 32 * t.val := by omega
  rw [hs] at i1 i2
  have hp : ∀ n' (k : Fin 3) (bi : Fin 16) (l : Fin 128), (outsAt0 m c (t.val - 1) (Nat.lt_of_le_of_lt (Nat.sub_le _ _) t.isLt)).2.1 (ix3 n' ⟨k.val * 16 + bi.val, by omega⟩ l) = (E m c).D.xp bi (32 * t.val + k.val) (chn n' l) :=
    fun n' k bi l => (congrFun i1 _).trans (Gp_at _ _ _ n' bi k.val l rfl rfl rfl)
  have hh : ∀ n' (bi : Fin 16) (l : Fin 128), (outsAt0 m c (t.val - 1) (Nat.lt_of_le_of_lt (Nat.sub_le _ _) t.isLt)).2.2 (ix3 n' bi l) = (E m c).D.H bi n' l (32 * t.val) :=
    fun n' bi l => congrFun i2 _
  have e := outsAt0_B m c t h0
  refine ⟨fun b u j => (congrFun (congrArg Prod.fst e) _).trans ?_, (congrArg (fun o => o.2.1) e).trans ?_, (congrArg (fun o => o.2.2) e).trans ?_⟩
  · dsimp only; exact B.out_val' (h := blocks m c t) (hp := hp) (hh := hh) ..
  · dsimp only; exact B.p_val' (h := blocks m c t) (hp := hp) (hh := hh) ..
  · dsimp only; exact B.c_val' (h := blocks m c t) (hp := hp) (hh := hh) ..

theorem holds : ∀ (n : Nat) (hn : n < cfg0.N), Holds m c n (outsAt0 m c n hn)
  | 0, hn => holds_first m c ⟨0, hn⟩ (Nat.zero_mod _)
  | n + 1, hn => holds_next m c ⟨n + 1, hn⟩
      (by have hN := lt_of_lt_of_eq hn (show cfg0.N = 128 from N_0); show ¬(n + 1) % 128 = 0; omega) (holds n (Nat.lt_of_succ_lt hn))

/-- The result array. -/
theorem kernel_result (b : Fin 16) (s : Fin 4096) (j : Fin 1024) :
    (G10 m c : Vec Ideal S16x4096x1024 .bf16) (ix3 b s j) = (E m c).out b s.val j := by
  have hN : cfg0.N = 128 := N_0
  have hpt : pt10Of (ix3 b s j) = s.val / 32 := by
    show 128 * (b.val / 16 - 0) + 1 * (s.val / 32 - 0) + 1 * (j.val / 1024 - 0) = _; omega
  have hlt : s.val / 32 < cfg0.N := by omega
  have hl : loc10Of (ix3 b s j) = ix3 b ⟨s.val % 32, Nat.mod_lt _ (by decide)⟩ j := by
    funext a; apply Fin.ext
    match a with
    | ⟨0, _⟩ => show b.val % 16 = b.val; omega
    | ⟨1, _⟩ => rfl
    | ⟨2, _⟩ => show j.val % 1024 = j.val; omega
  have e := (holds m c (s.val / 32) hlt).1 b ⟨s.val % 32, Nat.mod_lt _ (by decide)⟩ j
  rw [outsAt0_sweep] at e
  refine (dif_pos (by rw [hpt]; exact hlt)).trans ?_
  rw [hl, fold0_congr m c _ _ _ _ hpt]
  refine e.trans ?_
  show (E m c).out b (32 * (s.val / 32) + s.val % 32) j = _
  rw [Nat.div_add_mod]

end Branch
end
-- ==== Proof.RefEntry.lean ====
/-
  The reference up to its recurrence: the factors and summands that the loop starts from, as plain terms over the arguments.
-/
module

public import proofs.«01_k».proof.Proof.Gen.ReferenceIdeal.Run
public import Idealize.ShloMosaic.PureOps.Ideal

@[expose] public section

set_option maxRecDepth 16384

noncomputable section

namespace RefBranch

open Cert.ReferenceIdeal Cert.ReferenceIdeal.Gen Cert.ReferenceIdeal.Value
open Idealize.ShloMosaic Idealize.ShloMosaic.TcCoe Idealize.ShloMosaic.StableHlo

/-- One number everywhere. -/
def every (w : BitVec 32) : FVec Ideal S16x4096x1280 .f32 := broadcastInDim S16x4096x1280 ![] bcast_S_S16x4096x1280 (constant S_ .f32 w)

/-- One number per channel. -/
def chan (v : FVec Ideal S1280 .f32) : FVec Ideal S16x4096x1280 .f32 :=
  broadcastInDim S16x4096x1280 ![0, 1, 2] bcast_S1x1x1280_S16x4096x1280_0_1_2 (broadcastInDim S1x1x1280 ![2] bcast_S1280_S1x1x1280_2 v)

/-- The layer axis dropped. -/
def drop (v : FVec Ideal S1x1280 .f32) : FVec Ideal S1280 .f32 := shapeCast S1280 v shapeCasts_S1x1280_S1280

/-- The input after three zero steps. -/
def padded (rx : FVec Ideal S16x4096x1280 .f32) : FVec Ideal S16x4099x1280 .f32 :=
  pad S16x4099x1280 ![0, 3, 0] ![0, 0, 0] ![0, 0, 0] rx (sitofp .f32 (constantI S_ 32 0#32)) pads_S16x4096x1280_S16x4099x1280_000_300_000 h_S_

/-- One tap of the convolution. -/
def tap (xp : FVec Ideal S16x4099x1280 .f32) (cw : FVec Ideal S1x4x1280 .f32) (o : Fin 3 → Nat) (ho : S16x4099x1280.Slices o S16x4096x1280)
    (q : Fin 2 → Nat) (hq : S4x1280.Slices q S1x1280) : FVec Ideal S16x4096x1280 .f32 :=
  mulf (extractStridedSlice S16x4096x1280 o xp ho) (chan (drop (extractStridedSlice S1x1280 q (shapeCast S4x1280 cw shapeCasts_S1x4x1280_S4x1280) hq)))

/-- The convolution. -/
def conv (xp : FVec Ideal S16x4099x1280 .f32) (cw : FVec Ideal S1x4x1280 .f32) (cb : FVec Ideal S1x1280 .f32) : FVec Ideal S16x4096x1280 .f32 :=
  addf (addf (addf (addf (addf (every 0x00000000#32)
    (tap xp cw ![0, 0, 0] slices_S16x4099x1280_S16x4096x1280_0_0_0 ![0, 0] slices_S4x1280_S1x1280_0_0))
    (tap xp cw ![0, 1, 0] slices_S16x4099x1280_S16x4096x1280_0_1_0 ![1, 0] slices_S4x1280_S1x1280_1_0))
    (tap xp cw ![0, 2, 0] slices_S16x4099x1280_S16x4096x1280_0_2_0 ![2, 0] slices_S4x1280_S1x1280_2_0))
    (tap xp cw ![0, 3, 0] slices_S16x4099x1280_S16x4096x1280_0_3_0 ![3, 0] slices_S4x1280_S1x1280_3_0))
    (chan (drop cb))

/-- A gate's block-diagonal map. -/
def mapped (W : FVec Ideal S1x10x128x128 .f32) (x : FVec Ideal S16x4096x1280 .f32) : FVec Ideal S16x4096x1280 .f32 :=
  shapeCast S16x4096x1280 (transpose S16x4096x10x128 [2, 3, 0, 1]
    (Host.dotGeneral dot_S10x128x128_S16x4096x10x128_S10x128x16x4096_1_3_2_01_0_2 none (shapeCast S10x128x128 W shapeCasts_S1x10x128x128_S10x128x128)
      (shapeCast S16x4096x10x128 x shapeCasts_S16x4096x1280_S16x4096x10x128)) transposes_S10x128x16x4096_S16x4096x10x128_2_3_0_1)
    shapeCasts_S16x4096x10x128_S16x4096x1280

/-- A gate. -/
def gate (W : FVec Ideal S1x10x128x128 .f32) (bias : FVec Ideal S1x1280 .f32) (x : FVec Ideal S16x4096x1280 .f32) : FVec Ideal S16x4096x1280 .f32 :=
  Host.divf (every 0x3F800000#32) (addf (every 0x3F800000#32) (Host.exp (Host.negf (addf (mapped W x) (chan (drop bias))))))

/-- The softplus. -/
def soft (v : FVec Ideal S1280 .f32) : FVec Ideal S1280 .f32 :=
  select (cmpf .une (subf v (broadcastInDim S1280 ![] bcast_S_S1280 (constant S_ .f32 0x00000000#32))) (subf v (broadcastInDim S1280 ![] bcast_S_S1280 (constant S_ .f32 0x00000000#32))))
    (addf v (broadcastInDim S1280 ![] bcast_S_S1280 (constant S_ .f32 0x00000000#32)))
    (addf (maximumf v (broadcastInDim S1280 ![] bcast_S_S1280 (constant S_ .f32 0x00000000#32)))
      (Host.log1p (Host.exp (Host.negf (Host.absf (subf v (broadcastInDim S1280 ![] bcast_S_S1280 (constant S_ .f32 0x00000000#32))))))))

/-- The logarithm of the factor. -/
def logA (r : FVec Ideal S16x4096x1280 .f32) (sp : FVec Ideal S1280 .f32) : FVec Ideal S16x4096x1280 .f32 :=
  mulf (mulf (every 0xC1000000#32) r) (chan sp)

/-- The summand. -/
def summand (la i x : FVec Ideal S16x4096x1280 .f32) : FVec Ideal S16x4096x1280 .f32 :=
  mulf (Host.sqrt (Host.negf (Host.expm1 (mulf (every 0x40000000#32) la)))) (mulf i x)

section
variable (V : Valuation τ sig (Elt Ideal))

set_option maxHeartbeats 4000000

theorem first_v0 : after hostOps0_1 (after hostOps0 V) (Proc.devRef .tc main_v0) = padded (V (Proc.devRef .tc main_arg0)) := by
  unfold padded
  simp only [hostOps0, hostOps0_1]
  after_results_entrywise []

theorem second_v37 : after hostOps0_2 V (no_index (Proc.devRef .tc main_v37)) = conv (V (Proc.devRef .tc main_v0)) (V (Proc.devRef .tc main_arg3)) (V (Proc.devRef .tc main_arg4)) := by
  unfold conv tap chan drop every
  simp only [hostOps0_2]
  after_results_entrywise []

theorem second_v66 : after hostOps0_2 V (no_index (Proc.devRef .tc main_v66)) = gate (V (Proc.devRef .tc main_arg7)) (V (Proc.devRef .tc main_arg8)) (conv (V (Proc.devRef .tc main_v0)) (V (Proc.devRef .tc main_arg3)) (V (Proc.devRef .tc main_arg4))) := by
  unfold gate mapped conv tap chan drop every
  simp only [hostOps0_2]
  after_results_entrywise []

theorem second_v68 : after hostOps0_2 V (no_index (Proc.devRef .tc main_v68)) = mulf (every 0xC1000000#32) (gate (V (Proc.devRef .tc main_arg5)) (V (Proc.devRef .tc main_arg6)) (conv (V (Proc.devRef .tc main_v0)) (V (Proc.devRef .tc main_arg3)) (V (Proc.devRef .tc main_arg4)))) := by
  unfold gate mapped conv tap chan drop every
  simp only [hostOps0_2]
  after_results_entrywise []

theorem second_v70 : after hostOps0_2 V (no_index (Proc.devRef .tc main_v70)) = Host.negf (drop (V (Proc.devRef .tc main_arg9))) := by
  unfold drop
  simp only [hostOps0_2]
  after_results_entrywise []

theorem third_v71 : after hostOps0_3 V (no_index (Proc.devRef .tc main_v71)) = soft (V (Proc.devRef .tc main_v70)) := by
  unfold soft
  simp only [hostOps0_3]
  after_results_entrywise []

theorem third_v37 : after hostOps0_3 V (no_index (Proc.devRef .tc main_v37)) = V (Proc.devRef .tc main_v37) := by
  simp only [hostOps0_3]
  after_results_entrywise []
theorem third_v66 : after hostOps0_3 V (no_index (Proc.devRef .tc main_v66)) = V (Proc.devRef .tc main_v66) := by
  simp only [hostOps0_3]
  after_results_entrywise []
theorem third_v68 : after hostOps0_3 V (no_index (Proc.devRef .tc main_v68)) = V (Proc.devRef .tc main_v68) := by
  simp only [hostOps0_3]
  after_results_entrywise []

/-- The loop's operands from what the stretch before it reads. -/
theorem fourth_a : after hostOps0_4 V (no_index (Proc.devRef .tc main_v87_0)) = transpose S4096x16x1280 [1, 0, 2] (Host.exp (mulf (V (Proc.devRef .tc main_v68)) (chan (V (Proc.devRef .tc main_v71))))) transposes_S16x4096x1280_S4096x16x1280_1_0_2 := by
  unfold chan
  simp only [hostOps0_4]
  after_results_entrywise []

theorem fourth_b : after hostOps0_4 V (no_index (Proc.devRef .tc main_v87_1)) = transpose S4096x16x1280 [1, 0, 2] (summand (mulf (V (Proc.devRef .tc main_v68)) (chan (V (Proc.devRef .tc main_v71)))) (V (Proc.devRef .tc main_v66)) (V (Proc.devRef .tc main_v37))) transposes_S16x4096x1280_S4096x16x1280_1_0_2 := by
  unfold summand chan every
  simp only [hostOps0_4]
  after_results_entrywise []

theorem fourth_h : after hostOps0_4 V (no_index (Proc.devRef .tc main_v87_3)) = (broadcastInDim S16x1280 ![] bcast_S_S16x1280 (constant S_ .f32 0x00000000#32) : FVec Ideal S16x1280 .f32) := by
  simp only [hostOps0_4]
  after_results_entrywise []
end

end RefBranch
end
-- ==== Proof.Algebra.lean ====
/-
  The kernel's elementary functions and the reference's, equal over the extended reals.
-/
module

public import proofs.«01_k».proof.Proof.Spec
public import Idealize.ShloMosaic.PureOps.Ideal.Laws
public import Idealize.ShloMosaic.Lib.IdealHost

@[expose] public section

noncomputable section

namespace Branch

open Idealize.ShloMosaic

theorem half_eq : half = ((1 / 2 : ℝ) : EReal) := by
  unfold half; simp [Ideal.ofBits, Ideal.ieee]; rw [← EReal.coe_mul]; norm_num

theorem eight_eq : eight = ((8 : ℝ) : EReal) := by
  unfold eight; simp [Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

theorem neg_eight_eq : Ideal.ofBits .f32 0xC1000000#32 = -eight := by
  rw [eight_eq]; simp [Ideal.ofBits, Ideal.ieee]; rw [← EReal.coe_mul]; norm_num

/-- The logistic function, by way of the hyperbolic tangent. -/
theorem real_sgm (r : ℝ) : (1 / 2 : ℝ) * Real.tanh (1 / 2 * r) + 1 / 2 = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [e1]
  have p1 := Real.exp_pos (1 / 2 * r)
  have p2 := Real.exp_pos (-(1 / 2 * r))
  generalize Real.exp (1 / 2 * r) = u at *
  generalize Real.exp (-(1 / 2 * r)) = v at *
  have h1 : u + v ≠ 0 := by positivity
  have h2 : 1 + v * v ≠ 0 := by positivity
  field_simp
  linear_combination (2 : ℝ) * v * e2

theorem sgm_eq (z : EReal) : sgm z = Ideal.logistic z := by
  unfold sgm
  rw [half_eq]
  induction z using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add, real_sgm]

theorem exp_nonneg (z : EReal) : 0 ≤ Ideal.exp z := by
  induction z using EReal.rec with
  | bot => exact le_rfl
  | top => exact le_top
  | coe r => rw [Ideal.exp_coe]; exact_mod_cast (Real.exp_pos r).le

theorem logistic_nonneg (z : EReal) : 0 ≤ Ideal.logistic z := by
  induction z using EReal.rec with
  | bot => rw [Ideal.logistic_bot]
  | top => rw [Ideal.logistic_top]; exact zero_le_one
  | coe r => rw [Ideal.logistic_coe]; exact_mod_cast (inv_pos.mpr (by positivity : (0 : ℝ) < 1 + Real.exp (-r))).le

theorem log_nonneg (z : EReal) (h : 1 ≤ z) : 0 ≤ Ideal.log z := by
  induction z using EReal.rec with
  | bot => exact absurd (le_bot_iff.mp h) (EReal.coe_ne_bot 1)
  | top => exact le_top
  | coe r =>
    have h' : (1 : ℝ) ≤ r := by exact_mod_cast h
    rw [Ideal.log_coe, if_neg (by linarith)]
    exact_mod_cast Real.log_nonneg h'

/-- The softplus. -/
def softplus (v : EReal) : EReal := max v 0 + Ideal.log (1 + Ideal.exp (-(max v (-v))))

theorem softplus_nonneg (v : EReal) : 0 ≤ softplus v :=
  add_nonneg (le_max_right _ _) (log_nonneg _ (le_add_of_nonneg_right (exp_nonneg _)))

theorem spl_eq (z : EReal) : spl z = eight * softplus (-z) := by
  unfold spl softplus
  rw [zero_sub, zero_sub]
  rfl

/-- The logarithm of the factor. -/
theorem logA_eq (r sp : EReal) : 0 - r * (eight * sp) = -eight * r * sp := by
  rw [zero_sub, EReal.neg_mul, EReal.neg_mul, ← mul_assoc, mul_comm r eight]

theorem logA_nonpos (r sp : EReal) (hr : 0 ≤ r) (hs : 0 ≤ sp) : -eight * r * sp ≤ 0 := by
  rw [← logA_eq, zero_sub, eight_eq]
  exact EReal.neg_le_zero.mpr (mul_nonneg hr (mul_nonneg (by exact_mod_cast (by norm_num : (0 : ℝ) ≤ 8)) hs))

/-- The root of what the square of the factor leaves of one. -/
theorem root_eq (la : EReal) (h : la ≤ 0) :
    root (1 - Ideal.exp la * Ideal.exp la) = Ideal.sqrt (-(Ideal.expm1 (((2 : ℝ) : EReal) * la))) := by
  unfold Ideal.expm1
  have key : ∀ o : ℝ, 0 ≤ o → root (o : EReal) = (Real.sqrt o : EReal) := by
    intro o ho
    unfold root
    by_cases hp : 0 < o
    · have hc : FloatOps.cmpf (F := Ideal) (φ := .f32) CmpFPredicate.ogt (o : EReal) 0 = 1#1 := by
        show BitVec.ofBool (decide ((0 : EReal) < (o : EReal))) = 1#1
        rw [decide_eq_true (by exact_mod_cast hp)]; rfl
      rw [hc]
      show (o : EReal) * Ideal.rsqrt (o : EReal) = _
      rw [Ideal.rsqrt_coe, if_neg (by linarith), if_neg (by linarith), ← EReal.coe_mul]
      congr 1
      have hs : Real.sqrt o ≠ 0 := (Real.sqrt_pos.mpr hp).ne'
      field_simp
      exact (Real.sq_sqrt ho).symm
    · have h0 : o = 0 := le_antisymm (not_lt.mp hp) ho
      subst h0
      have hc : FloatOps.cmpf (F := Ideal) (φ := .f32) CmpFPredicate.ogt ((0 : ℝ) : EReal) 0 = 0#1 := by
        show BitVec.ofBool (decide ((0 : EReal) < ((0 : ℝ) : EReal))) = 0#1
        rw [decide_eq_false (by simp)]; rfl
      rw [hc]
      show (0 : EReal) = _
      simp
  induction la using EReal.rec with
  | bot =>
    rw [EReal.coe_mul_bot_of_pos (by norm_num), Ideal.exp_bot]
    have e1 : (1 : EReal) - 0 * 0 = ((1 : ℝ) : EReal) := by simp
    have e2 : -((0 : EReal) - 1) = ((1 : ℝ) : EReal) := by simp
    rw [e1, e2, key 1 zero_le_one, Ideal.sqrt_coe, if_neg (by norm_num)]
  | top => exact absurd h (by simp)
  | coe x =>
    have hx : x ≤ 0 := by exact_mod_cast h
    rw [← EReal.coe_mul, Ideal.exp_coe, Ideal.exp_coe, ← EReal.coe_mul]
    have e : Real.exp x * Real.exp x = Real.exp (2 * x) := by rw [← Real.exp_add]; congr 1; ring
    have hle : Real.exp (2 * x) ≤ 1 := Real.exp_le_one_iff.mpr (by linarith)
    rw [e, show (1 : EReal) = ((1 : ℝ) : EReal) from rfl, ← EReal.coe_sub, ← EReal.coe_sub, ← EReal.coe_neg, neg_sub]
    rw [key _ (by linarith), Ideal.sqrt_coe, if_neg (by linarith)]

end Branch
end
-- ==== Proof.RefRead.lean ====
/-
  The reference's convolution, gates, factors and summands, element by element.
-/
module

public import proofs.«01_k».proof.Proof.RefEntry
public import proofs.«01_k».proof.Proof.Algebra
public import proofs.«01_k».proof.Proof.Entry
public import Idealize.ShloMosaic.Lib.KernelVsHost
public import Idealize.ShloMosaic.Lib.Pointwise.Tactic
public import Idealize.ShloMosaic.Lib.Pointwise.Contract

@[expose] public section

set_option maxRecDepth 16384
set_option backward.proofsInPublic true

noncomputable section

namespace RefBranch

open Cert.ReferenceIdeal Cert.ReferenceIdeal.Gen Cert.ReferenceIdeal.Value
open Idealize.ShloMosaic Idealize.ShloMosaic.TcCoe Idealize.ShloMosaic.StableHlo
open Branch (chn chk lane mk cast_row cast_stack cast3)

theorem every_apply (w : BitVec 32) (i : S16x4096x1280.Idx) : every w i = Ideal.ofBits .f32 w := rfl

theorem chan_apply (v : FVec Ideal S1280 .f32) (b : Fin 16) (s : Fin 4096) (ch : Fin 1280) : chan v (ix3 b s ch) = v (ix1 ch) := by
  unfold chan
  pointwise

theorem drop_apply (v : FVec Ideal S1x1280 .f32) (ch : Fin 1280) : drop v (ix1 ch) = v (ix2 0 ch) := cast_row v _ ch

theorem padded_apply (rx : FVec Ideal S16x4096x1280 .f32) (b : Fin 16) (s : Fin 4099) (ch : Fin 1280) :
    padded rx (ix3 b s ch) = if h : 3 ≤ s.val ∧ s.val - 3 < 4096 then rx (ix3 b ⟨s.val - 3, h.2⟩ ch) else 0 := by
  unfold padded
  by_cases h : 3 ≤ s.val
  · rw [dif_pos ⟨h, by omega⟩]
    refine pad_apply_of_inside _ _ _ rx _ _ _ (ix3 b s ch) (ix3 b ⟨s.val - 3, by omega⟩ ch) fun a => ?_
    match a with
    | ⟨0, _⟩ => show b.val = 0 + b.val * (0 + 1); omega
    | ⟨1, _⟩ => show s.val = 3 + (s.val - 3) * (0 + 1); omega
    | ⟨2, _⟩ => show ch.val = 0 + ch.val * (0 + 1); omega
  · rw [dif_neg fun h' => h h'.1]
    refine (pad_apply_of_not_inside _ _ _ rx _ _ _ (ix3 b s ch) 1 fun h' => h h'.1).trans ?_
    show (((0#32 : BitVec 32).toInt : ℝ) : EReal) = 0
    simp

theorem tap_apply (xp : FVec Ideal S16x4099x1280 .f32) (cw : FVec Ideal S1x4x1280 .f32) (k : Fin 4) (ho : S16x4099x1280.Slices ![0, k.val, 0] S16x4096x1280)
    (hq : S4x1280.Slices ![k.val, 0] S1x1280) (b : Fin 16) (s : Fin 4096) (ch : Fin 1280) :
    tap xp cw ![0, k.val, 0] ho ![k.val, 0] hq (ix3 b s ch) = xp (ix3 b ⟨s.val + k.val, by omega⟩ ch) * cw (ix3 0 k ch) := by
  unfold tap
  refine congrArg₂ (fun x y : EReal => x * y) ?_ ?_
  · refine extractStridedSlice_apply _ xp ho (ix3 b s ch) _ fun a => ?_
    match a with
    | ⟨0, _⟩ => show b.val = 0 + b.val; omega
    | ⟨1, _⟩ => show s.val + k.val = k.val + s.val; omega
    | ⟨2, _⟩ => show ch.val = 0 + ch.val; omega
  · rw [chan_apply, drop_apply]
    refine (extractStridedSlice_apply _ _ hq (ix2 0 ch) (ix2 k ch) fun a => ?_).trans (cast3 cw _ k ch)
    match a with
    | ⟨0, _⟩ => show k.val = k.val + 0; omega
    | ⟨1, _⟩ => show ch.val = 0 + ch.val; omega

theorem dot_gate_apply (L : FVec Ideal S10x128x128 .f32) (R : FVec Ideal S16x4096x10x128 .f32) (n : Fin 10) (l : Fin 128) (b : Fin 16) (s : Fin 4096) :
    Host.dotGeneral dot_S10x128x128_S16x4096x10x128_S10x128x16x4096_1_3_2_01_0_2 none L R (ix4 n l b s) = ∑ k : Fin 128, L (ix3 n k l) * R (ix4 b s n k) := by
  pointwise

theorem mapped_apply (W : FVec Ideal S1x10x128x128 .f32) (x : FVec Ideal S16x4096x1280 .f32) (b : Fin 16) (s : Fin 4096) (n : Fin 10) (l : Fin 128) :
    mapped W x (ix3 b s (chn n l)) = ∑ k : Fin 128, W (ix4 0 n k l) * x (ix3 b s (chn n k)) := by
  unfold mapped
  refine (shapeCast_apply _ _ (ix3 b s (chn n l)) (ix4 b s n l) ?_).trans ?_
  · rw [Shape.rowMajor_val_four, Shape.rowMajor_val_three]
    show ((b.val * 4096 + s.val) * 10 + n.val) * 128 + l.val = (b.val * 4096 + s.val) * 1280 + (n.val * 128 + l.val)
    omega
  refine (transpose_apply _ _ _ (ix4 b s n l) (ix4 n l b s) fun a => ?_).trans ?_
  · match a with
    | ⟨0, _⟩ => rfl
    | ⟨1, _⟩ => rfl
    | ⟨2, _⟩ => rfl
    | ⟨3, _⟩ => rfl
  refine (dot_gate_apply _ _ n l b s).trans (Finset.sum_congr rfl fun k _ => congrArg₂ (fun x y : EReal => x * y) (cast_stack W _ n k l) ?_)
  refine shapeCast_apply _ _ (ix4 b s n k) (ix3 b s (chn n k)) ?_
  rw [Shape.rowMajor_val_four, Shape.rowMajor_val_three]
  show (b.val * 4096 + s.val) * 1280 + (n.val * 128 + k.val) = ((b.val * 4096 + s.val) * 10 + n.val) * 128 + k.val
  omega

theorem gather (c x0 x1 x2 x3 y0 y1 y2 y3 : EReal) :
    0 + x0 * y0 + x1 * y1 + x2 * y2 + x3 * y3 + c = c + y0 * x0 + y1 * x1 + y2 * x2 + y3 * x3 := by
  rw [zero_add, mul_comm x0, mul_comm x1, mul_comm x2, mul_comm x3]
  ac_rfl

theorem soft_apply (v : FVec Ideal S1280 .f32) (ch : Fin 1280) : soft v (ix1 ch) = Branch.softplus (v (ix1 ch)) := by
  unfold soft Branch.softplus
  have hc : FloatOps.cmpf (F := Ideal) (φ := .f32) CmpFPredicate.une (v (ix1 ch) - Ideal.ofBits .f32 0x00000000#32) (v (ix1 ch) - Ideal.ofBits .f32 0x00000000#32) = 0#1 := by
    show BitVec.ofBool (decide (v (ix1 ch) - Ideal.ofBits .f32 0x00000000#32 ≠ v (ix1 ch) - Ideal.ofBits .f32 0x00000000#32)) = 0#1
    rw [decide_eq_false (by simp)]; rfl
  refine Eq.trans (b := (Scalar.select (FloatOps.cmpf (F := Ideal) (φ := .f32) CmpFPredicate.une (v (ix1 ch) - Ideal.ofBits .f32 0x00000000#32) (v (ix1 ch) - Ideal.ofBits .f32 0x00000000#32))
    (v (ix1 ch) + Ideal.ofBits .f32 0x00000000#32)
    (max (v (ix1 ch)) (Ideal.ofBits .f32 0x00000000#32) + Ideal.log (1 + Ideal.exp (-(max (v (ix1 ch) - Ideal.ofBits .f32 0x00000000#32) (-(v (ix1 ch) - Ideal.ofBits .f32 0x00000000#32)))))) : EReal)) rfl ?_
  rw [hc, Ideal.ofBits_zero_f32]
  show max (v (ix1 ch)) 0 + Ideal.log (1 + Ideal.exp (-(max (v (ix1 ch) - 0) (-(v (ix1 ch) - 0))))) = _
  rw [sub_zero]

section
variable (rx : FVec Ideal S16x4096x1280 .f32) (rg : FVec Ideal S16x4096x1280 .bf16) (ga : FVec Ideal S16x4096x1024 .bf16)
    (cw : FVec Ideal S1x4x1280 .f32) (cb : FVec Ideal S1x1280 .f32) (wa : FVec Ideal S1x10x128x128 .f32) (ba : FVec Ideal S1x1280 .f32)
    (wx : FVec Ideal S1x10x128x128 .f32) (bx lam : FVec Ideal S1x1280 .f32) (wo : FVec Ideal S1x1280x1024 .f32)

theorem conv_apply (b : Fin 16) (s : Fin 4096) (ch : Fin 1280) :
    conv (padded rx) cw cb (ix3 b s ch) = (mk rx rg ga cw cb wa ba wx bx lam wo).D.cv b s.val ch := by
  have t0 : tap (padded rx) cw ![0, 0, 0] slices_S16x4099x1280_S16x4096x1280_0_0_0 ![0, 0] slices_S4x1280_S1x1280_0_0 (ix3 b s ch) = _ :=
    tap_apply (padded rx) cw 0 _ _ b s ch
  have t1 : tap (padded rx) cw ![0, 1, 0] slices_S16x4099x1280_S16x4096x1280_0_1_0 ![1, 0] slices_S4x1280_S1x1280_1_0 (ix3 b s ch) = _ :=
    tap_apply (padded rx) cw 1 _ _ b s ch
  have t2 : tap (padded rx) cw ![0, 2, 0] slices_S16x4099x1280_S16x4096x1280_0_2_0 ![2, 0] slices_S4x1280_S1x1280_2_0 (ix3 b s ch) = _ :=
    tap_apply (padded rx) cw 2 _ _ b s ch
  have t3 : tap (padded rx) cw ![0, 3, 0] slices_S16x4099x1280_S16x4096x1280_0_3_0 ![3, 0] slices_S4x1280_S1x1280_3_0 (ix3 b s ch) = _ :=
    tap_apply (padded rx) cw 3 _ _ b s ch
  have e : ∀ k : Fin 4, padded rx (ix3 b ⟨s.val + k.val, by omega⟩ ch) = (mk rx rg ga cw cb wa ba wx bx lam wo).D.xp b (s.val + k.val) ch :=
    fun k => padded_apply rx b _ ch
  rw [e] at t0 t1 t2 t3
  let P : EReal → EReal → EReal := fun x y => x + y
  refine (congrArg₂ P (congrArg₂ P (congrArg₂ P (congrArg₂ P (congrArg₂ P Ideal.ofBits_zero_f32 t0) t1) t2) t3) ((chan_apply _ b s ch).trans (drop_apply cb ch))).trans ?_
  exact gather _ _ _ _ _ _ _ _ _

theorem gate_apply (W : FVec Ideal S1x10x128x128 .f32) (bias : FVec Ideal S1x1280 .f32) (b : Fin 16) (s : Fin 4096) (n : Fin 10) (l : Fin 128) :
    gate W bias (conv (padded rx) cw cb) (ix3 b s (chn n l)) = (mk rx rg ga cw cb wa ba wx bx lam wo).D.gate (fun n k l => W (ix4 0 n k l)) (fun ch => bias (ix2 0 ch)) b s.val n l := by
  unfold Branch.Data.gate
  rw [Branch.sgm_eq]
  have hm : mapped W (conv (padded rx) cw cb) (ix3 b s (chn n l)) = ∑ k : Fin 128, (mk rx rg ga cw cb wa ba wx bx lam wo).D.cv b s.val (chn n k) * W (ix4 0 n k l) := by
    rw [mapped_apply]
    refine Finset.sum_congr rfl fun k _ => ?_
    rw [conv_apply rx rg ga cw cb wa ba wx bx lam wo, mul_comm]
  have hb : chan (drop bias) (ix3 b s (chn n l)) = bias (ix2 0 (chn n l)) := (chan_apply _ b s _).trans (drop_apply bias _)
  refine Eq.trans (b := Ideal.div (Ideal.ofBits .f32 0x3F800000#32) (Ideal.ofBits .f32 0x3F800000#32
    + Ideal.exp (-(mapped W (conv (padded rx) cw cb) (ix3 b s (chn n l)) + chan (drop bias) (ix3 b s (chn n l)))))) rfl ?_
  rw [Ideal.ofBits_one_f32, hm, hb]
  rfl

/-- The logarithm of the factor, as the reference writes it. -/
theorem logA_apply (b : Fin 16) (s : Fin 4096) (n : Fin 10) (l : Fin 128) :
    logA (gate wa ba (conv (padded rx) cw cb)) (soft (Host.negf (drop lam))) (ix3 b s (chn n l))
      = 0 - (mk rx rg ga cw cb wa ba wx bx lam wo).D.gate (fun n k l => wa (ix4 0 n k l)) (fun ch => ba (ix2 0 ch)) b s.val n l * Branch.spl (lam (ix2 0 (chn n l))) := by
  unfold logA
  rw [Branch.spl_eq, Branch.logA_eq, ← gate_apply rx rg ga cw cb wa ba wx bx lam wo wa ba b s n l, ← Branch.neg_eight_eq]
  refine congrArg₂ (fun x y : EReal => x * y) rfl ?_
  refine (chan_apply _ b s _).trans ((soft_apply _ _).trans (congrArg Branch.softplus ?_))
  show -(drop lam (ix1 (chn n l))) = _
  rw [drop_apply]

theorem factor_apply (b : Fin 16) (s : Fin 4096) (n : Fin 10) (l : Fin 128) :
    Host.exp (logA (gate wa ba (conv (padded rx) cw cb)) (soft (Host.negf (drop lam)))) (ix3 b s (chn n l))
      = (mk rx rg ga cw cb wa ba wx bx lam wo).D.A b s.val n l :=
  congrArg Ideal.exp (logA_apply rx rg ga cw cb wa ba wx bx lam wo b s n l)

theorem summand_apply (b : Fin 16) (s : Fin 4096) (n : Fin 10) (l : Fin 128) :
    summand (logA (gate wa ba (conv (padded rx) cw cb)) (soft (Host.negf (drop lam)))) (gate wx bx (conv (padded rx) cw cb)) (conv (padded rx) cw cb) (ix3 b s (chn n l))
      = (mk rx rg ga cw cb wa ba wx bx lam wo).D.B b s.val n l := by
  unfold summand Branch.Data.B Branch.Data.A
  have hla := logA_apply rx rg ga cw cb wa ba wx bx lam wo b s n l
  have hle : logA (gate wa ba (conv (padded rx) cw cb)) (soft (Host.negf (drop lam))) (ix3 b s (chn n l)) ≤ 0 := by
    rw [hla, Branch.spl_eq, Branch.logA_eq]
    refine Branch.logA_nonpos _ _ ?_ (Branch.softplus_nonneg _)
    unfold Branch.Data.gate
    rw [Branch.sgm_eq]
    exact Branch.logistic_nonneg _
  have hr := Branch.root_eq _ hle
  rw [← Branch.two_eq, hla] at hr
  refine congrArg₂ (fun x y : EReal => x * y) (Eq.trans ?_ hr.symm)
    (congrArg₂ (fun x y : EReal => x * y) (gate_apply rx rg ga cw cb wa ba wx bx lam wo wx bx b s n l) (conv_apply rx rg ga cw cb wa ba wx bx lam wo b s _))
  rw [← hla]
  rfl

end
end RefBranch
end
-- ==== Proof.RefLoop.lean ====
/-
  The reference's recurrence, trip by trip, and its result.
-/
module

public import proofs.«01_k».proof.Proof.RefRead

@[expose] public section

set_option maxRecDepth 16384
set_option backward.proofsInPublic true

noncomputable section

namespace RefBranch

open Cert.ReferenceIdeal Cert.ReferenceIdeal.Gen Cert.ReferenceIdeal.Value
open Idealize.ShloMosaic Idealize.ShloMosaic.TcCoe Idealize.ShloMosaic.StableHlo
open Branch (chn chk lane mk cast_row cast_stack cast3)

/-- A time step's slab of an array laid out time first. -/
theorem slab_apply (x : FVec Ideal S4096x16x1280 .f32) (f : Fin 3 → Int) (k : Nat) (hk : k < 4096) (h0 : f 0 = k) (h1 : f 1 = 0) (h2 : f 2 = 0)
    (h : S4096x16x1280.Slices (fun _ => 0) S1x16x1280) (b : Fin 16) (ch : Fin 1280) :
    Host.dynamicSlice S1x16x1280 x f h (ix3 0 b ch) = x (ix3 ⟨k, hk⟩ b ch) := by
  refine (Host.dynamicSlice_apply x f h (ix3 0 b ch)).trans (congrArg x (funext fun a => Fin.ext ?_))
  match a with
  | ⟨0, _⟩ =>
    show Host.clampedStart S4096x16x1280 S1x16x1280 h.1 f 0 + 0 = k
    rw [Host.clampedStart_of_le h.1 f 0 k h0 (by show k + 1 ≤ 4096; omega)]; rfl
  | ⟨1, _⟩ =>
    show Host.clampedStart S4096x16x1280 S1x16x1280 h.1 f 1 + b.val = b.val
    rw [Host.clampedStart_of_le h.1 f 1 0 h1 (by show 0 + 16 ≤ 16; omega)]; omega
  | ⟨2, _⟩ =>
    show Host.clampedStart S4096x16x1280 S1x16x1280 h.1 f 2 + ch.val = ch.val
    rw [Host.clampedStart_of_le h.1 f 2 0 h2 (by show 0 + 1280 ≤ 1280; omega)]; omega

/-- A time step's slab written into an array laid out time first. -/
theorem stored_apply (x : FVec Ideal S4096x16x1280 .f32) (u : FVec Ideal S1x16x1280 .f32) (f : Fin 3 → Int) (k : Nat) (hk : k < 4096) (h0 : f 0 = k) (h1 : f 1 = 0)
    (h2 : f 2 = 0) (h : S4096x16x1280.Slices (fun _ => 0) S1x16x1280) (s : Fin 4096) (b : Fin 16) (ch : Fin 1280) :
    Host.dynamicUpdateSlice x u f h (ix3 s b ch) = if s.val = k then u (ix3 0 b ch) else x (ix3 s b ch) := by
  have c0 := Host.clampedStart_of_le (s := S4096x16x1280) (t := S1x16x1280) h.1 f 0 k h0 (by show k + 1 ≤ 4096; omega)
  have c1 := Host.clampedStart_of_le (s := S4096x16x1280) (t := S1x16x1280) h.1 f 1 0 h1 (by show 0 + 16 ≤ 16; omega)
  have c2 := Host.clampedStart_of_le (s := S4096x16x1280) (t := S1x16x1280) h.1 f 2 0 h2 (by show 0 + 1280 ≤ 1280; omega)
  refine (Host.dynamicUpdateSlice_apply x u f h (ix3 s b ch)).trans ?_
  by_cases hs : s.val = k
  · rw [if_pos hs, dif_pos]
    · refine congrArg u (funext fun a => Fin.ext ?_)
      match a with
      | ⟨0, _⟩ => show s.val - Host.clampedStart S4096x16x1280 S1x16x1280 h.1 f 0 = 0; omega
      | ⟨1, _⟩ => show b.val - Host.clampedStart S4096x16x1280 S1x16x1280 h.1 f 1 = b.val; omega
      | ⟨2, _⟩ => show ch.val - Host.clampedStart S4096x16x1280 S1x16x1280 h.1 f 2 = ch.val; omega
    · intro a
      match a with
      | ⟨0, _⟩ => show Host.clampedStart S4096x16x1280 S1x16x1280 h.1 f 0 ≤ s.val ∧ s.val < Host.clampedStart S4096x16x1280 S1x16x1280 h.1 f 0 + 1; omega
      | ⟨1, _⟩ => show Host.clampedStart S4096x16x1280 S1x16x1280 h.1 f 1 ≤ b.val ∧ b.val < Host.clampedStart S4096x16x1280 S1x16x1280 h.1 f 1 + 16; omega
      | ⟨2, _⟩ => show Host.clampedStart S4096x16x1280 S1x16x1280 h.1 f 2 ≤ ch.val ∧ ch.val < Host.clampedStart S4096x16x1280 S1x16x1280 h.1 f 2 + 1280; omega
  · rw [if_neg hs, dif_neg]
    intro hin
    have h00 : Host.clampedStart S4096x16x1280 S1x16x1280 h.1 f 0 ≤ s.val ∧ s.val < Host.clampedStart S4096x16x1280 S1x16x1280 h.1 f 0 + 1 := hin 0
    omega

section
variable (V0 : Valuation τ sig (Elt Ideal)) (k : Nat) (hk : k < 4096) (hc : V0 (Proc.devRef .tc main_v87_2) = fun _ => BitVec.ofNat 32 k)

include hc hk in
theorem start_zero : (((![V0 (Proc.devRef .tc main_v87_2), constantI S_ 32 0#32, constantI S_ 32 0#32] : Fin 3 → (⟨S_, .i32⟩ : BufTy).Contents (Elt Ideal))) 0 (Shape.Idx.first h_S_)).toInt = (k : Int) := by
  show (V0 (Proc.devRef .tc main_v87_2) (Shape.Idx.first h_S_) : BitVec 32).toInt = _
  rw [hc, BitVec.toInt_eq_toNat_of_lt] <;> rw [BitVec.toNat_ofNat] <;> omega

include hc in
/-- One step of the recurrence. -/
theorem step_apply (b : Fin 16) (ch : Fin 1280) :
    (res_main_while0b_v99 V0 : FVec Ideal S16x1280 .f32) (ix2 b ch)
      = (fun x y z : Ideal .f32 => x * y + z) ((V0 (Proc.devRef .tc main_v87_0) : FVec Ideal S4096x16x1280 .f32) (ix3 ⟨k, hk⟩ b ch))
          ((V0 (Proc.devRef .tc main_v87_3) : FVec Ideal S16x1280 .f32) (ix2 b ch)) ((V0 (Proc.devRef .tc main_v87_1) : FVec Ideal S4096x16x1280 .f32) (ix3 ⟨k, hk⟩ b ch)) := by
  unfold res_main_while0b_v99
  have h0 := start_zero V0 k hk hc
  refine congrArg₂ (fun x y : EReal => x + y) (congrArg₂ (fun x y : EReal => x * y) ?_ rfl) ?_
  · exact (cast3 _ _ b ch).trans (slab_apply (V0 (Proc.devRef .tc main_v87_0)) _ k hk h0 rfl rfl _ b ch)
  · exact (cast3 _ _ b ch).trans (slab_apply (V0 (Proc.devRef .tc main_v87_1)) _ k hk h0 rfl rfl _ b ch)

include hc hk in
/-- The states gathered, after one more step. -/
theorem gathered_apply (s : Fin 4096) (b : Fin 16) (ch : Fin 1280) :
    (step_main_v87_4 V0 : FVec Ideal S4096x16x1280 .f32) (ix3 s b ch)
      = if s.val = k then (res_main_while0b_v99 V0 : FVec Ideal S16x1280 .f32) (ix2 b ch) else (V0 (Proc.devRef .tc main_v87_4) : FVec Ideal S4096x16x1280 .f32) (ix3 s b ch) := by
  unfold step_main_v87_4
  have h0 := start_zero V0 k hk hc
  refine (stored_apply (V0 (Proc.devRef .tc main_v87_4)) _ _ k hk h0 rfl rfl _ s b ch).trans ?_
  refine congrArg (fun y : EReal => if s.val = k then y else _) ?_
  pointwise
end

section
variable (m : (ℓ : Loc nD τ sig) → Buf (Elt Ideal) ℓ) (c : Dev nD)

/-- The branch's data, as the reference is launched. -/
def ER : Branch.Full := mk (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-- The contents before the loop's last stretch of operations. -/
def before : Valuation τ sig (Elt Ideal) := after hostOps0_1 (after hostOps0 (launchContents m c))

theorem entry_eq : entryContents preI m c = after hostOps0_4 (after hostOps0_3 (after hostOps0_2 (before m c))) := by
  unfold before
  simp only [entryContents, afterL_cons, afterL_nil]

theorem before_arg3 : before m c (Proc.devRef .tc main_arg3) = m ((c.tc : Thread nD τ).loc main_arg3) := by
  unfold before; rw [keep_main_arg3_hostOps0_1, keep_main_arg3_hostOps0]
theorem before_arg4 : before m c (Proc.devRef .tc main_arg4) = m ((c.tc : Thread nD τ).loc main_arg4) := by
  unfold before; rw [keep_main_arg4_hostOps0_1, keep_main_arg4_hostOps0]
theorem before_arg5 : before m c (Proc.devRef .tc main_arg5) = m ((c.tc : Thread nD τ).loc main_arg5) := by
  unfold before; rw [keep_main_arg5_hostOps0_1, keep_main_arg5_hostOps0]
theorem before_arg6 : before m c (Proc.devRef .tc main_arg6) = m ((c.tc : Thread nD τ).loc main_arg6) := by
  unfold before; rw [keep_main_arg6_hostOps0_1, keep_main_arg6_hostOps0]
theorem before_arg7 : before m c (Proc.devRef .tc main_arg7) = m ((c.tc : Thread nD τ).loc main_arg7) := by
  unfold before; rw [keep_main_arg7_hostOps0_1, keep_main_arg7_hostOps0]
theorem before_arg8 : before m c (Proc.devRef .tc main_arg8) = m ((c.tc : Thread nD τ).loc main_arg8) := by
  unfold before; rw [keep_main_arg8_hostOps0_1, keep_main_arg8_hostOps0]
theorem before_arg9 : before m c (Proc.devRef .tc main_arg9) = m ((c.tc : Thread nD τ).loc main_arg9) := by
  unfold before; rw [keep_main_arg9_hostOps0_1, keep_main_arg9_hostOps0]
theorem before_v0 : before m c (Proc.devRef .tc main_v0) = padded (m ((c.tc : Thread nD τ).loc main_arg0)) := first_v0 _

/-- The logarithm of the factors before the loop. -/
theorem before_logA : mulf (after hostOps0_3 (after hostOps0_2 (before m c)) (Proc.devRef .tc main_v68)) (chan (after hostOps0_3 (after hostOps0_2 (before m c)) (Proc.devRef .tc main_v71)))
    = logA (gate (m ((c.tc : Thread nD τ).loc main_arg5)) (m ((c.tc : Thread nD τ).loc main_arg6)) (conv (padded (m ((c.tc : Thread nD τ).loc main_arg0))) (m ((c.tc : Thread nD τ).loc main_arg3)) (m ((c.tc : Thread nD τ).loc main_arg4))))
      (soft (Host.negf (drop (m ((c.tc : Thread nD τ).loc main_arg9))))) := by
  unfold logA
  rw [third_v68, third_v71, second_v68, second_v70, before_v0, before_arg3, before_arg4, before_arg5, before_arg6, before_arg9]

theorem first_factor (s : Fin 4096) (b : Fin 16) (n : Fin 10) (l : Fin 128) :
    (entryContents preI m c (Proc.devRef .tc main_v87_0) : FVec Ideal S4096x16x1280 .f32) (ix3 s b (chn n l)) = (ER m c).D.A b s.val n l := by
  rw [entry_eq, fourth_a, before_logA]
  refine (transpose_apply _ _ _ (ix3 s b (chn n l)) (ix3 b s (chn n l)) fun a => ?_).trans (factor_apply _ _ _ _ _ _ _ _ _ _ _ b s n l)
  match a with
  | ⟨0, _⟩ => rfl
  | ⟨1, _⟩ => rfl
  | ⟨2, _⟩ => rfl

theorem first_summand (s : Fin 4096) (b : Fin 16) (n : Fin 10) (l : Fin 128) :
    (entryContents preI m c (Proc.devRef .tc main_v87_1) : FVec Ideal S4096x16x1280 .f32) (ix3 s b (chn n l)) = (ER m c).D.B b s.val n l := by
  rw [entry_eq, fourth_b, before_logA, third_v66, third_v37, second_v66, second_v37, before_v0, before_arg3, before_arg4, before_arg7, before_arg8]
  refine (transpose_apply _ _ _ (ix3 s b (chn n l)) (ix3 b s (chn n l)) fun a => ?_).trans (summand_apply _ _ _ _ _ _ _ _ _ _ _ b s n l)
  match a with
  | ⟨0, _⟩ => rfl
  | ⟨1, _⟩ => rfl
  | ⟨2, _⟩ => rfl

theorem first_state (b : Fin 16) (ch : Fin 1280) : (entryContents preI m c (Proc.devRef .tc main_v87_3) : FVec Ideal S16x1280 .f32) (ix2 b ch) = (0 : Ideal .f32) := by
  rw [entry_eq, fourth_h]
  exact Ideal.ofBits_zero_f32

/-- What the loop's carried values are after `k` trips. -/
structure Trips (k : Nat) (V : Valuation τ sig (Elt Ideal)) : Prop where
  count : V (Proc.devRef .tc main_v87_2) = fun _ => BitVec.ofNat 32 k
  a : ∀ (s : Fin 4096) (b : Fin 16) (n : Fin 10) (l : Fin 128), (V (Proc.devRef .tc main_v87_0) : FVec Ideal S4096x16x1280 .f32) (ix3 s b (chn n l)) = (ER m c).D.A b s.val n l
  b : ∀ (s : Fin 4096) (b : Fin 16) (n : Fin 10) (l : Fin 128), (V (Proc.devRef .tc main_v87_1) : FVec Ideal S4096x16x1280 .f32) (ix3 s b (chn n l)) = (ER m c).D.B b s.val n l
  h : ∀ (b : Fin 16) (n : Fin 10) (l : Fin 128), (V (Proc.devRef .tc main_v87_3) : FVec Ideal S16x1280 .f32) (ix2 b (chn n l)) = (ER m c).D.H b n l k
  hs : ∀ (s : Fin 4096) (b : Fin 16) (n : Fin 10) (l : Fin 128), s.val < k →
    (V (Proc.devRef .tc main_v87_4) : FVec Ideal S4096x16x1280 .f32) (ix3 s b (chn n l)) = (ER m c).D.H b n l (s.val + 1)

theorem trips : ∀ k ≤ 4096, Trips m c k (STEP^[k] (entryContents preI m c))
  | 0, _ =>
    { count := ctr_entry m c
      a := first_factor m c
      b := first_summand m c
      h := fun b n l => first_state m c b _
      hs := fun s b n l h => absurd h (Nat.not_lt_zero _) }
  | k + 1, hk => by
    have ih := trips k (by omega)
    rw [Function.iterate_succ_apply']
    generalize STEP^[k] (entryContents preI m c) = V at ih
    have hres : ∀ (b : Fin 16) (n : Fin 10) (l : Fin 128), (res_main_while0b_v99 V : FVec Ideal S16x1280 .f32) (ix2 b (chn n l)) = (ER m c).D.H b n l (k + 1) := fun b n l => by
      rw [step_apply V k (by omega) ih.count b (chn n l), ih.a, ih.b, ih.h]
      exact ((ER m c).D.H_succ b n l k).symm
    exact
    { count := by
        rw [STEP_main_v87_2]; unfold step_main_v87_2; rw [ih.count]
        funext i
        exact (BitVec.ofNat_add k 1).symm
      a := fun s b n l => by rw [STEP_main_v87_0]; exact ih.a s b n l
      b := fun s b n l => by rw [STEP_main_v87_1]; exact ih.b s b n l
      h := fun b n l => by rw [STEP_main_v87_3]; exact hres b n l
      hs := fun s b n l h => by
        rw [STEP_main_v87_4, gathered_apply V k (by omega) ih.count]
        by_cases hs : s.val = k
        · rw [if_pos hs, hs]; exact hres b n l
        · rw [if_neg hs]; exact ih.hs s b n l (by omega) }

theorem dot_out_apply (L : FVec Ideal S16x4096x1280 .f32) (R : FVec Ideal S1280x1024 .f32) (b : Fin 16) (s : Fin 4096) (j : Fin 1024) :
    Host.dotGeneral dot_S16x4096x1280_S1280x1024_S16x4096x1024_2_0_01_1_n_n none L R (ix3 b s j) = ∑ ch : Fin 1280, L (ix3 b s ch) * R (ix2 ch j) := by
  pointwise

theorem ER_ga (b : Fin 16) (s : Fin 4096) (j : Fin 1024) :
    (ER m c).ga b s.val j = (m ((c : Thread nD τ).loc main_arg2) : FVec Ideal S16x4096x1024 .bf16) (ix3 b s j) := by
  unfold ER mk; dsimp only; rw [dif_pos s.isLt]

theorem ER_rg (b : Fin 16) (s : Fin 4096) (ch : Fin 1280) :
    (ER m c).rg b s.val ch = (m ((c : Thread nD τ).loc main_arg1) : FVec Ideal S16x4096x1280 .bf16) (ix3 b s ch) := by
  unfold ER mk; dsimp only; rw [dif_pos s.isLt]

/-- The reference's result. -/
theorem reference_result (b : Fin 16) (s : Fin 4096) (j : Fin 1024) :
    (out_main_v95 (STEP^[4096] (entryContents preI m c)) : FVec Ideal S16x4096x1024 .bf16) (ix3 b s j) = (ER m c).out b s.val j := by
  have T := trips m c 4096 le_rfl
  unfold out_main_v95
  rw [iter_main_arg1, iter_main_arg2, iter_main_arg10]
  generalize STEP^[4096] (entryContents preI m c) = V at T
  refine congrArg₂ (fun x y : EReal => x * y) (ER_ga m c b s j).symm ?_
  refine (dot_out_apply _ _ b s j).trans (Finset.sum_congr rfl fun ch _ => ?_)
  refine congrArg₂ (fun x y : EReal => x * y) (congrArg₂ (fun x y : EReal => x * y) (ER_rg m c b s ch).symm ?_) (cast3 _ _ ch j)
  refine (transpose_apply _ _ _ (ix3 b s ch) (ix3 s b ch) fun a => ?_).trans ?_
  · match a with
    | ⟨0, _⟩ => rfl
    | ⟨1, _⟩ => rfl
    | ⟨2, _⟩ => rfl
  · have h := T.hs s b (chk ch) (lane ch) s.isLt
    rw [Branch.chn_chk_lane] at h
    exact h
end

end RefBranch
end
-- ==== Proof.InSpec.lean ====
/-
  The input projection as plain arithmetic over the extended reals, row by row.
-/
module

public import proofs.«01_k».proof.Proof.Spec

@[expose] public section

noncomputable section

namespace InProj

open Idealize.ShloMosaic

/-- What the projection is computed from: the rows, the norm's weights, the projection's and the convolution's. -/
structure Data where
  x : Nat → Fin 1024 → Ideal .f32
  nw : Fin 1024 → Ideal .f32
  w : Fin 1024 → Fin 8720 → Ideal .f32
  dw : Fin 4 → Fin 3072 → Ideal .f32

/-- The constants of the norms. -/
def dim : Ideal .f32 := Ideal.ofBits .f32 0x44800000#32
def eps : Ideal .f32 := Ideal.ofBits .f32 0x358637BD#32
def scale : Ideal .f32 := Ideal.ofBits .f32 0x3DB504F3#32

/-- The tanh form of GELU. -/
def gelu (y : Ideal .f32) : Ideal .f32 :=
  y * (half' * (one + Ideal.tanh (Ideal.ofBits .f32 0x3F4C422A#32 * (y + Ideal.ofBits .f32 0x3D372713#32 * (y * (y * y))))))
where
  half' : Ideal .f32 := Ideal.ofBits .f32 0x3F000000#32
  one : Ideal .f32 := Ideal.ofBits .f32 0x3F800000#32

/-- `y` times its logistic. -/
def silu (y : Ideal .f32) : Ideal .f32 := y * Branch.sgm y

variable (D : Data)

/-- The normalised row. -/
def Data.u (r : Nat) (k : Fin 1024) : Ideal .f32 :=
  D.x r k * Ideal.rsqrt (Ideal.div (∑ k : Fin 1024, D.x r k * D.x r k) dim + eps) * D.nw k

/-- One column of the projection. -/
def Data.pre (r : Nat) (j : Fin 8720) : Ideal .f32 := ∑ k : Fin 1024, D.u r k * D.w k j

/-- The column of q, k and v. -/
def Data.qkv (r : Nat) (j : Fin 3072) : Ideal .f32 := D.pre r ⟨2560 + j.val, by omega⟩

/-- The row three before, and on, within the sequence of 4096 rows. -/
def Data.tap (r k : Nat) (j : Fin 3072) : Ideal .f32 := if 3 ≤ r % 4096 + k then D.qkv (r + k - 3) j else 0

/-- The causal convolution. -/
def Data.cv (r : Nat) (j : Fin 3072) : Ideal .f32 :=
  0 + D.dw 0 j * D.tap r 0 j + D.dw 1 j * D.tap r 1 j + D.dw 2 j * D.tap r 2 j + D.dw 3 j * D.tap r 3 j

/-- Activated. -/
def Data.cs (r : Nat) (j : Fin 3072) : Ideal .f32 := silu (D.cv r j)

/-- A lane of a head of q, k or v. -/
def lane (p : Fin 3) (h : Fin 8) (l : Fin 128) : Fin 3072 := ⟨p.val * 1024 + h.val * 128 + l.val, by omega⟩

/-- The reciprocal length of a head's row. -/
def Data.len (r : Nat) (p : Fin 3) (h : Fin 8) : Ideal .f32 :=
  Ideal.rsqrt ((∑ l : Fin 128, D.cs r (lane p h l) * D.cs r (lane p h l)) + eps)

def Data.rx (r : Nat) (j : Fin 1280) : Ideal .f32 := D.pre r ⟨j.val, by omega⟩
def Data.rg (r : Nat) (j : Fin 1280) : Ideal .f32 := gelu (D.pre r ⟨1280 + j.val, by omega⟩)
def Data.q (r : Nat) (h : Fin 8) (l : Fin 128) : Ideal .f32 := D.cs r (lane 0 h l) * (D.len r 0 h * scale)
def Data.k (r : Nat) (h : Fin 8) (l : Fin 128) : Ideal .f32 := D.cs r (lane 1 h l) * D.len r 1 h
def Data.v (r : Nat) (h : Fin 8) (l : Fin 128) : Ideal .f32 := D.cs r (lane 2 h l)
def Data.z (r : Nat) (j : Fin 1024) : Ideal .f32 := silu (D.pre r ⟨5632 + j.val, by omega⟩)
def Data.ga (r : Nat) (j : Fin 1024) : Ideal .f32 := Branch.sgm (D.pre r ⟨6672 + j.val, by omega⟩)
def Data.gb (r : Nat) (j : Fin 1024) : Ideal .f32 := Branch.sgm (D.pre r ⟨7696 + j.val, by omega⟩)
def Data.a (r : Nat) (j : Fin 128) : Ideal .f32 := if h : j.val < 8 then D.pre r ⟨6656 + j.val, by omega⟩ else 0
def Data.b (r : Nat) (j : Fin 128) : Ideal .f32 := if h : j.val < 8 then D.pre r ⟨6664 + j.val, by omega⟩ else 0

end InProj

end
-- ==== Proof.InBody.lean ====
/-
  One grid point of the input projection kernel, written once for every column block, head and row block.

  The kernel normalises 256 rows, projects them by blocks of 256 columns, and convolves q, k and v by blocks of 64 rows of
  one head, all of them written out one after the other. Here each stage is one function of the block.
-/
module

public import proofs.«01_k».proof.Proof.Gen.Kernel2Ideal.Frame.Runs
public import proofs.«01_k».proof.Proof.InSpec

@[expose] public section

set_option maxRecDepth 16384

noncomputable section

namespace InProj

open Cert.Kernel2Ideal Cert.Kernel2Ideal.Gen
open Idealize.ShloMosaic Idealize.ShloMosaic.TcCoe

variable {F : FTy → Type} [FloatOps F]

/-! ### Rectangles -/

theorem in2 {A B p q a b : Nat} (hp : p + a ≤ A) (hq : q + b ≤ B) :
    ∀ x : Fin 2, (![p, q] : Fin 2 → Nat) x + (![a, b] : Fin 2 → Nat) x ≤ (![A, B] : Fin 2 → Nat) x := by
  intro x
  match x with
  | ⟨0, _⟩ => exact hp
  | ⟨1, _⟩ => exact hq

/-- 256 columns of the weights. -/
def wCols (o : Nat) (h : o + 256 ≤ 8704) : Rect S1024x8704 := Rect.unit ![0, o] S1024x256.size (in2 (by omega) (by omega))
/-- 256 columns of a 1280-wide output, of a 1024-wide one. -/
def cols5 (n : Fin 5) : Rect S256x1280 := Rect.unit ![0, n.val * 256] S256x256.size (in2 (by omega) (by omega))
def cols4 (n : Fin 4) : Rect S256x1024 := Rect.unit ![0, n.val * 256] S256x256.size (in2 (by omega) (by omega))
/-- 256 columns of the staged rows of q, k and v, below the eight carried rows. -/
def stRect (n : Fin 12) : Rect S264x3072 := Rect.unit ![8, n.val * 256] S256x256.size (in2 (by omega) (by omega))
/-- The first and the last eight staged rows. -/
def topRect : Rect S264x3072 := Rect.unit ![0, 0] S8x3072.size (in2 (by omega) (by omega))
def botRect : Rect S264x3072 := Rect.unit ![256, 0] S8x3072.size (in2 (by omega) (by omega))
/-- The 64 rows that tap `k` reads of a head. -/
def tapRect (p : Fin 3) (h : Fin 8) (r : Fin 4) (k : Fin 4) : Rect S264x3072 :=
  Rect.unit ![r.val * 64 + 5 + k.val, p.val * 1024 + h.val * 128] S64x128.size (in2 (by omega) (by omega))
/-- A tap's weights of a head. -/
def dwRect (p : Fin 3) (h : Fin 8) (k : Fin 4) : Rect S4x3072 :=
  Rect.unit ![k.val, p.val * 1024 + h.val * 128] S1x128.size (in2 (by omega) (by omega))
/-- 64 rows of a head of an output. -/
def hdRect (h : Fin 8) (r : Fin 4) : Rect S256x1024 :=
  Rect.unit ![r.val * 64, h.val * 128] S64x128.size (in2 (by omega) (by omega))

/-! ### The stages -/

/-- A block of the projection. -/
def dot (u : FVec F S256x1024 .bf16) (w : Vec F S1024x256 .bf16) : FVec F S256x256 .f32 :=
  matmul dot_S256x1024_S1024x256_S256x256_1_0_0_1_n_n none u (shapeCast S1024x256 w shapeCasts_S1024x256_S1024x256)
    (constant S256x256 .f32 0x00000000#32)

/-- A block of the two narrow projections. -/
def dotN (u : FVec F S256x1024 .bf16) (w : Vec F S1024x128 .bf16) : FVec F S256x128 .f32 :=
  matmul dot_S256x1024_S1024x128_S256x128_1_0_0_1_n_n none u (shapeCast S1024x128 w shapeCasts_S1024x128_S1024x128)
    (constant S256x128 .f32 0x00000000#32)

/-- The logistic of a block. -/
def sgmB (y : FVec F S256x256 .f32) : FVec F S256x256 .f32 :=
  addf (mulf (broadcast S256x256 (Scalar.ofBits .f32 0x3F000000#32)) (tanh (mulf (broadcast S256x256 (Scalar.ofBits .f32 0x3F000000#32)) y)))
    (broadcast S256x256 (Scalar.ofBits .f32 0x3F000000#32))

/-- The GELU of a block. -/
def geluB (y : FVec F S256x256 .f32) : FVec F S256x256 .bf16 :=
  truncf .bf16 (mulf y (mulf (broadcast S256x256 (Scalar.ofBits .f32 0x3F000000#32)) (addf (broadcast S256x256 (Scalar.ofBits .f32 0x3F800000#32))
    (tanh (mulf (broadcast S256x256 (Scalar.ofBits .f32 0x3F4C422A#32)) (addf y (mulf (broadcast S256x256 (Scalar.ofBits .f32 0x3D372713#32))
      (mulf y (mulf y y))))))))) bitsLt_bf16_f32

/-- The convolution of 64 rows of a head, activated. -/
def convB (d : Fin 4 → Vec F S1x128 .f32) (p : Fin 4 → Vec F S64x128 .f32) : FVec F S64x128 .f32 :=
  let tp (k : Fin 4) : FVec F S64x128 .f32 :=
    mulf (broadcastTo S64x128 (shapeCast S1x128 (d k) shapeCasts_S1x128_S1x128) broadcasts_S1x128_S64x128) (p k)
  let c := addf (addf (addf (addf (broadcast S64x128 (Scalar.ofBits .f32 0x00000000#32)) (tp 0)) (tp 1)) (tp 2)) (tp 3)
  mulf c (addf (mulf (broadcast S64x128 (Scalar.ofBits .f32 0x3F000000#32)) (tanh (mulf (broadcast S64x128 (Scalar.ofBits .f32 0x3F000000#32)) c)))
    (broadcast S64x128 (Scalar.ofBits .f32 0x3F000000#32)))

/-- The reciprocal lengths of a head's rows. -/
def lenB (c : FVec F S64x128 .f32) : FVec F S64x1 .f32 :=
  rsqrt (addf (shapeCast S64x1 (multiReduction .add [1] S64 (mulf c c) 0x00000000#32 reduces_S64x128_S64 (.inl rfl) rfl) shapeCasts_S64_S64x1)
    (broadcast S64x1 (Scalar.ofBits .f32 0x358637BD#32)))

/-- A block of q and of k. -/
def qB (c : FVec F S64x128 .f32) : FVec F S64x128 .f32 :=
  mulf c (broadcastTo S64x128 (mulf (lenB c) (broadcast S64x1 (Scalar.ofBits .f32 0x3DB504F3#32))) broadcasts_S64x1_S64x128)
def kB (c : FVec F S64x128 .f32) : FVec F S64x128 .f32 := mulf c (broadcastTo S64x128 (lenB c) broadcasts_S64x1_S64x128)

/-! ### The stages over the buffers' reads -/

variable (arg1 : Memref sig .tc .vmem S256x1024 .f32) (harg1 : arg1.IsWhole) (arg2 : Memref sig .tc .vmem S1x1024 .f32) (harg2 : arg2.IsWhole)
  (arg3 : Memref sig .tc .vmem S1024x8704 .bf16) (harg3 : arg3.IsWhole) (arg4 : Memref sig .tc .vmem S1024x128 .bf16) (harg4 : arg4.IsWhole)
  (arg6 : Memref sig .tc .vmem S4x3072 .f32) (harg6 : arg6.IsWhole)
  (x0 : Vec F S256x1024 .f32) (x1 : Vec F S1x1024 .f32) (x2 : Vec F S1024x8704 .bf16) (x3 : Vec F S1024x128 .bf16) (x5 : Vec F S4x3072 .f32)
  (rd : Fin 3 → Fin 8 → Fin 4 → Fin 4 → Vec F S64x128 .f32)

/-- The normalised rows. -/
def uRd : FVec F S256x1024 .bf16 :=
  k0_pay3 (arg1.view.readAt (Elt F) (Rect.unit ![0, 0] S256x1024.size inb_S256x1024_S256x1024_0_0).toLoadRect (harg1.unread x0))
    (arg2.view.readAt (Elt F) (Rect.unit ![0, 0] S1x1024.size inb_S1x1024_S1x1024_0_0).toLoadRect (harg2.unread x1))

/-- 256 columns of the weights as loaded. -/
def wRd (o : Nat) (h : o + 256 ≤ 8704) : Vec F S1024x256 .bf16 := arg3.view.readAt (Elt F) (wCols o h).toLoadRect (harg3.unread x2)

/-- A block of the projection, from the buffers. -/
def blk (u : FVec F S256x1024 .bf16) (o : Nat) (h : o + 256 ≤ 8704) : FVec F S256x256 .f32 := dot u (wRd arg3 harg3 x2 o h)

/-- A head's activated convolution, from the buffers. -/
def cRd (p : Fin 3) (h : Fin 8) (r : Fin 4) : FVec F S64x128 .f32 :=
  convB (fun k => arg6.view.readAt (Elt F) (dwRect p h k).toLoadRect (harg6.unread x5)) (rd p h r)

/-! ### What is written, the last first -/

/-- The staged rows of q, k and v. -/
def stList (u : FVec F S256x1024 .bf16) : List (View.Piece (Elt F) S264x3072 .f32) :=
  List.ofFn fun n : Fin 12 => ⟨stRect n.rev, shapeCast S256x256 (blk arg3 harg3 x2 u (2560 + n.rev.val * 256) (by omega)) shapeCasts_S256x256_S256x256⟩

def rxList (u : FVec F S256x1024 .bf16) : List (View.Piece (Elt F) S256x1280 .f32) :=
  List.ofFn fun n : Fin 5 => ⟨cols5 n.rev, blk arg3 harg3 x2 u (n.rev.val * 256) (by omega)⟩

def rgList (u : FVec F S256x1024 .bf16) : List (View.Piece (Elt F) S256x1280 .bf16) :=
  List.ofFn fun n : Fin 5 => ⟨cols5 n.rev, geluB (blk arg3 harg3 x2 u (1280 + n.rev.val * 256) (by omega))⟩

def zList (u : FVec F S256x1024 .bf16) : List (View.Piece (Elt F) S256x1024 .bf16) :=
  List.ofFn fun n : Fin 4 => ⟨cols4 n.rev, truncf .bf16 (mulf (blk arg3 harg3 x2 u (5632 + n.rev.val * 256) (by omega))
    (sgmB (blk arg3 harg3 x2 u (5632 + n.rev.val * 256) (by omega)))) bitsLt_bf16_f32⟩

/-- The merge gates, their columns starting at `o`. -/
def gList (o : Nat) (ho : o + 1024 ≤ 8704) (u : FVec F S256x1024 .bf16) : List (View.Piece (Elt F) S256x1024 .bf16) :=
  List.ofFn fun n : Fin 4 => ⟨cols4 n.rev, truncf .bf16 (sgmB (blk arg3 harg3 x2 u (o + n.rev.val * 256) (by omega))) bitsLt_bf16_f32⟩

/-- Heads of one part, each in four row blocks. -/
def hdList (f : FVec F S64x128 .f32 → FVec F S64x128 .f32) (p : Fin 3) : List (View.Piece (Elt F) S256x1024 .f32) :=
  List.ofFn fun n : Fin 32 => ⟨hdRect ⟨n.rev.val / 4, by omega⟩ ⟨n.rev.val % 4, by omega⟩,
    f (cRd arg6 harg6 x5 rd p ⟨n.rev.val / 4, by omega⟩ ⟨n.rev.val % 4, by omega⟩)⟩

/-- The two narrow outputs. -/
def nList (u : FVec F S256x1024 .bf16) : List (View.Piece (Elt F) S256x128 .f32) :=
  [⟨Rect.unit ![0, 0] S256x128.size inb_S256x128_S256x128_0_0, dotN u
    (arg4.view.readAt (Elt F) (Rect.unit ![0, 0] S1024x128.size inb_S1024x128_S1024x128_0_0).toLoadRect (harg4.unread x3))⟩]

/-- The carried rows, the last written. -/
def topP (bot : Vec F S8x3072 .f32) : View.Piece (Elt F) S264x3072 .f32 :=
  ⟨topRect, shapeCast S8x3072 bot shapeCasts_S8x3072_S8x3072⟩

end InProj

end
-- ==== Proof.InPieceA.lean ====
/-
  A first grid point of a sequence: what is stored is the stages of one column block, one head and one row block, at every one of them.
-/
module

public import proofs.«01_k».proof.Proof.Gen.Kernel2Ideal.Frame.RunA
public import proofs.«01_k».proof.Proof.InBody

@[expose] public section

set_option maxRecDepth 16384

noncomputable section

namespace InProj.A

open Cert.Kernel2Ideal Cert.Kernel2Ideal.Gen
open Idealize.ShloMosaic Idealize.ShloMosaic.TcCoe

variable {F : FTy → Type} [FloatOps F]
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x8704 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S256x1280 .f32) (harg7 : arg7.IsWhole) (arg8 : Memref sig .tc .vmem S256x1280 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S256x128 .f32) (harg16 : arg16.IsWhole) (arg17 : Memref sig .tc .vmem S264x3072 .f32) (harg17 : arg17.IsWhole) (hc0 : cond0_0 i)
    (x0 : Vec F S256x1024 .f32) (x1 : Vec F S1x1024 .f32) (x2 : Vec F S1024x8704 .bf16) (x3 : Vec F S1024x128 .bf16) (x4 : Vec F S1024x128 .bf16) (x5 : Vec F S4x3072 .f32)

/-- The rows staged so far. -/
theorem hs_eq : kernelRun0_A.sl.HS0_13 c arg1 harg1 arg2 harg2 arg3 harg3 x0 x1 x2 = stList arg3 harg3 x2 (uRd arg1 harg1 arg2 harg2 x0 x1) ++ [⟨topRect, k0_pay2⟩] := by sl_kernel_rfl

/-- The 64 rows that a tap reads. -/
def rd (p : Fin 3) (h : Fin 8) (r : Fin 4) (k : Fin 4) : Vec F S64x128 .f32 :=
  arg17.view.readCov (kernelRun0_A.sl.HS0_13 c arg1 harg1 arg2 harg2 arg3 harg3 x0 x1 x2) (tapRect p h r k).toLoadRect

theorem rx_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1
    = rxList arg3 harg3 x2 (uRd arg1 harg1 arg2 harg2 x0 x1) := by
  dsimp only [kernelRun0_A]; sl_kernel_rfl

theorem rg_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.1
    = rgList arg3 harg3 x2 (uRd arg1 harg1 arg2 harg2 x0 x1) := by
  dsimp only [kernelRun0_A]; sl_kernel_rfl

theorem q_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.1
    = hdList arg6 harg6 x5 (rd c arg1 harg1 arg2 harg2 arg3 harg3 arg17 x0 x1 x2) qB 0 := by
  dsimp only [kernelRun0_A]; sl_kernel_rfl

theorem k_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.1
    = hdList arg6 harg6 x5 (rd c arg1 harg1 arg2 harg2 arg3 harg3 arg17 x0 x1 x2) kB 1 := by
  dsimp only [kernelRun0_A]; sl_kernel_rfl

theorem v_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.1
    = hdList arg6 harg6 x5 (rd c arg1 harg1 arg2 harg2 arg3 harg3 arg17 x0 x1 x2) (fun y => y) 2 := by
  dsimp only [kernelRun0_A]; sl_kernel_rfl

theorem z_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.1
    = zList arg3 harg3 x2 (uRd arg1 harg1 arg2 harg2 x0 x1) := by
  dsimp only [kernelRun0_A]; sl_kernel_rfl

theorem ga_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.1
    = gList arg3 harg3 x2 6656 (by omega) (uRd arg1 harg1 arg2 harg2 x0 x1) := by
  dsimp only [kernelRun0_A]; sl_kernel_rfl

theorem gb_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.1
    = gList arg3 harg3 x2 7680 (by omega) (uRd arg1 harg1 arg2 harg2 x0 x1) := by
  dsimp only [kernelRun0_A]; sl_kernel_rfl

theorem na_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.2.1
    = nList arg4 harg4 x3 (uRd arg1 harg1 arg2 harg2 x0 x1) := by
  dsimp only [kernelRun0_A]; sl_kernel_rfl

theorem nb_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.2.2.1
    = nList arg5 harg5 x4 (uRd arg1 harg1 arg2 harg2 x0 x1) := by
  dsimp only [kernelRun0_A]; sl_kernel_rfl

theorem st_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.2.2.2.1
    = topP (arg17.view.readCov (kernelRun0_A.sl.HS0_13 c arg1 harg1 arg2 harg2 arg3 harg3 x0 x1 x2) botRect.toLoadRect) :: (kernelRun0_A.sl.HS0_13 c arg1 harg1 arg2 harg2 arg3 harg3 x0 x1 x2) := by
  dsimp only [kernelRun0_A]; sl_kernel_rfl

end InProj.A

end
-- ==== Proof.InReads.lean ====
/-
  The stages of the input projection, element by element, and what the stores of a grid point leave.
-/
module

public import proofs.«01_k».proof.Proof.InBody
public import proofs.«01_k».proof.Proof.Reads
public import Idealize.ShloMosaic.Lib.WholeRead
public import Idealize.ShloMosaic.Lib.Pointwise.Reduce

@[expose] public section

set_option maxRecDepth 16384

noncomputable section

namespace InProj

open Cert.Kernel2Ideal Cert.Kernel2Ideal.Gen
open Idealize.ShloMosaic Idealize.ShloMosaic.TcCoe Idealize.SL

/-! ### Loads and stores of boxes -/

/-- A box of a whole buffer, loaded. -/
theorem read2 {A B a b p q : Nat} {e : EltTy} {sp : Space} (m : Memref sig .tc sp ⟨2, ![A, B]⟩ e) (hm : m.IsWhole) (X : Vec Ideal ⟨2, ![A, B]⟩ e)
    (h : ∀ x : Fin 2, (![p, q] : Fin 2 → Nat) x + (![a, b] : Fin 2 → Nat) x ≤ (![A, B] : Fin 2 → Nat) x) (i : Fin a) (j : Fin b) (i' : Fin A) (j' : Fin B)
    (hi : i'.val = p + i.val) (hj : j'.val = q + j.val) :
    m.view.readAt (Elt Ideal) (Rect.unit (s := ⟨2, ![A, B]⟩) ![p, q] ![a, b] h).toLoadRect (hm.unread X) (ix2 i j) = X (ix2 i' j') := by
  refine (hm.readAt_unread _ _ _).trans (congrArg X ?_)
  funext x
  match x with
  | ⟨0, _⟩ => exact Fin.ext (show p + 1 * i.val = i'.val by omega)
  | ⟨1, _⟩ => exact Fin.ext (show q + 1 * j.val = j'.val by omega)

/-- Where a box's entry lies. -/
theorem box_emb {A B a b p q : Nat}
    (h : ∀ x : Fin 2, (![p, q] : Fin 2 → Nat) x + (![a, b] : Fin 2 → Nat) x ≤ (![A, B] : Fin 2 → Nat) x) (i : Fin a) (j : Fin b) :
    ∃ (i' : Fin A) (j' : Fin B), (Rect.unit (s := ⟨2, ![A, B]⟩) ![p, q] ![a, b] h).emb (ix2 i j) = ix2 i' j' ∧ i'.val = p + i.val ∧ j'.val = q + j.val := by
  have h0 : p + a ≤ A := h 0
  have h1 : q + b ≤ B := h 1
  refine ⟨⟨p + i.val, by omega⟩, ⟨q + j.val, by omega⟩, ?_, rfl, rfl⟩
  funext x
  match x with
  | ⟨0, _⟩ => exact Fin.ext (show p + 1 * i.val = p + i.val by omega)
  | ⟨1, _⟩ => exact Fin.ext (show q + 1 * j.val = q + j.val by omega)

/-- Where a box lies. -/
theorem box_mem {A B a b p q : Nat}
    (h : ∀ x : Fin 2, (![p, q] : Fin 2 → Nat) x + (![a, b] : Fin 2 → Nat) x ≤ (![A, B] : Fin 2 → Nat) x) (i : Fin A) (j : Fin B)
    (h0 : p ≤ i.val) (h1 : i.val < p + a) (h2 : q ≤ j.val) (h3 : j.val < q + b) :
    (ix2 i j : (⟨2, ![A, B]⟩ : Shape).Idx) ∈ (Rect.unit (s := ⟨2, ![A, B]⟩) ![p, q] ![a, b] h).set := by
  refine Rect.mem_set_unit.mpr fun x => ?_
  match x with
  | ⟨0, _⟩ => exact ⟨h0, h1⟩
  | ⟨1, _⟩ => exact ⟨h2, h3⟩

/-- A store of a box that agrees with `g`. -/
def Agrees {A B : Nat} {e : EltTy} (g : Fin A → Fin B → Elt Ideal e) (P : View.Piece (Elt Ideal) ⟨2, ![A, B]⟩ e) : Prop :=
  ∀ x : P.1.shape.Idx, P.2 x = g (P.1.emb x 0) (P.1.emb x 1)

theorem agrees_box {A B a b p q : Nat} {e : EltTy} (g : Fin A → Fin B → Elt Ideal e)
    (h : ∀ x : Fin 2, (![p, q] : Fin 2 → Nat) x + (![a, b] : Fin 2 → Nat) x ≤ (![A, B] : Fin 2 → Nat) x) (w : Vec Ideal ⟨2, ![a, b]⟩ e)
    (hw : ∀ (i : Fin a) (j : Fin b) (i' : Fin A) (j' : Fin B), i'.val = p + i.val → j'.val = q + j.val → w (ix2 i j) = g i' j') :
    Agrees g ⟨Rect.unit (s := ⟨2, ![A, B]⟩) ![p, q] ![a, b] h, w⟩ := by
  intro (x : (⟨2, ![a, b]⟩ : Shape).Idx)
  obtain ⟨i, j, rfl⟩ : ∃ (i : Fin a) (j : Fin b), x = ix2 i j := ⟨x 0, x 1, eq_ix2 x⟩
  refine hw i j _ _ ?_ ?_
  · show p + 1 * i.val = p + i.val; omega
  · show q + 1 * j.val = q + j.val; omega

/-- Stores that all agree with `g`, read where one of them lies. -/
theorem canon_agree {A B : Nat} {e : EltTy} (g : Fin A → Fin B → Elt Ideal e) (L : List (View.Piece (Elt Ideal) ⟨2, ![A, B]⟩ e))
    (hL : ∀ P ∈ L, Agrees g P) (i : Fin A) (j : Fin B) (hc : ∃ P ∈ L, (ix2 i j : (⟨2, ![A, B]⟩ : Shape).Idx) ∈ P.1.set) :
    View.canon L (ix2 i j) = g i j := by
  rw [← List.append_nil L]
  exact View.canon_append_of_pieces (fun x : (⟨2, ![A, B]⟩ : Shape).Idx => g (x 0) (x 1)) [] L (fun P hP x => hL P hP x) _ hc

/-- A leading column. -/
theorem col_cast {n : Nat} {α : Type} (x : (⟨1, ![n]⟩ : Shape).Idx → α) (h : (⟨1, ![n]⟩ : Shape).ShapeCasts ⟨2, ![n, 1]⟩) (i : Fin n) :
    shapeCast ⟨2, ![n, 1]⟩ x h (ix2 i 0) = x (ix1 i) := by
  refine shapeCast_apply x h _ _ ?_
  rw [Shape.rowMajor_val_one, Shape.rowMajor_val_two]
  show i.val = i.val * 1 + 0
  omega

/-- The sum of a row. -/
theorem row_sum {n k : Nat} (v : FVec Ideal ⟨2, ![n, k]⟩ .f32) (h : (⟨2, ![n, k]⟩ : Shape).Reduces [1] ⟨1, ![n]⟩) (i : Fin n) :
    multiReduction .add [1] ⟨1, ![n]⟩ v 0x00000000#32 h (.inl rfl) rfl (ix1 i) = ∑ l : Fin k, v (ix2 i l) :=
  (multiReduction_add_apply ..).trans (Ideal.reduceAdd_r2_a1 ..)

/-! ### A grid point's inputs -/

/-- The column of the input projection that a column of the main weights is. -/
def mainCol (j : Nat) : Nat := if j < 6656 then j else j + 16

theorem mainCol_lt {j : Nat} (h : j < 8704) : mainCol j < 8720 := by unfold mainCol; split <;> omega

/-- The blocks of a grid point are the data's, its first row being `r0`. -/
structure Blocks (D : Data) (r0 : Nat) (x0 : Vec Ideal S256x1024 .f32) (x1 : Vec Ideal S1x1024 .f32) (x2 : Vec Ideal S1024x8704 .bf16)
    (x3 x4 : Vec Ideal S1024x128 .bf16) (x5 : Vec Ideal S4x3072 .f32) : Prop where
  x0 : ∀ i k, x0 (ix2 i k) = D.x (r0 + i.val) k
  x1 : ∀ k, x1 (ix2 0 k) = D.nw k
  x2 : ∀ k j, x2 (ix2 k j) = D.w k ⟨mainCol j.val, mainCol_lt j.isLt⟩
  x3 : ∀ k j, x3 (ix2 k j) = if h : j.val < 8 then D.w k ⟨6656 + j.val, by omega⟩ else 0
  x4 : ∀ k j, x4 (ix2 k j) = if h : j.val < 8 then D.w k ⟨6664 + j.val, by omega⟩ else 0
  x5 : ∀ k j, x5 (ix2 k j) = D.dw k j

section Point
variable (arg1 : Memref sig .tc .vmem S256x1024 .f32) (harg1 : arg1.IsWhole) (arg2 : Memref sig .tc .vmem S1x1024 .f32) (harg2 : arg2.IsWhole)
  (arg3 : Memref sig .tc .vmem S1024x8704 .bf16) (harg3 : arg3.IsWhole) (arg4 : Memref sig .tc .vmem S1024x128 .bf16) (harg4 : arg4.IsWhole)
  (arg6 : Memref sig .tc .vmem S4x3072 .f32) (harg6 : arg6.IsWhole)
  {x0 : Vec Ideal S256x1024 .f32} {x1 : Vec Ideal S1x1024 .f32} {x2 : Vec Ideal S1024x8704 .bf16} {x3 x4 : Vec Ideal S1024x128 .bf16}
  {x5 : Vec Ideal S4x3072 .f32} {D : Data} {r0 : Nat}

theorem uRd_apply (h : Blocks D r0 x0 x1 x2 x3 x4 x5) (i : Fin 256) (k : Fin 1024) :
    uRd arg1 harg1 arg2 harg2 x0 x1 (ix2 i k) = D.u (r0 + i.val) k := by
  have e0 : ∀ k, arg1.view.readAt (Elt Ideal) (Rect.unit ![0, 0] S256x1024.size inb_S256x1024_S256x1024_0_0).toLoadRect (harg1.unread x0) (ix2 i k) = D.x (r0 + i.val) k :=
    fun k => (read2 arg1 harg1 x0 _ i k i k (by omega) (by omega)).trans (h.x0 i k)
  have e1 : arg2.view.readAt (Elt Ideal) (Rect.unit ![0, 0] S1x1024.size inb_S1x1024_S1x1024_0_0).toLoadRect (harg2.unread x1) (ix2 0 k) = D.nw k :=
    (read2 arg2 harg2 x1 _ 0 k 0 k (by rfl) (by omega)).trans (h.x1 k)
  unfold uRd k0_pay3
  simp only [shapeCast_self]
  pointwise
  simp only [e1]
  refine congrArg (· * D.nw k) (congrArg₂ (fun a s => a * Ideal.rsqrt (Ideal.div s dim + eps)) (e0 k) ?_)
  refine (col_cast _ _ _).trans ((row_sum _ _ _).trans ?_)
  exact Finset.sum_congr rfl fun k _ => congrArg₂ (· * ·) (e0 k) (e0 k)

theorem dot_apply (u : FVec Ideal S256x1024 .bf16) (w : Vec Ideal S1024x256 .bf16) (i j : Fin 256) :
    dot u w (ix2 i j) = ∑ k : Fin 1024, u (ix2 i k) * w (ix2 k j) := by
  unfold dot
  simp only [shapeCast_self]
  pointwise

theorem dotN_apply (u : FVec Ideal S256x1024 .bf16) (w : Vec Ideal S1024x128 .bf16) (i : Fin 256) (j : Fin 128) :
    dotN u w (ix2 i j) = ∑ k : Fin 1024, u (ix2 i k) * w (ix2 k j) := by
  unfold dotN
  simp only [shapeCast_self]
  pointwise

theorem sgmB_apply (y : FVec Ideal S256x256 .f32) (i : S256x256.Idx) : sgmB y i = Branch.sgm (y i) := rfl

theorem geluB_apply (y : FVec Ideal S256x256 .f32) (i : S256x256.Idx) : geluB y i = gelu (y i) := rfl

theorem convB_apply (d : Fin 4 → Vec Ideal S1x128 .f32) (p : Fin 4 → Vec Ideal S64x128 .f32) (i : Fin 64) (l : Fin 128) :
    convB d p (ix2 i l) = silu (0 + d 0 (ix2 0 l) * p 0 (ix2 i l) + d 1 (ix2 0 l) * p 1 (ix2 i l) + d 2 (ix2 0 l) * p 2 (ix2 i l) + d 3 (ix2 0 l) * p 3 (ix2 i l)) := by
  unfold convB
  simp only [shapeCast_self]
  pointwise
  rfl

theorem lenB_apply (c : FVec Ideal S64x128 .f32) (i : Fin 64) :
    lenB c (ix2 i 0) = Ideal.rsqrt ((∑ l : Fin 128, c (ix2 i l) * c (ix2 i l)) + eps) := by
  exact congrArg (fun s => Ideal.rsqrt (s + eps)) ((col_cast _ _ _).trans (row_sum _ _ _))

theorem qB_apply (c : FVec Ideal S64x128 .f32) (i : Fin 64) (l : Fin 128) :
    qB c (ix2 i l) = c (ix2 i l) * (lenB c (ix2 i 0) * scale) := by
  unfold qB
  pointwise
  rfl

theorem kB_apply (c : FVec Ideal S64x128 .f32) (i : Fin 64) (l : Fin 128) :
    kB c (ix2 i l) = c (ix2 i l) * lenB c (ix2 i 0) := by
  unfold kB
  pointwise

variable (h : Blocks D r0 x0 x1 x2 x3 x4 x5)
include h

theorem blk_apply (o : Nat) (ho : o + 256 ≤ 8704) (i j : Fin 256) (r : Nat) (c : Fin 8720) (hr : r = r0 + i.val) (hc : c.val = mainCol (o + j.val)) :
    blk arg3 harg3 x2 (uRd arg1 harg1 arg2 harg2 x0 x1) o ho (ix2 i j) = D.pre r c := by
  unfold blk
  rw [dot_apply]
  subst hr
  refine Finset.sum_congr rfl fun k _ => ?_
  rw [uRd_apply arg1 harg1 arg2 harg2 h]
  refine congrArg (D.u (r0 + i.val) k * ·) ?_
  refine (read2 arg3 harg3 x2 _ k j k ⟨o + j.val, by omega⟩ (by omega) rfl).trans ((h.x2 _ _).trans ?_)
  exact congrArg (D.w k) (Fin.ext hc.symm)

theorem cRd_apply (rd : Fin 3 → Fin 8 → Fin 4 → Fin 4 → Vec Ideal S64x128 .f32)
    (hrd : ∀ p h r k (i : Fin 64) l, rd p h r k (ix2 i l) = D.tap (r0 + (r.val * 64 + i.val)) k.val (lane p h l))
    (p : Fin 3) (hd : Fin 8) (r : Fin 4) (i : Fin 64) (l : Fin 128) :
    cRd arg6 harg6 x5 rd p hd r (ix2 i l) = D.cs (r0 + (r.val * 64 + i.val)) (lane p hd l) := by
  refine (convB_apply _ _ _ _).trans ?_
  have e : ∀ k, arg6.view.readAt (Elt Ideal) (dwRect p hd k).toLoadRect (harg6.unread x5) (ix2 0 l) = D.dw k (lane p hd l) := fun k =>
    (read2 arg6 harg6 x5 _ 0 l k (lane p hd l) rfl rfl).trans (h.x5 _ _)
  simp only [hrd, e]
  rfl

end Point

end InProj

end
-- ==== Proof.InPoint.lean ====
/-
  What the stores of a grid point of the input projection leave: the staged rows and the ten outputs.
-/
module

public import proofs.«01_k».proof.Proof.InReads

@[expose] public section

set_option maxRecDepth 16384

noncomputable section

namespace InProj

open Cert.Kernel2Ideal Cert.Kernel2Ideal.Gen
open Idealize.ShloMosaic Idealize.ShloMosaic.TcCoe Idealize.SL

/-- Stores that all agree with `g`, on top of others, read where one of them lies. -/
theorem canon_agree_append {A B : Nat} {e : EltTy} (g : Fin A → Fin B → Elt Ideal e) (L L' : List (View.Piece (Elt Ideal) ⟨2, ![A, B]⟩ e))
    (hL : ∀ P ∈ L, Agrees g P) (i : Fin A) (j : Fin B) (hc : ∃ P ∈ L, (ix2 i j : (⟨2, ![A, B]⟩ : Shape).Idx) ∈ P.1.set) :
    View.canon (L ++ L') (ix2 i j) = g i j :=
  View.canon_append_of_pieces (fun x : (⟨2, ![A, B]⟩ : Shape).Idx => g (x 0) (x 1)) L' L (fun P hP x => hL P hP x) _ hc

/-- The staged row `s` of point `t`. -/
def stg (D : Data) (t s : Nat) (j : Fin 3072) : Ideal .f32 := if s < 8 ∧ t % 16 = 0 then 0 else D.qkv (256 * t + s - 8) j

theorem tap_stg (D : Data) (t r i k : Nat) (j : Fin 3072) (hr : r < 4) (hi : i < 64) :
    stg D t (r * 64 + 5 + k + i) j = D.tap (256 * t + (r * 64 + i)) k j := by
  unfold stg Data.tap
  by_cases h : r * 64 + 5 + k + i < 8 ∧ t % 16 = 0
  · rw [if_pos h, if_neg (by omega)]
  · rw [if_neg h, if_pos (by omega)]
    exact congrArg (fun s => D.qkv s j) (by omega)

variable (arg1 : Memref sig .tc .vmem S256x1024 .f32) (harg1 : arg1.IsWhole) (arg2 : Memref sig .tc .vmem S1x1024 .f32) (harg2 : arg2.IsWhole)
  (arg3 : Memref sig .tc .vmem S1024x8704 .bf16) (harg3 : arg3.IsWhole) (arg4 : Memref sig .tc .vmem S1024x128 .bf16) (harg4 : arg4.IsWhole)
  (arg6 : Memref sig .tc .vmem S4x3072 .f32) (harg6 : arg6.IsWhole)
  {x0 : Vec Ideal S256x1024 .f32} {x1 : Vec Ideal S1x1024 .f32} {x2 : Vec Ideal S1024x8704 .bf16} {x3 x4 : Vec Ideal S1024x128 .bf16}
  {x5 : Vec Ideal S4x3072 .f32} {D : Data} {t : Nat} (h : Blocks D (256 * t) x0 x1 x2 x3 x4 x5)
include h

/-! ### The staged rows -/

theorem st_agree (P : View.Piece (Elt Ideal) S264x3072 .f32) (hP : P ∈ stList arg3 harg3 x2 (uRd arg1 harg1 arg2 harg2 x0 x1)) :
    Agrees (A := 264) (B := 3072) (e := .f32) (fun s j => stg D t s.val j) P := by
  obtain ⟨n, rfl⟩ := List.mem_ofFn.mp hP
  refine agrees_box _ _ _ fun i j i' j' hi hj => ?_
  rw [shapeCast_self]
  refine (blk_apply arg1 harg1 arg2 harg2 arg3 harg3 h _ _ i j (256 * t + i.val) ⟨2560 + j'.val, by omega⟩ rfl ?_).trans ?_
  · show 2560 + j'.val = mainCol (2560 + n.rev.val * 256 + j.val)
    unfold mainCol
    rw [if_pos (by omega)]; omega
  · refine Eq.symm ((if_neg (by omega)).trans ?_)
    exact congrArg (fun s => D.qkv s j') (by omega)

omit h in
theorem st_cover (u : FVec Ideal S256x1024 .bf16) (i : Fin 264) (j : Fin 3072) (hi : 8 ≤ i.val) :
    ∃ P ∈ stList arg3 harg3 x2 u, (ix2 i j : (⟨2, ![264, 3072]⟩ : Shape).Idx) ∈ P.1.set := by
  have hk : j.val / 256 < 12 := by omega
  refine ⟨_, List.mem_ofFn.mpr ⟨Fin.rev ⟨j.val / 256, hk⟩, rfl⟩, box_mem (in2 (by omega) (by omega)) i j ?_ ?_ ?_ ?_⟩ <;> (try simp only [Fin.rev_rev]) <;> omega

theorem st_canon (L' : List (View.Piece (Elt Ideal) S264x3072 .f32)) (i : Fin 264) (j : Fin 3072) (hi : 8 ≤ i.val) :
    View.canon (stList arg3 harg3 x2 (uRd arg1 harg1 arg2 harg2 x0 x1) ++ L') (ix2 i j) = stg D t i.val j :=
  canon_agree_append (A := 264) (B := 3072) (e := .f32) (fun s j => stg D t s.val j) _ L' (st_agree arg1 harg1 arg2 harg2 arg3 harg3 h) i j (st_cover arg3 harg3 _ i j hi)

/-- A first point's pad rows are zero. -/
theorem st_canon_zero (h0 : t % 16 = 0) (i : Fin 264) (j : Fin 3072) :
    View.canon (stList arg3 harg3 x2 (uRd arg1 harg1 arg2 harg2 x0 x1) ++ [⟨topRect, k0_pay2 (F := Ideal)⟩]) (ix2 i j) = stg D t i.val j := by
  refine canon_agree (A := 264) (B := 3072) (e := .f32) (fun s j => stg D t s.val j) _ (fun P hP => ?_) i j ?_
  · rcases List.mem_append.mp hP with hP | hP
    · exact st_agree arg1 harg1 arg2 harg2 arg3 harg3 h P hP
    · obtain rfl := List.mem_singleton.mp hP
      refine agrees_box _ _ _ fun i j i' j' hi hj => ?_
      refine Eq.trans ?_ (if_pos ⟨by omega, h0⟩).symm
      unfold k0_pay2
      rw [shapeCast_self]
      exact Ideal.ofBits_zero .f32
  · by_cases hi : 8 ≤ i.val
    · obtain ⟨P, hP, hm⟩ := st_cover arg3 harg3 (x2 := x2) (uRd arg1 harg1 arg2 harg2 x0 x1) i j hi
      exact ⟨P, List.mem_append_left _ hP, hm⟩
    · exact ⟨_, List.mem_append_right _ (List.mem_singleton.mpr rfl), box_mem (in2 (by omega) (by omega)) i j (by omega) (by omega) (by omega) (by omega)⟩

omit h in
/-- The carried rows. -/
theorem top_canon (bot : Vec Ideal S8x3072 .f32) (L' : List (View.Piece (Elt Ideal) S264x3072 .f32)) (g : Nat → Fin 3072 → Ideal .f32)
    (hb : ∀ (i : Fin 8) j, bot (ix2 i j) = g i.val j) (i : Fin 264) (j : Fin 3072) (hi : i.val < 8) :
    View.canon (topP bot :: L') (ix2 i j) = g i.val j := by
  refine canon_agree_append (A := 264) (B := 3072) (e := .f32) (fun s j => g s.val j) [topP bot] L' (fun P hP => ?_) i j ?_
  · obtain rfl := List.mem_singleton.mp hP
    refine agrees_box _ _ _ fun i j i' j' hi hj => ?_
    rw [shapeCast_self, hb]
    show g i.val j = g i'.val j'
    rw [show i'.val = i.val by omega, show j' = j from Fin.ext (by omega)]
  · exact ⟨_, List.mem_singleton.mpr rfl, box_mem (in2 (by omega) (by omega)) i j (by omega) (by omega) (by omega) (by omega)⟩

/-! ### The ten outputs -/

omit h in
theorem cover5 {e : EltTy} (f : Fin 5 → Vec Ideal S256x256 e) (i : Fin 256) (j : Fin 1280) :
    ∃ P ∈ (List.ofFn fun n : Fin 5 => (⟨cols5 n.rev, f n⟩ : View.Piece (Elt Ideal) S256x1280 e)), (ix2 i j : (⟨2, ![256, 1280]⟩ : Shape).Idx) ∈ P.1.set := by
  have hk : j.val / 256 < 5 := by omega
  refine ⟨_, List.mem_ofFn.mpr ⟨Fin.rev ⟨j.val / 256, hk⟩, rfl⟩, box_mem (in2 (by omega) (by omega)) i j ?_ ?_ ?_ ?_⟩ <;> (try simp only [Fin.rev_rev]) <;> omega

omit h in
theorem cover4 {e : EltTy} (f : Fin 4 → Vec Ideal S256x256 e) (i : Fin 256) (j : Fin 1024) :
    ∃ P ∈ (List.ofFn fun n : Fin 4 => (⟨cols4 n.rev, f n⟩ : View.Piece (Elt Ideal) S256x1024 e)), (ix2 i j : (⟨2, ![256, 1024]⟩ : Shape).Idx) ∈ P.1.set := by
  have hk : j.val / 256 < 4 := by omega
  refine ⟨_, List.mem_ofFn.mpr ⟨Fin.rev ⟨j.val / 256, hk⟩, rfl⟩, box_mem (in2 (by omega) (by omega)) i j ?_ ?_ ?_ ?_⟩ <;> (try simp only [Fin.rev_rev]) <;> omega

theorem rx_canon (i : Fin 256) (j : Fin 1280) :
    View.canon (rxList arg3 harg3 x2 (uRd arg1 harg1 arg2 harg2 x0 x1)) (ix2 i j) = D.rx (256 * t + i.val) j := by
  refine canon_agree (A := 256) (B := 1280) (e := .f32) (fun i j => D.rx (256 * t + i.val) j) _ (fun P hP => ?_) i j (cover5 _ i j)
  obtain ⟨n, rfl⟩ := List.mem_ofFn.mp hP
  refine agrees_box _ _ _ fun i j i' j' hi hj => ?_
  refine blk_apply arg1 harg1 arg2 harg2 arg3 harg3 h _ _ i j _ _ (by omega) ?_
  show j'.val = mainCol (n.rev.val * 256 + j.val)
  unfold mainCol
  rw [if_pos (by omega)]; omega

theorem rg_canon (i : Fin 256) (j : Fin 1280) :
    View.canon (rgList arg3 harg3 x2 (uRd arg1 harg1 arg2 harg2 x0 x1)) (ix2 i j) = D.rg (256 * t + i.val) j := by
  refine canon_agree (A := 256) (B := 1280) (e := .bf16) (fun i j => D.rg (256 * t + i.val) j) _ (fun P hP => ?_) i j (cover5 _ i j)
  obtain ⟨n, rfl⟩ := List.mem_ofFn.mp hP
  refine agrees_box _ _ _ fun i j i' j' hi hj => ?_
  refine (geluB_apply _ _).trans (congrArg gelu ?_)
  refine blk_apply arg1 harg1 arg2 harg2 arg3 harg3 h _ _ i j _ _ (by omega) ?_
  show 1280 + j'.val = mainCol (1280 + n.rev.val * 256 + j.val)
  unfold mainCol
  rw [if_pos (by omega)]; omega

theorem z_canon (i : Fin 256) (j : Fin 1024) :
    View.canon (zList arg3 harg3 x2 (uRd arg1 harg1 arg2 harg2 x0 x1)) (ix2 i j) = D.z (256 * t + i.val) j := by
  refine canon_agree (A := 256) (B := 1024) (e := .bf16) (fun i j => D.z (256 * t + i.val) j) _ (fun P hP => ?_) i j (cover4 _ i j)
  obtain ⟨n, rfl⟩ := List.mem_ofFn.mp hP
  refine agrees_box _ _ _ fun i j i' j' hi hj => ?_
  refine congrArg silu ?_
  refine blk_apply arg1 harg1 arg2 harg2 arg3 harg3 h _ _ i j _ _ (by omega) ?_
  show 5632 + j'.val = mainCol (5632 + n.rev.val * 256 + j.val)
  unfold mainCol
  rw [if_pos (by omega)]; omega

/-- A merge gate, its columns being those from `o` on. -/
theorem g_canon (o : Nat) (ho : o + 1024 ≤ 8704) (h1 : 6656 ≤ o) (i : Fin 256) (j : Fin 1024) :
    View.canon (gList arg3 harg3 x2 o ho (uRd arg1 harg1 arg2 harg2 x0 x1)) (ix2 i j) = Branch.sgm (D.pre (256 * t + i.val) ⟨o + 16 + j.val, by omega⟩) := by
  refine canon_agree (A := 256) (B := 1024) (e := .bf16) (fun i j => Branch.sgm (D.pre (256 * t + i.val) ⟨o + 16 + j.val, by omega⟩)) _ (fun P hP => ?_) i j (cover4 _ i j)
  obtain ⟨n, rfl⟩ := List.mem_ofFn.mp hP
  refine agrees_box _ _ _ fun i j i' j' hi hj => ?_
  refine congrArg Branch.sgm ?_
  refine blk_apply arg1 harg1 arg2 harg2 arg3 harg3 h _ _ i j _ _ (by omega) ?_
  show o + 16 + j'.val = mainCol (o + n.rev.val * 256 + j.val)
  unfold mainCol
  rw [if_neg (by omega)]; omega

/-- A narrow output, its columns being the eight from `o` on. -/
theorem n_canon (x : Vec Ideal S1024x128 .bf16) (o : Nat) (ho : o + 8 ≤ 8720)
    (hx : ∀ k (j : Fin 128), x (ix2 k j) = if h : j.val < 8 then D.w k ⟨o + j.val, by omega⟩ else 0) (i : Fin 256) (j : Fin 128) :
    View.canon (nList arg4 harg4 x (uRd arg1 harg1 arg2 harg2 x0 x1)) (ix2 i j) = if h : j.val < 8 then D.pre (256 * t + i.val) ⟨o + j.val, by omega⟩ else 0 := by
  refine canon_agree (A := 256) (B := 128) (e := .f32) (fun i j => if h : j.val < 8 then D.pre (256 * t + i.val) ⟨o + j.val, by omega⟩ else 0) _ (fun P hP => ?_) i j
    ⟨_, List.mem_singleton.mpr rfl, box_mem (in2 (by omega) (by omega)) i j (by omega) (by omega) (by omega) (by omega)⟩
  obtain rfl := List.mem_singleton.mp hP
  refine agrees_box _ _ _ fun i j i' j' hi hj => ?_
  obtain rfl : i' = i := Fin.ext (by omega)
  obtain rfl : j' = j := Fin.ext (by omega)
  refine (dotN_apply _ _ _ _).trans ?_
  have e : ∀ k, arg4.view.readAt (Elt Ideal) (Rect.unit ![0, 0] S1024x128.size inb_S1024x128_S1024x128_0_0).toLoadRect (harg4.unread x) (ix2 k j')
      = if h : j'.val < 8 then D.w k ⟨o + j'.val, by omega⟩ else 0 := fun k =>
    (read2 arg4 harg4 x _ k j' k j' (by omega) (by omega)).trans (hx k j')
  by_cases hj8 : j'.val < 8
  · rw [dif_pos hj8]
    refine Finset.sum_congr rfl fun k _ => ?_
    exact congrArg₂ (· * ·) (uRd_apply arg1 harg1 arg2 harg2 h i' k) ((e k).trans (dif_pos hj8))
  · rw [dif_neg hj8]
    refine Finset.sum_eq_zero fun k _ => ?_
    exact (congrArg _ ((e k).trans (dif_neg hj8))).trans (mul_zero _)

section Heads
variable {rd : Fin 3 → Fin 8 → Fin 4 → Fin 4 → Vec Ideal S64x128 .f32}
  (hrd : ∀ p h r k (i : Fin 64) l, rd p h r k (ix2 i l) = D.tap (256 * t + (r.val * 64 + i.val)) k.val (lane p h l))
include hrd

omit h hrd in
theorem hd_canon (f : FVec Ideal S64x128 .f32 → FVec Ideal S64x128 .f32) (p : Fin 3) (g : Nat → Fin 8 → Fin 128 → Ideal .f32)
    (hf : ∀ hd (r : Fin 4) (i : Fin 64) l, f (cRd arg6 harg6 x5 rd p hd r) (ix2 i l) = g (256 * t + (r.val * 64 + i.val)) hd l) (i : Fin 256) (j : Fin 1024) :
    View.canon (hdList arg6 harg6 x5 rd f p) (ix2 i j) = g (256 * t + i.val) ⟨j.val / 128, by omega⟩ ⟨j.val % 128, by omega⟩ := by
  refine canon_agree (A := 256) (B := 1024) (e := .f32) (fun i j => g (256 * t + i.val) ⟨j.val / 128, by omega⟩ ⟨j.val % 128, by omega⟩) _ (fun P hP => ?_) i j ?_
  · obtain ⟨n, rfl⟩ := List.mem_ofFn.mp hP
    refine agrees_box _ _ _ fun i l i' j' hi hj => ?_
    refine (hf _ _ i l).trans ?_
    dsimp only at hi hj ⊢
    have e1 : (⟨j'.val / 128, by omega⟩ : Fin 8) = ⟨n.rev.val / 4, by omega⟩ := Fin.ext (by show j'.val / 128 = n.rev.val / 4; omega)
    have e2 : (⟨j'.val % 128, by omega⟩ : Fin 128) = l := Fin.ext (by show j'.val % 128 = l.val; omega)
    rw [e1, e2, hi]
  · have hk : j.val / 128 * 4 + i.val / 64 < 32 := by omega
    refine ⟨_, List.mem_ofFn.mpr ⟨Fin.rev ⟨j.val / 128 * 4 + i.val / 64, hk⟩, rfl⟩, box_mem (in2 (by omega) (by omega)) i j ?_ ?_ ?_ ?_⟩ <;> (try simp only [Fin.rev_rev]) <;> omega

theorem len_apply (p : Fin 3) (hd : Fin 8) (r : Fin 4) (i : Fin 64) :
    lenB (cRd arg6 harg6 x5 rd p hd r) (ix2 i 0) = D.len (256 * t + (r.val * 64 + i.val)) p hd := by
  rw [lenB_apply]
  simp only [cRd_apply arg6 harg6 h rd hrd]
  rfl

theorem q_canon (i : Fin 256) (j : Fin 1024) :
    View.canon (hdList arg6 harg6 x5 rd qB 0) (ix2 i j) = D.q (256 * t + i.val) ⟨j.val / 128, by omega⟩ ⟨j.val % 128, by omega⟩ :=
  hd_canon arg6 harg6 qB 0 D.q (fun hd r i l => by
    rw [qB_apply, len_apply arg6 harg6 h hrd, cRd_apply arg6 harg6 h rd hrd]; rfl) i j

theorem k_canon (i : Fin 256) (j : Fin 1024) :
    View.canon (hdList arg6 harg6 x5 rd kB 1) (ix2 i j) = D.k (256 * t + i.val) ⟨j.val / 128, by omega⟩ ⟨j.val % 128, by omega⟩ :=
  hd_canon arg6 harg6 kB 1 D.k (fun hd r i l => by
    rw [kB_apply, len_apply arg6 harg6 h hrd, cRd_apply arg6 harg6 h rd hrd]; rfl) i j

theorem v_canon (i : Fin 256) (j : Fin 1024) :
    View.canon (hdList arg6 harg6 x5 rd (fun y => y) 2) (ix2 i j) = D.v (256 * t + i.val) ⟨j.val / 128, by omega⟩ ⟨j.val % 128, by omega⟩ :=
  hd_canon arg6 harg6 (fun y => y) 2 D.v (fun hd r i l => cRd_apply arg6 harg6 h rd hrd 2 hd r i l) i j

end Heads

end InProj

end
-- ==== Proof.InStage.lean ====
/-
  Reading the staged rows of the input projection, and what a grid point has to leave.
-/
module

public import proofs.«01_k».proof.Proof.InPoint

@[expose] public section

set_option maxRecDepth 16384

noncomputable section

namespace InProj

open Cert.Kernel2Ideal Cert.Kernel2Ideal.Gen
open Idealize.ShloMosaic Idealize.ShloMosaic.TcCoe Idealize.SL

/-- What point `t` leaves: 256 rows of each output, and the last eight rows of q, k and v, carried over. -/
structure Point (D : Data) (t : Nat) (rx : Vec Ideal S256x1280 .f32) (rg : Vec Ideal S256x1280 .bf16) (q k v : Vec Ideal S256x1024 .f32)
    (z ga gb : Vec Ideal S256x1024 .bf16) (a b : Vec Ideal S256x128 .f32) (st : Vec Ideal S264x3072 .f32) : Prop where
  rx : ∀ i j, rx (ix2 i j) = D.rx (256 * t + i.val) j
  rg : ∀ i j, rg (ix2 i j) = D.rg (256 * t + i.val) j
  q : ∀ i (j : Fin 1024), q (ix2 i j) = D.q (256 * t + i.val) ⟨j.val / 128, by omega⟩ ⟨j.val % 128, by omega⟩
  k : ∀ i (j : Fin 1024), k (ix2 i j) = D.k (256 * t + i.val) ⟨j.val / 128, by omega⟩ ⟨j.val % 128, by omega⟩
  v : ∀ i (j : Fin 1024), v (ix2 i j) = D.v (256 * t + i.val) ⟨j.val / 128, by omega⟩ ⟨j.val % 128, by omega⟩
  z : ∀ i j, z (ix2 i j) = D.z (256 * t + i.val) j
  ga : ∀ i j, ga (ix2 i j) = D.ga (256 * t + i.val) j
  gb : ∀ i j, gb (ix2 i j) = D.gb (256 * t + i.val) j
  a : ∀ i j, a (ix2 i j) = D.a (256 * t + i.val) j
  b : ∀ i j, b (ix2 i j) = D.b (256 * t + i.val) j
  st : ∀ (i : Fin 264) j, i.val < 8 → st (ix2 i j) = D.qkv (256 * t + 248 + i.val) j

variable {sp : Space} (sv : View sig .tc sp S264x3072 .f32) {D : Data} {t : Nat}

/-- A tap's 64 rows, from rows that are the staged ones where the tap reads. -/
theorem tap_box (g : Vec Ideal S264x3072 .f32) (p : Fin 3) (hd : Fin 8) (r k : Fin 4)
    (hg : ∀ (s : Fin 264) j, r.val * 64 + 5 + k.val ≤ s.val → g (ix2 s j) = stg D t s.val j) (i : Fin 64) (l : Fin 128) :
    g ((tapRect p hd r k).emb (ix2 i l)) = D.tap (256 * t + (r.val * 64 + i.val)) k.val (lane p hd l) := by
  obtain ⟨s, j, e, hs, hj⟩ := box_emb (A := 264) (B := 3072) (a := 64) (b := 128) (p := r.val * 64 + 5 + k.val) (q := p.val * 1024 + hd.val * 128)
    (in2 (by omega) (by omega)) i l
  refine (congrArg g e).trans ((hg s j (by omega)).trans ?_)
  obtain rfl : j = lane p hd l := Fin.ext hj
  rw [hs]
  exact tap_stg D t r.val i.val k.val _ r.isLt i.isLt

/-- Read back from the stores. -/
theorem tap_read (L : List (View.Piece (Elt Ideal) S264x3072 .f32)) (p : Fin 3) (hd : Fin 8) (r k : Fin 4)
    (hL : ∀ (s : Fin 264) j, r.val * 64 + 5 + k.val ≤ s.val → View.canon L (ix2 s j) = stg D t s.val j) (i : Fin 64) (l : Fin 128) :
    sv.readCov L (tapRect p hd r k).toLoadRect (ix2 i l) = D.tap (256 * t + (r.val * 64 + i.val)) k.val (lane p hd l) := by
  rw [View.readCov_eq_canon']
  exact tap_box (View.canon L) p hd r k hL i l

/-- Read from contents that are the staged rows. -/
theorem tap_at (f : sv.ty.Contents (Elt Ideal)) (p : Fin 3) (hd : Fin 8) (r k : Fin 4)
    (hf : ∀ (s : Fin 264) j, sv.read (Elt Ideal) f (ix2 s j) = stg D t s.val j) (i : Fin 64) (l : Fin 128) :
    sv.readAt (Elt Ideal) (tapRect p hd r k).toLoadRect f (ix2 i l) = D.tap (256 * t + (r.val * 64 + i.val)) k.val (lane p hd l) :=
  (View.readAt_apply ..).trans (tap_box (sv.read (Elt Ideal) f) p hd r k (fun s j _ => hf s j) i l)

/-- The last eight rows, read back from the stores. -/
theorem bot_read (L : List (View.Piece (Elt Ideal) S264x3072 .f32)) (hL : ∀ (s : Fin 264) j, 8 ≤ s.val → View.canon L (ix2 s j) = stg D t s.val j)
    (i : Fin 8) (j : Fin 3072) : sv.readCov L botRect.toLoadRect (ix2 i j) = D.qkv (256 * t + 248 + i.val) j := by
  rw [View.readCov_eq_canon']
  obtain ⟨s, j', e, hs, hj⟩ := box_emb (A := 264) (B := 3072) (a := 8) (b := 3072) (p := 256) (q := 0) (in2 (by omega) (by omega)) i j
  refine (congrArg (View.canon L) e).trans ((hL s j' (by omega)).trans ?_)
  obtain rfl : j' = j := Fin.ext (by omega)
  refine (if_neg (by omega)).trans ?_
  exact congrArg (fun s => D.qkv s j') (by omega)

/-- The staged rows under stores that leave the rows above them alone: those rows are the carried ones. -/
theorem st_under (arg1 : Memref sig .tc .vmem S256x1024 .f32) (harg1 : arg1.IsWhole) (arg2 : Memref sig .tc .vmem S1x1024 .f32) (harg2 : arg2.IsWhole)
    (arg3 : Memref sig .tc .vmem S1024x8704 .bf16) (harg3 : arg3.IsWhole)
    {x0 : Vec Ideal S256x1024 .f32} {x1 : Vec Ideal S1x1024 .f32} {x2 : Vec Ideal S1024x8704 .bf16} {x3 x4 : Vec Ideal S1024x128 .bf16}
    {x5 : Vec Ideal S4x3072 .f32} (h : Blocks D (256 * t) x0 x1 x2 x3 x4 x5) (f : sv.ty.Contents (Elt Ideal))
    (hf : ∀ (s : Fin 264) j, s.val < 8 → sv.read (Elt Ideal) f (ix2 s j) = stg D t s.val j) (s : Fin 264) (j : Fin 3072) :
    sv.read (Elt Ideal) (sv.writes (Elt Ideal) f (stList arg3 harg3 x2 (uRd arg1 harg1 arg2 harg2 x0 x1))) (ix2 s j) = stg D t s.val j := by
  by_cases hs : 8 ≤ s.val
  · rw [View.read_writes_apply_eq_canon _ _ _ _ (st_cover arg3 harg3 _ s j hs)]
    have e := st_canon arg1 harg1 arg2 harg2 arg3 harg3 h [] s j hs
    rwa [List.append_nil] at e
  · refine (View.read_writes_apply_of_forall_not_mem _ _ _ _ fun P hP hm => ?_).trans (hf s j (by omega))
    obtain ⟨n, rfl⟩ := List.mem_ofFn.mp hP
    have hm' : (ix2 s j : S264x3072.Idx) ∈ (stRect n.rev).set := hm
    unfold stRect at hm'
    exact hs (Rect.mem_set_unit.mp hm' 0).1

end InProj

end
-- ==== Proof.InPointA.lean ====
/-
  The first grid point of a sequence: what it leaves.
-/
module

public import proofs.«01_k».proof.Proof.InPieceA
public import proofs.«01_k».proof.Proof.InStage
public import proofs.«01_k».proof.Proof.Gen.Kernel2Ideal.Frame

@[expose] public section

set_option backward.proofsInPublic true
set_option maxRecDepth 16384

noncomputable section

namespace InProj.A

open Cert.Kernel2Ideal Cert.Kernel2Ideal.Gen
open Idealize.ShloMosaic Idealize.ShloMosaic.TcCoe Idealize.SL

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x8704 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S256x1280 .f32) (harg7 : arg7.IsWhole) (arg8 : Memref sig .tc .vmem S256x1280 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S256x128 .f32) (harg16 : arg16.IsWhole) (arg17 : Memref sig .tc .vmem S264x3072 .f32) (harg17 : arg17.IsWhole) (hc0 : cond0_0 i)
    {x0 : Vec Ideal S256x1024 .f32} {x1 : Vec Ideal S1x1024 .f32} {x2 : Vec Ideal S1024x8704 .bf16} {x3 x4 : Vec Ideal S1024x128 .bf16}
    {x5 : Vec Ideal S4x3072 .f32} {D : Data} {t : Nat} (h : Blocks D (256 * t) x0 x1 x2 x3 x4 x5)
    (h0 : t % 16 = 0)
include h h0

/-- The rows staged. -/
theorem st_rows (i : Fin 264) (j : Fin 3072) : View.canon (kernelRun0_A.sl.HS0_13 c arg1 harg1 arg2 harg2 arg3 harg3 x0 x1 x2) (ix2 i j) = stg D t i.val j := by
  rw [hs_eq]
  exact st_canon_zero arg1 harg1 arg2 harg2 arg3 harg3 h h0 i j

/-- What a tap reads. -/
theorem rd_tap (p : Fin 3) (hd : Fin 8) (r k : Fin 4) (i : Fin 64) (l : Fin 128) :
    rd c arg1 harg1 arg2 harg2 arg3 harg3 arg17 x0 x1 x2 p hd r k (ix2 i l) = D.tap (256 * t + (r.val * 64 + i.val)) k.val (lane p hd l) :=
  tap_read arg17.view _ p hd r k (fun s j hs => st_rows (h := h) (h0 := h0) (i := s) (j := j) ..) i l

/-- What the point leaves. -/
theorem point : Point D t (out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)
      (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) where
  rx i j := by
    unfold out0_A_6
    rw [View.read_writes_junk_eq_canon, rx_eq]
    exact rx_canon arg1 harg1 arg2 harg2 arg3 harg3 h i j
  rg i j := by
    unfold out0_A_7
    rw [View.read_writes_junk_eq_canon, rg_eq]
    exact rg_canon arg1 harg1 arg2 harg2 arg3 harg3 h i j
  q i j := by
    unfold out0_A_8
    rw [View.read_writes_junk_eq_canon, q_eq]
    exact q_canon arg6 harg6 h (fun p hd r k i' l => rd_tap (h := h) (h0 := h0) (p := p) (hd := hd) (r := r) (k := k) (i := i') (l := l) ..) i j
  k i j := by
    unfold out0_A_9
    rw [View.read_writes_junk_eq_canon, k_eq]
    exact k_canon arg6 harg6 h (fun p hd r k i' l => rd_tap (h := h) (h0 := h0) (p := p) (hd := hd) (r := r) (k := k) (i := i') (l := l) ..) i j
  v i j := by
    unfold out0_A_10
    rw [View.read_writes_junk_eq_canon, v_eq]
    exact v_canon arg6 harg6 h (fun p hd r k i' l => rd_tap (h := h) (h0 := h0) (p := p) (hd := hd) (r := r) (k := k) (i := i') (l := l) ..) i j
  z i j := by
    unfold out0_A_11
    rw [View.read_writes_junk_eq_canon, z_eq]
    exact z_canon arg1 harg1 arg2 harg2 arg3 harg3 h i j
  ga i j := by
    unfold out0_A_12
    rw [View.read_writes_junk_eq_canon, ga_eq]
    exact g_canon arg1 harg1 arg2 harg2 arg3 harg3 h 6656 (by omega) (by omega) i j
  gb i j := by
    unfold out0_A_13
    rw [View.read_writes_junk_eq_canon, gb_eq]
    exact g_canon arg1 harg1 arg2 harg2 arg3 harg3 h 7680 (by omega) (by omega) i j
  a i j := by
    unfold out0_A_14
    rw [View.read_writes_junk_eq_canon, na_eq]
    exact n_canon arg1 harg1 arg2 harg2 arg4 harg4 h x3 6656 (by omega) h.x3 i j
  b i j := by
    unfold out0_A_15
    rw [View.read_writes_junk_eq_canon, nb_eq]
    exact n_canon arg1 harg1 arg2 harg2 arg5 harg5 h x4 6664 (by omega) h.x4 i j
  st i j hi := by
    unfold sout0_A_0
    rw [View.read_writes_junk_eq_canon, st_eq]
    exact top_canon _ _ (fun s j => D.qkv (256 * t + 248 + s) j) (bot_read arg17.view _ (fun s j hs => st_rows (h := h) (h0 := h0) (i := s) (j := j) ..)) i j hi

end InProj.A

end
-- ==== Proof.InPieceB.lean ====
/-
  A later grid point of a sequence: what is stored is the stages of one column block, one head and one row block, at every one of them.
-/
module

public import proofs.«01_k».proof.Proof.Gen.Kernel2Ideal.Frame.RunB
public import proofs.«01_k».proof.Proof.InBody

@[expose] public section

set_option maxRecDepth 16384

noncomputable section

namespace InProj.B

open Cert.Kernel2Ideal Cert.Kernel2Ideal.Gen
open Idealize.ShloMosaic Idealize.ShloMosaic.TcCoe

variable {F : FTy → Type} [FloatOps F]
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x8704 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S256x1280 .f32) (harg7 : arg7.IsWhole) (arg8 : Memref sig .tc .vmem S256x1280 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S256x128 .f32) (harg16 : arg16.IsWhole) (arg17 : Memref sig .tc .vmem S264x3072 .f32) (harg17 : arg17.IsWhole) (hc0 : ¬cond0_0 i)
    (x0 : Vec F S256x1024 .f32) (x1 : Vec F S1x1024 .f32) (x2 : Vec F S1024x8704 .bf16) (x3 : Vec F S1024x128 .bf16) (x4 : Vec F S1024x128 .bf16) (x5 : Vec F S4x3072 .f32) (xs0 : Vec F S264x3072 .f32)

/-- The rows staged so far. -/
theorem hs_eq : kernelRun0_B.sl.HS0_12 c arg1 harg1 arg2 harg2 arg3 harg3 x0 x1 x2 = stList arg3 harg3 x2 (uRd arg1 harg1 arg2 harg2 x0 x1) := by sl_kernel_rfl

/-- The 64 rows that a tap reads. -/
def rd (p : Fin 3) (h : Fin 8) (r : Fin 4) (k : Fin 4) : Vec F S64x128 .f32 :=
  cond (Nat.ble 8 (r.val * 64 + 5 + k.val)) (arg17.view.readCov (kernelRun0_B.sl.HS0_12 c arg1 harg1 arg2 harg2 arg3 harg3 x0 x1 x2) (tapRect p h r k).toLoadRect)
    (arg17.view.readAt (Elt F) (tapRect p h r k).toLoadRect (arg17.view.writes (Elt F) (harg17.unread xs0) (kernelRun0_B.sl.HS0_12 c arg1 harg1 arg2 harg2 arg3 harg3 x0 x1 x2)))

theorem rx_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).1
    = rxList arg3 harg3 x2 (uRd arg1 harg1 arg2 harg2 x0 x1) := by
  dsimp only [kernelRun0_B]; sl_kernel_rfl

theorem rg_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.1
    = rgList arg3 harg3 x2 (uRd arg1 harg1 arg2 harg2 x0 x1) := by
  dsimp only [kernelRun0_B]; sl_kernel_rfl

theorem q_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.1
    = hdList arg6 harg6 x5 (rd c arg1 harg1 arg2 harg2 arg3 harg3 arg17 harg17 x0 x1 x2 xs0) qB 0 := by
  dsimp only [kernelRun0_B]; sl_kernel_rfl

theorem k_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.1
    = hdList arg6 harg6 x5 (rd c arg1 harg1 arg2 harg2 arg3 harg3 arg17 harg17 x0 x1 x2 xs0) kB 1 := by
  dsimp only [kernelRun0_B]; sl_kernel_rfl

theorem v_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.1
    = hdList arg6 harg6 x5 (rd c arg1 harg1 arg2 harg2 arg3 harg3 arg17 harg17 x0 x1 x2 xs0) (fun y => y) 2 := by
  dsimp only [kernelRun0_B]; sl_kernel_rfl

theorem z_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.2.1
    = zList arg3 harg3 x2 (uRd arg1 harg1 arg2 harg2 x0 x1) := by
  dsimp only [kernelRun0_B]; sl_kernel_rfl

theorem ga_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.2.2.1
    = gList arg3 harg3 x2 6656 (by omega) (uRd arg1 harg1 arg2 harg2 x0 x1) := by
  dsimp only [kernelRun0_B]; sl_kernel_rfl

theorem gb_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.2.2.2.1
    = gList arg3 harg3 x2 7680 (by omega) (uRd arg1 harg1 arg2 harg2 x0 x1) := by
  dsimp only [kernelRun0_B]; sl_kernel_rfl

theorem na_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.2.2.2.2.1
    = nList arg4 harg4 x3 (uRd arg1 harg1 arg2 harg2 x0 x1) := by
  dsimp only [kernelRun0_B]; sl_kernel_rfl

theorem nb_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.2.2.2.2.2.1
    = nList arg5 harg5 x4 (uRd arg1 harg1 arg2 harg2 x0 x1) := by
  dsimp only [kernelRun0_B]; sl_kernel_rfl

theorem st_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0).2.2.2.2.2.2.2.2.2.2.1
    = topP (arg17.view.readCov (kernelRun0_B.sl.HS0_12 c arg1 harg1 arg2 harg2 arg3 harg3 x0 x1 x2) botRect.toLoadRect) :: (kernelRun0_B.sl.HS0_12 c arg1 harg1 arg2 harg2 arg3 harg3 x0 x1 x2) := by
  dsimp only [kernelRun0_B]; sl_kernel_rfl

end InProj.B

end
-- ==== Proof.InPointB.lean ====
/-
  A later grid point of a sequence: what it leaves.
-/
module

public import proofs.«01_k».proof.Proof.InPieceB
public import proofs.«01_k».proof.Proof.InStage
public import proofs.«01_k».proof.Proof.Gen.Kernel2Ideal.Frame

@[expose] public section

set_option backward.proofsInPublic true
set_option maxRecDepth 16384

noncomputable section

namespace InProj.B

open Cert.Kernel2Ideal Cert.Kernel2Ideal.Gen
open Idealize.ShloMosaic Idealize.ShloMosaic.TcCoe Idealize.SL

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x8704 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S256x1280 .f32) (harg7 : arg7.IsWhole) (arg8 : Memref sig .tc .vmem S256x1280 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S256x128 .f32) (harg16 : arg16.IsWhole) (arg17 : Memref sig .tc .vmem S264x3072 .f32) (harg17 : arg17.IsWhole) (hc0 : ¬cond0_0 i)
    {x0 : Vec Ideal S256x1024 .f32} {x1 : Vec Ideal S1x1024 .f32} {x2 : Vec Ideal S1024x8704 .bf16} {x3 x4 : Vec Ideal S1024x128 .bf16}
    {x5 : Vec Ideal S4x3072 .f32} {xs0 : Vec Ideal S264x3072 .f32} {D : Data} {t : Nat} (h : Blocks D (256 * t) x0 x1 x2 x3 x4 x5)
    (hc : ∀ (s : Fin 264) j, s.val < 8 → xs0 (ix2 s j) = stg D t s.val j)
include h hc

omit hc in
/-- The rows staged. -/
theorem st_rows (i : Fin 264) (j : Fin 3072) (hi : 8 ≤ i.val) : View.canon (kernelRun0_B.sl.HS0_12 c arg1 harg1 arg2 harg2 arg3 harg3 x0 x1 x2) (ix2 i j) = stg D t i.val j := by
  rw [hs_eq]
  have e := st_canon arg1 harg1 arg2 harg2 arg3 harg3 h [] i j hi
  rwa [List.append_nil] at e

/-- What a tap reads. -/
theorem rd_tap (p : Fin 3) (hd : Fin 8) (r k : Fin 4) (i : Fin 64) (l : Fin 128) :
    rd c arg1 harg1 arg2 harg2 arg3 harg3 arg17 harg17 x0 x1 x2 xs0 p hd r k (ix2 i l) = D.tap (256 * t + (r.val * 64 + i.val)) k.val (lane p hd l) := by
  unfold rd
  by_cases hk : 8 ≤ r.val * 64 + 5 + k.val
  · rw [Nat.ble_eq_true_of_le hk]
    exact tap_read arg17.view _ p hd r k (fun s j hs => st_rows (h := h) (i := s) (j := j) (hi := by omega) ..) i l
  · rw [Bool.eq_false_iff.mpr fun e => hk (Nat.le_of_ble_eq_true e)]
    refine tap_at arg17.view _ p hd r k (fun s j => ?_) i l
    rw [hs_eq]
    exact st_under arg17.view arg1 harg1 arg2 harg2 arg3 harg3 h _ (fun s j hs => (congrFun (harg17.read_unread _) _).trans (hc s j hs)) s j

/-- What the point leaves. -/
theorem point : Point D t (out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0)
      (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0) where
  rx i j := by
    unfold out0_B_6
    rw [View.read_writes_junk_eq_canon, rx_eq]
    exact rx_canon arg1 harg1 arg2 harg2 arg3 harg3 h i j
  rg i j := by
    unfold out0_B_7
    rw [View.read_writes_junk_eq_canon, rg_eq]
    exact rg_canon arg1 harg1 arg2 harg2 arg3 harg3 h i j
  q i j := by
    unfold out0_B_8
    rw [View.read_writes_junk_eq_canon, q_eq]
    exact q_canon arg6 harg6 h (fun p hd r k i' l => rd_tap (h := h) (hc := hc) (p := p) (hd := hd) (r := r) (k := k) (i := i') (l := l) ..) i j
  k i j := by
    unfold out0_B_9
    rw [View.read_writes_junk_eq_canon, k_eq]
    exact k_canon arg6 harg6 h (fun p hd r k i' l => rd_tap (h := h) (hc := hc) (p := p) (hd := hd) (r := r) (k := k) (i := i') (l := l) ..) i j
  v i j := by
    unfold out0_B_10
    rw [View.read_writes_junk_eq_canon, v_eq]
    exact v_canon arg6 harg6 h (fun p hd r k i' l => rd_tap (h := h) (hc := hc) (p := p) (hd := hd) (r := r) (k := k) (i := i') (l := l) ..) i j
  z i j := by
    unfold out0_B_11
    rw [View.read_writes_junk_eq_canon, z_eq]
    exact z_canon arg1 harg1 arg2 harg2 arg3 harg3 h i j
  ga i j := by
    unfold out0_B_12
    rw [View.read_writes_junk_eq_canon, ga_eq]
    exact g_canon arg1 harg1 arg2 harg2 arg3 harg3 h 6656 (by omega) (by omega) i j
  gb i j := by
    unfold out0_B_13
    rw [View.read_writes_junk_eq_canon, gb_eq]
    exact g_canon arg1 harg1 arg2 harg2 arg3 harg3 h 7680 (by omega) (by omega) i j
  a i j := by
    unfold out0_B_14
    rw [View.read_writes_junk_eq_canon, na_eq]
    exact n_canon arg1 harg1 arg2 harg2 arg4 harg4 h x3 6656 (by omega) h.x3 i j
  b i j := by
    unfold out0_B_15
    rw [View.read_writes_junk_eq_canon, nb_eq]
    exact n_canon arg1 harg1 arg2 harg2 arg5 harg5 h x4 6664 (by omega) h.x4 i j
  st i j hi := by
    unfold sout0_B_0
    rw [View.read_writes_junk_eq_canon, st_eq]
    exact top_canon _ _ (fun s j => D.qkv (256 * t + 248 + s) j) (bot_read arg17.view _ (fun s j hs => st_rows (h := h) (i := s) (j := j) (hi := hs) ..)) i j hi

end InProj.B

end
-- ==== Proof.InEntry.lean ====
/-
  The blocks that each grid point of the input projection reads, from the arguments.
-/
module

public import proofs.«01_k».proof.Proof.Gen.Kernel2Ideal.Frame
public import proofs.«01_k».proof.Proof.InReads
public import Idealize.ShloMosaic.Lib.KernelVsHost

@[expose] public section

set_option maxRecDepth 16384

noncomputable section

namespace InProj

open Cert.Kernel2Ideal Cert.Kernel2Ideal.Gen
open Idealize.ShloMosaic Idealize.ShloMosaic.TcCoe Idealize.ShloMosaic.Tactic Idealize.SL

/-- The projection's data, from the four arguments. -/
def mk (x : Vec Ideal S16x4096x1024 .f32) (nw : Vec Ideal S1x1024 .f32) (w : Vec Ideal S1x1024x8720 .f32) (dw : Vec Ideal S1x4x3072 .f32) : Data where
  x := fun r k => if h : r < 65536 then x (ix3 ⟨r / 4096, by omega⟩ ⟨r % 4096, by omega⟩ k) else 0
  nw := fun k => nw (ix2 0 k)
  w := fun k j => w (ix3 0 k j)
  dw := fun k j => dw (ix3 0 k j)

variable (m : (ℓ : Loc nD τ sig) → Buf (Elt Ideal) ℓ) (c : Dev nD)

/-- The projection's data, as launched. -/
def E : Data := mk (m ((c : Thread nD τ).loc main_arg0)) (m ((c : Thread nD τ).loc main_arg1)) (m ((c : Thread nD τ).loc main_arg2)) (m ((c : Thread nD τ).loc main_arg3))

/-- The streamed window moves down the rows with the grid. -/
theorem idx_rows : ∀ t : Fin cfg0.N, win0_0.index t (0 : Fin 2) = t.val ∧ win0_0.index t (1 : Fin 2) = 0 :=
  (by decide +kernel : ∀ t : Fin grid0.N, _)

theorem row_lt (t : Fin cfg0.N) (i : Fin 256) : 256 * t.val + i.val < 65536 := by
  have h := lt_of_lt_of_eq t.isLt (show cfg0.N = 256 from N_0); omega

theorem iblk0 (t : Fin cfg0.N) (i : Fin 256) (k : Fin 1024) :
    (iblk m c 0 t : Vec Ideal S256x1024 .f32) (ix2 i k) = (V m c main_v11 : Vec Ideal S65536x1024 .f32) (ix2 ⟨256 * t.val + i.val, row_lt t i⟩ k) := by
  obtain ⟨h0, h1⟩ := idx_rows t
  refine congrArg (V m c main_v11) (funext fun a => Fin.ext ?_)
  match a with
  | ⟨0, _⟩ => show win0_0.index t (0 : Fin 2) * 256 + 1 * i.val = 256 * t.val + i.val; omega
  | ⟨1, _⟩ => show win0_0.index t (1 : Fin 2) * 1024 + 1 * k.val = k.val; omega

/-- The other windows hold their arrays whole. -/
theorem iblk1 (t : Fin cfg0.N) (k : Fin 1024) : (iblk m c 1 t : Vec Ideal S1x1024 .f32) (ix2 0 k) = (V m c main_v13 : Vec Ideal S1x1024 .f32) (ix2 0 k) := by
  refine congrArg (V m c main_v13) (funext fun a => Fin.ext ?_)
  match a with
  | ⟨0, _⟩ => rfl
  | ⟨1, _⟩ => show 0 * 1024 + 1 * k.val = k.val; omega

theorem iblk2 (t : Fin cfg0.N) (k : Fin 1024) (j : Fin 8704) : (iblk m c 2 t : Vec Ideal S1024x8704 .bf16) (ix2 k j) = (V m c main_v4 : Vec Ideal S1024x8704 .bf16) (ix2 k j) := by
  refine congrArg (V m c main_v4) (funext fun a => Fin.ext ?_)
  match a with
  | ⟨0, _⟩ => show 0 * 1024 + 1 * k.val = k.val; omega
  | ⟨1, _⟩ => show 0 * 8704 + 1 * j.val = j.val; omega

theorem iblk3 (t : Fin cfg0.N) (k : Fin 1024) (j : Fin 128) : (iblk m c 3 t : Vec Ideal S1024x128 .bf16) (ix2 k j) = (V m c main_v7 : Vec Ideal S1024x128 .bf16) (ix2 k j) := by
  refine congrArg (V m c main_v7) (funext fun a => Fin.ext ?_)
  match a with
  | ⟨0, _⟩ => show 0 * 1024 + 1 * k.val = k.val; omega
  | ⟨1, _⟩ => show 0 * 128 + 1 * j.val = j.val; omega

theorem iblk4 (t : Fin cfg0.N) (k : Fin 1024) (j : Fin 128) : (iblk m c 4 t : Vec Ideal S1024x128 .bf16) (ix2 k j) = (V m c main_v10 : Vec Ideal S1024x128 .bf16) (ix2 k j) := by
  refine congrArg (V m c main_v10) (funext fun a => Fin.ext ?_)
  match a with
  | ⟨0, _⟩ => show 0 * 1024 + 1 * k.val = k.val; omega
  | ⟨1, _⟩ => show 0 * 128 + 1 * j.val = j.val; omega

theorem iblk5 (t : Fin cfg0.N) (k : Fin 4) (j : Fin 3072) : (iblk m c 5 t : Vec Ideal S4x3072 .f32) (ix2 k j) = (V m c main_v14 : Vec Ideal S4x3072 .f32) (ix2 k j) := by
  refine congrArg (V m c main_v14) (funext fun a => Fin.ext ?_)
  match a with
  | ⟨0, _⟩ => show 0 * 4 + 1 * k.val = k.val; omega
  | ⟨1, _⟩ => show 0 * 3072 + 1 * j.val = j.val; omega

/-- The leading unit axis of a matrix dropped, of a row dropped and put back. -/
theorem cast_mat {p q : Nat} {α : Type} (x : (⟨3, ![1, p, q]⟩ : Shape).Idx → α) (h : (⟨3, ![1, p, q]⟩ : Shape).ShapeCasts ⟨2, ![p, q]⟩) (i : Fin p) (j : Fin q) :
    shapeCast ⟨2, ![p, q]⟩ x h (ix2 i j) = x (ix3 0 i j) := by
  refine shapeCast_apply x h _ _ ?_
  rw [Shape.rowMajor_val_three, Shape.rowMajor_val_two]
  show (0 * p + i.val) * q + j.val = i.val * q + j.val
  rw [Nat.zero_mul, Nat.zero_add]

theorem cast_vec {p : Nat} {α : Type} (x : (⟨2, ![1, p]⟩ : Shape).Idx → α) (h : (⟨2, ![1, p]⟩ : Shape).ShapeCasts ⟨1, ![p]⟩) (i : Fin p) :
    shapeCast ⟨1, ![p]⟩ x h (ix1 i) = x (ix2 0 i) := by
  refine shapeCast_apply x h _ _ ?_
  rw [Shape.rowMajor_val_two, Shape.rowMajor_val_one]
  show 0 * p + i.val = i.val
  omega

/-- The rows of all the sequences, one below the other. -/
theorem cast_rows {q : Nat} {α : Type} (x : (⟨3, ![16, 4096, q]⟩ : Shape).Idx → α) (h : (⟨3, ![16, 4096, q]⟩ : Shape).ShapeCasts ⟨2, ![65536, q]⟩)
    (r : Fin 65536) (k : Fin q) : shapeCast ⟨2, ![65536, q]⟩ x h (ix2 r k) = x (ix3 ⟨r.val / 4096, by omega⟩ ⟨r.val % 4096, by omega⟩ k) := by
  refine shapeCast_apply x h _ _ ?_
  rw [Shape.rowMajor_val_three, Shape.rowMajor_val_two]
  show (r.val / 4096 * 4096 + r.val % 4096) * q + k.val = r.val * q + k.val
  rw [Nat.div_add_mod']

theorem V_v11 (r : Fin 65536) (k : Fin 1024) : (V m c main_v11 : Vec Ideal S65536x1024 .f32) (ix2 r k)
    = (m ((c : Thread nD τ).loc main_arg0) : Vec Ideal S16x4096x1024 .f32) (ix3 ⟨r.val / 4096, by omega⟩ ⟨r.val % 4096, by omega⟩ k) := by
  dsimp only [V]; simp only [hostOps0, hostOps0_1, hostOps0_2, hostOps0_3, hostOps0_4, List.flatten_cons, List.flatten_nil, List.append_nil, List.cons_append, List.nil_append]; after_results; exact cast_rows _ _ r k

theorem nw_apply (x : Vec Ideal S1x1024 .f32) (k : Fin 1024) :
    (broadcastInDim S1x1024 ![1] bcast_S1024_S1x1024_1 (shapeCast S1024 x shapeCasts_S1x1024_S1024 : Vec Ideal S1024 .f32) : Vec Ideal S1x1024 .f32) (ix2 0 k) = x (ix2 0 k) := by
  refine Eq.trans ?_ (cast_vec x shapeCasts_S1x1024_S1024 k)
  pointwise

theorem V_v13 (k : Fin 1024) : (V m c main_v13 : Vec Ideal S1x1024 .f32) (ix2 0 k) = (m ((c : Thread nD τ).loc main_arg1) : Vec Ideal S1x1024 .f32) (ix2 0 k) := by
  dsimp only [V]; simp only [hostOps0, hostOps0_1, hostOps0_2, hostOps0_3, hostOps0_4, List.flatten_cons, List.flatten_nil, List.append_nil, List.cons_append, List.nil_append]; after_results; exact nw_apply _ k

theorem V_v14 (k : Fin 4) (j : Fin 3072) : (V m c main_v14 : Vec Ideal S4x3072 .f32) (ix2 k j) = (m ((c : Thread nD τ).loc main_arg3) : Vec Ideal S1x4x3072 .f32) (ix3 0 k j) := by
  dsimp only [V]; simp only [hostOps0, hostOps0_1, hostOps0_2, hostOps0_3, hostOps0_4, List.flatten_cons, List.flatten_nil, List.append_nil, List.cons_append, List.nil_append]; after_results; exact cast_mat _ _ k j

/-- The padding value: an integer zero, converted. -/
theorem zero_conv {s : Shape} (i : s.Idx) : (sitofp .f32 (constantI s 32 0#32) : FVec Ideal s .f32) i = 0 := by
  show (((0#32 : BitVec 32).toInt : ℝ) : EReal) = 0
  simp

/-- The main weights: the columns around the sixteen narrow ones. -/
def mainW (x : Vec Ideal S1024x8720 .f32) : FVec Ideal S1024x8704 .f32 :=
  concatenate S1024x8704 1 [⟨S1024x6656, extractStridedSlice S1024x6656 ![0, 0] x slices_S1024x8720_S1024x6656_0_0⟩,
    ⟨S1024x2048, extractStridedSlice S1024x2048 ![0, 6672] x slices_S1024x8720_S1024x2048_0_6672⟩] concatenates_S1024x6656_S1024x2048_S1024x8704_d1

theorem cols_apply {A B b : Nat} {α : Type} (o : Nat) (x : (⟨2, ![A, B]⟩ : Shape).Idx → α) (h : (⟨2, ![A, B]⟩ : Shape).Slices ![0, o] ⟨2, ![A, b]⟩) (k : Fin A) (j : Fin b)
    (hj : o + j.val < B) : extractStridedSlice ⟨2, ![A, b]⟩ ![0, o] x h (ix2 k j) = x (ix2 k ⟨o + j.val, hj⟩) :=
  extractStridedSlice_apply _ _ _ _ _ fun a => by
    match a with
    | ⟨0, _⟩ => show k.val = 0 + k.val; omega
    | ⟨1, _⟩ => rfl

theorem mainW_apply (x : Vec Ideal S1024x8720 .f32) (k : Fin 1024) (j : Fin 8704) : mainW x (ix2 k j) = x (ix2 k ⟨mainCol j.val, mainCol_lt j.isLt⟩) := by
  by_cases h : j.val < 6656
  · refine (concatenate_pair_apply_left (t := S1024x8704) (s₁ := S1024x6656) (s₂ := S1024x2048) 1 _ _ _ (ix2 k j) rfl (ix2 k ⟨j.val, h⟩) (fun b => by
      match b with
      | ⟨0, _⟩ => rfl
      | ⟨1, _⟩ => rfl)).trans ((cols_apply 0 x _ k ⟨j.val, h⟩ (by show 0 + j.val < 8720; omega)).trans ?_)
    refine congrArg (fun j => x (ix2 k j)) (Fin.ext ?_)
    show 0 + j.val = mainCol j.val
    unfold mainCol
    rw [if_pos h]; omega
  · refine (concatenate_pair_apply_right (t := S1024x8704) (s₁ := S1024x6656) (s₂ := S1024x2048) 1 _ _ _ (ix2 k j) rfl rfl (ix2 k ⟨j.val - 6656, by omega⟩) (fun b hb => by
      match b, hb with
      | ⟨0, _⟩, _ => rfl
      | ⟨1, _⟩, hb => exact absurd rfl hb) (by show j.val - 6656 + 6656 = j.val; omega)).trans ((cols_apply 6672 x _ k ⟨j.val - 6656, by omega⟩ (by show 6672 + (j.val - 6656) < 8720; omega)).trans ?_)
    refine congrArg (fun j => x (ix2 k j)) (Fin.ext ?_)
    show 6672 + (j.val - 6656) = mainCol j.val
    unfold mainCol
    rw [if_neg h]; omega

theorem V_v4 (k : Fin 1024) (j : Fin 8704) : (V m c main_v4 : Vec Ideal S1024x8704 .bf16) (ix2 k j)
    = (m ((c : Thread nD τ).loc main_arg2) : Vec Ideal S1x1024x8720 .f32) (ix3 0 k ⟨mainCol j.val, mainCol_lt j.isLt⟩) := by
  dsimp only [V]; simp only [hostOps0, hostOps0_1, hostOps0_2, hostOps0_3, hostOps0_4, List.flatten_cons, List.flatten_nil, List.append_nil, List.cons_append, List.nil_append]; after_results; exact (mainW_apply _ k j).trans (cast_mat _ _ k _)

/-- Eight columns, widened with zeros to a lane's width. -/
theorem narrow_apply (o : Nat) (x : Vec Ideal S1024x8720 .f32) (h : S1024x8720.Slices ![0, o] S1024x8) (z : Vec Ideal S_ .f32) (hp : S1024x8.Pads ![0, 0] ![0, 120] ![0, 0] S1024x128)
    (hu : 0 < S_.numel) (hz : z (Shape.Idx.first hu) = 0) (k : Fin 1024) (j : Fin 128) (ho : o + 8 ≤ 8720) :
    (pad S1024x128 ![0, 0] ![0, 120] ![0, 0] (extractStridedSlice S1024x8 ![0, o] x h : Vec Ideal S1024x8 .f32) z hp hu : Vec Ideal S1024x128 .f32) (ix2 k j)
      = if hj : j.val < 8 then x (ix2 k ⟨o + j.val, by omega⟩) else 0 := by
  by_cases hj : j.val < 8
  · rw [dif_pos hj]
    refine (pad_apply_of_inside _ _ _ _ _ _ _ (ix2 k j) (ix2 k ⟨j.val, hj⟩) fun a => ?_).trans (cols_apply o x h k ⟨j.val, hj⟩ (by show o + j.val < 8720; omega))
    match a with
    | ⟨0, _⟩ => show k.val = 0 + k.val * (0 + 1); omega
    | ⟨1, _⟩ => show j.val = 0 + j.val * (0 + 1); omega
  · rw [dif_neg hj]
    refine (pad_apply_of_not_inside _ _ _ _ _ _ _ (ix2 k j) 1 fun h' => hj ?_).trans hz
    have h2 : (j.val - 0) / (0 + 1) < 8 := h'.2.2
    omega

theorem V_v7 (k : Fin 1024) (j : Fin 128) : (V m c main_v7 : Vec Ideal S1024x128 .bf16) (ix2 k j)
    = (if h : j.val < 8 then (m ((c : Thread nD τ).loc main_arg2) : Vec Ideal S1x1024x8720 .f32) (ix3 0 k ⟨6656 + j.val, by omega⟩) else 0 : Ideal .f32) := by
  dsimp only [V]; simp only [hostOps0, hostOps0_1, hostOps0_2, hostOps0_3, hostOps0_4, List.flatten_cons, List.flatten_nil, List.append_nil, List.cons_append, List.nil_append]; after_results
  refine Eq.trans ?_ ((narrow_apply 6656 (shapeCast S1024x8720 (m ((c : Thread nD τ).loc main_arg2) : Vec Ideal S1x1024x8720 .f32) shapeCasts_S1x1024x8720_S1024x8720)
    slices_S1024x8720_S1024x8_0_6656 (sitofp .f32 (constantI S_ 32 0#32) : FVec Ideal S_ .f32) pads_S1024x8_S1024x128_000_01200 h_S_ (zero_conv (s := S_) _) k j (by omega)).trans ?_)
  · rfl
  · simp only [cast_mat]

theorem V_v10 (k : Fin 1024) (j : Fin 128) : (V m c main_v10 : Vec Ideal S1024x128 .bf16) (ix2 k j)
    = (if h : j.val < 8 then (m ((c : Thread nD τ).loc main_arg2) : Vec Ideal S1x1024x8720 .f32) (ix3 0 k ⟨6664 + j.val, by omega⟩) else 0 : Ideal .f32) := by
  dsimp only [V]; simp only [hostOps0, hostOps0_1, hostOps0_2, hostOps0_3, hostOps0_4, List.flatten_cons, List.flatten_nil, List.append_nil, List.cons_append, List.nil_append]; after_results
  refine Eq.trans ?_ ((narrow_apply 6664 (shapeCast S1024x8720 (m ((c : Thread nD τ).loc main_arg2) : Vec Ideal S1x1024x8720 .f32) shapeCasts_S1x1024x8720_S1024x8720)
    slices_S1024x8720_S1024x8_0_6664 (sitofp .f32 (constantI S_ 32 0#32) : FVec Ideal S_ .f32) pads_S1024x8_S1024x128_000_01200 h_S_ (zero_conv (s := S_) _) k j (by omega)).trans ?_)
  · rfl
  · simp only [cast_mat]

/-- The blocks of a grid point. -/
theorem blocks (t : Fin cfg0.N) : Blocks (E m c) (256 * t.val) (iblk m c 0 t) (iblk m c 1 t) (iblk m c 2 t) (iblk m c 3 t) (iblk m c 4 t) (iblk m c 5 t) where
  x0 i k := by
    refine (iblk0 m c t i k).trans ((V_v11 m c _ k).trans (Eq.symm ?_))
    exact dif_pos (row_lt t i)
  x1 k := (iblk1 m c t k).trans (V_v13 m c k)
  x2 k j := (iblk2 m c t k j).trans (V_v4 m c k j)
  x3 k j := (iblk3 m c t k j).trans (V_v7 m c k j)
  x4 k j := (iblk4 m c t k j).trans (V_v10 m c k j)
  x5 k j := (iblk5 m c t k j).trans (V_v14 m c k j)

end InProj

end
-- ==== Proof.InChain.lean ====
/-
  The grid points of the input projection in order: every step's blocks, and the ten result arrays.
-/
module

public import proofs.«01_k».proof.Proof.Gen.Kernel2Ideal.Value
public import proofs.«01_k».proof.Proof.InPointA
public import proofs.«01_k».proof.Proof.InPointB
public import proofs.«01_k».proof.Proof.InEntry

@[expose] public section

set_option backward.proofsInPublic true
set_option maxRecDepth 16384

noncomputable section

namespace InProj

open Cert.Kernel2Ideal Cert.Kernel2Ideal.Gen Cert.Kernel2Ideal.Value
open Idealize.ShloMosaic Idealize.ShloMosaic.TcCoe Idealize.SL

variable (m : (ℓ : Loc nD τ sig) → Buf (Elt Ideal) ℓ) (c : Dev nD)

/-- What a point hands on: the ten blocks and the staged rows. -/
abbrev St : Type := Vec Ideal S256x1280 .f32 × Vec Ideal S256x1280 .bf16 × Vec Ideal S256x1024 .f32 × Vec Ideal S256x1024 .f32 × Vec Ideal S256x1024 .f32
  × Vec Ideal S256x1024 .bf16 × Vec Ideal S256x1024 .bf16 × Vec Ideal S256x1024 .bf16 × Vec Ideal S256x128 .f32 × Vec Ideal S256x128 .f32 × Vec Ideal S264x3072 .f32

/-- They are the data's. -/
def Holds (n : Nat) (o : St) : Prop :=
  Point (E m c) n o.1 o.2.1 o.2.2.1 o.2.2.2.1 o.2.2.2.2.1 o.2.2.2.2.2.1 o.2.2.2.2.2.2.1 o.2.2.2.2.2.2.2.1 o.2.2.2.2.2.2.2.2.1 o.2.2.2.2.2.2.2.2.2.1 o.2.2.2.2.2.2.2.2.2.2

theorem holds_mk {n : Nat} {rx rg q k v z ga gb a b st} (h : Point (E m c) n rx rg q k v z ga gb a b st) : Holds m c n (rx, rg, q, k, v, z, ga, gb, a, b, st) := h

theorem holds_st {n : Nat} {o : St} (h : Holds m c n o) (s : Fin 264) (j : Fin 3072) (hs : s.val < 8) :
    o.2.2.2.2.2.2.2.2.2.2 (ix2 s j) = (E m c).qkv (256 * n + 248 + s.val) j := Point.st h s j hs

theorem stg_next (D : Data) (t : Nat) (h0 : ¬t % 16 = 0) (s : Fin 264) (j : Fin 3072) (hs : s.val < 8) :
    D.qkv (256 * (t - 1) + 248 + s.val) j = stg D t s.val j := by
  unfold stg
  rw [if_neg (fun h => h0 h.2)]
  exact congrArg (fun s => D.qkv s j) (by omega)

theorem holds_first (t : Fin cfg0.N) (h0 : t.val % 16 = 0) : Holds m c t.val (outsAt0 m c t.val t.isLt) := by
  rw [outsAt0_A m c t h0]
  exact holds_mk m c (A.point (h := blocks m c t) (h0 := h0) ..)

theorem holds_next (t : Fin cfg0.N) (h0 : ¬t.val % 16 = 0)
    (ih : Holds m c (t.val - 1) (outsAt0 m c (t.val - 1) (Nat.lt_of_le_of_lt (Nat.sub_le _ _) t.isLt))) :
    Holds m c t.val (outsAt0 m c t.val t.isLt) := by
  have hc := fun (s : Fin 264) (j : Fin 3072) (hs : s.val < 8) => (holds_st m c ih s j hs).trans (stg_next (E m c) t.val h0 s j hs)
  rw [outsAt0_B m c t h0]
  exact holds_mk m c (B.point (h := blocks m c t) (hc := hc) ..)

theorem holds : ∀ (n : Nat) (hn : n < cfg0.N), Holds m c n (outsAt0 m c n hn)
  | 0, hn => holds_first m c ⟨0, hn⟩ (Nat.zero_mod _)
  | n + 1, hn => by
    by_cases h0 : (n + 1) % 16 = 0
    · exact holds_first m c ⟨n + 1, hn⟩ h0
    · exact holds_next m c ⟨n + 1, hn⟩ h0 (holds n (Nat.lt_of_succ_lt hn))

theorem pt_lt (r : Fin 65536) : r.val / 256 < cfg0.N := by
  have hN : cfg0.N = 256 := N_0
  omega

/-- A result array's entry is the one that its row's point leaves. -/
theorem pick {W : Nat} {e : EltTy} (proj : St → Vec Ideal ⟨2, ![256, W]⟩ e) (r : Fin 65536) (j : Fin W) (pt : Nat) (loc : (⟨2, ![256, W]⟩ : Shape).Idx)
    (hpt : pt = r.val / 256) (hl0 : (loc 0).val = r.val % 256) (hl1 : (loc 1).val = j.val) (z : Elt Ideal e) :
    (if h : pt < cfg0.N then proj (Pipeline.accAt (fun n h => stAt0 m c n h junk0) (stAt0 m c) 0 pt (by omega)) loc else z)
      = proj (outsAt0 m c (r.val / 256) (pt_lt r)) (ix2 ⟨r.val % 256, Nat.mod_lt _ (by decide)⟩ j) := by
  subst hpt
  have hl : loc = ix2 ⟨r.val % 256, Nat.mod_lt _ (by decide)⟩ j := by
    funext a
    match a with
    | ⟨0, _⟩ => exact Fin.ext hl0
    | ⟨1, _⟩ => exact Fin.ext hl1
  rw [outsAt0_sweep, hl]
  exact dif_pos (pt_lt r)

theorem rx_result (r : Fin 65536) (j : Fin 1280) : (G6 m c : Vec Ideal S65536x1280 .f32) (ix2 r j) = (E m c).rx r.val j :=
  (pick m c (fun o => o.1) r j (pt6Of (ix2 r j)) (loc6Of (ix2 r j)) (by show 1 * (r.val / 256 - 0) + 1 * (j.val / 1280 - 0) = _; omega) rfl (Nat.mod_eq_of_lt j.isLt) _).trans
    (((holds m c _ _).rx _ j).trans (congrArg (fun s => (E m c).rx s j) (Nat.div_add_mod r.val 256)))

theorem rg_result (r : Fin 65536) (j : Fin 1280) : (G7 m c : Vec Ideal S65536x1280 .bf16) (ix2 r j) = (E m c).rg r.val j :=
  (pick m c (fun o => o.2.1) r j (pt7Of (ix2 r j)) (loc7Of (ix2 r j)) (by show 1 * (r.val / 256 - 0) + 1 * (j.val / 1280 - 0) = _; omega) rfl (Nat.mod_eq_of_lt j.isLt) _).trans
    (((holds m c _ _).rg _ j).trans (congrArg (fun s => (E m c).rg s j) (Nat.div_add_mod r.val 256)))

theorem q_result (r : Fin 65536) (j : Fin 1024) : (G8 m c : Vec Ideal S65536x1024 .f32) (ix2 r j) = (E m c).q r.val ⟨j.val / 128, by omega⟩ ⟨j.val % 128, by omega⟩ :=
  (pick m c (fun o => o.2.2.1) r j (pt8Of (ix2 r j)) (loc8Of (ix2 r j)) (by show 1 * (r.val / 256 - 0) + 1 * (j.val / 1024 - 0) = _; omega) rfl (Nat.mod_eq_of_lt j.isLt) _).trans
    (((holds m c _ _).q _ j).trans (congrArg (fun s => (E m c).q s ⟨j.val / 128, by omega⟩ ⟨j.val % 128, by omega⟩) (Nat.div_add_mod r.val 256)))

theorem k_result (r : Fin 65536) (j : Fin 1024) : (G9 m c : Vec Ideal S65536x1024 .f32) (ix2 r j) = (E m c).k r.val ⟨j.val / 128, by omega⟩ ⟨j.val % 128, by omega⟩ :=
  (pick m c (fun o => o.2.2.2.1) r j (pt9Of (ix2 r j)) (loc9Of (ix2 r j)) (by show 1 * (r.val / 256 - 0) + 1 * (j.val / 1024 - 0) = _; omega) rfl (Nat.mod_eq_of_lt j.isLt) _).trans
    (((holds m c _ _).k _ j).trans (congrArg (fun s => (E m c).k s ⟨j.val / 128, by omega⟩ ⟨j.val % 128, by omega⟩) (Nat.div_add_mod r.val 256)))

theorem v_result (r : Fin 65536) (j : Fin 1024) : (G10 m c : Vec Ideal S65536x1024 .f32) (ix2 r j) = (E m c).v r.val ⟨j.val / 128, by omega⟩ ⟨j.val % 128, by omega⟩ :=
  (pick m c (fun o => o.2.2.2.2.1) r j (pt10Of (ix2 r j)) (loc10Of (ix2 r j)) (by show 1 * (r.val / 256 - 0) + 1 * (j.val / 1024 - 0) = _; omega) rfl (Nat.mod_eq_of_lt j.isLt) _).trans
    (((holds m c _ _).v _ j).trans (congrArg (fun s => (E m c).v s ⟨j.val / 128, by omega⟩ ⟨j.val % 128, by omega⟩) (Nat.div_add_mod r.val 256)))

theorem z_result (r : Fin 65536) (j : Fin 1024) : (G11 m c : Vec Ideal S65536x1024 .bf16) (ix2 r j) = (E m c).z r.val j :=
  (pick m c (fun o => o.2.2.2.2.2.1) r j (pt11Of (ix2 r j)) (loc11Of (ix2 r j)) (by show 1 * (r.val / 256 - 0) + 1 * (j.val / 1024 - 0) = _; omega) rfl (Nat.mod_eq_of_lt j.isLt) _).trans
    (((holds m c _ _).z _ j).trans (congrArg (fun s => (E m c).z s j) (Nat.div_add_mod r.val 256)))

theorem ga_result (r : Fin 65536) (j : Fin 1024) : (G12 m c : Vec Ideal S65536x1024 .bf16) (ix2 r j) = (E m c).ga r.val j :=
  (pick m c (fun o => o.2.2.2.2.2.2.1) r j (pt12Of (ix2 r j)) (loc12Of (ix2 r j)) (by show 1 * (r.val / 256 - 0) + 1 * (j.val / 1024 - 0) = _; omega) rfl (Nat.mod_eq_of_lt j.isLt) _).trans
    (((holds m c _ _).ga _ j).trans (congrArg (fun s => (E m c).ga s j) (Nat.div_add_mod r.val 256)))

theorem gb_result (r : Fin 65536) (j : Fin 1024) : (G13 m c : Vec Ideal S65536x1024 .bf16) (ix2 r j) = (E m c).gb r.val j :=
  (pick m c (fun o => o.2.2.2.2.2.2.2.1) r j (pt13Of (ix2 r j)) (loc13Of (ix2 r j)) (by show 1 * (r.val / 256 - 0) + 1 * (j.val / 1024 - 0) = _; omega) rfl (Nat.mod_eq_of_lt j.isLt) _).trans
    (((holds m c _ _).gb _ j).trans (congrArg (fun s => (E m c).gb s j) (Nat.div_add_mod r.val 256)))

theorem a_result (r : Fin 65536) (j : Fin 128) : (G14 m c : Vec Ideal S65536x128 .f32) (ix2 r j) = (E m c).a r.val j :=
  (pick m c (fun o => o.2.2.2.2.2.2.2.2.1) r j (pt14Of (ix2 r j)) (loc14Of (ix2 r j)) (by show 1 * (r.val / 256 - 0) + 1 * (j.val / 128 - 0) = _; omega) rfl (Nat.mod_eq_of_lt j.isLt) _).trans
    (((holds m c _ _).a _ j).trans (congrArg (fun s => (E m c).a s j) (Nat.div_add_mod r.val 256)))

theorem b_result (r : Fin 65536) (j : Fin 128) : (G15 m c : Vec Ideal S65536x128 .f32) (ix2 r j) = (E m c).b r.val j :=
  (pick m c (fun o => o.2.2.2.2.2.2.2.2.2.1) r j (pt15Of (ix2 r j)) (loc15Of (ix2 r j)) (by show 1 * (r.val / 256 - 0) + 1 * (j.val / 128 - 0) = _; omega) rfl (Nat.mod_eq_of_lt j.isLt) _).trans
    (((holds m c _ _).b _ j).trans (congrArg (fun s => (E m c).b s j) (Nat.div_add_mod r.val 256)))

end InProj

end
-- ==== Proof.InRefStages.lean ====
/-
  The reference of the input projection, stage by stage, as plain terms over the arguments.
-/
module

public import proofs.«01_k».proof.Proof.Gen.Reference2Ideal.Run
public import Idealize.ShloMosaic.PureOps.Ideal

@[expose] public section

set_option maxRecDepth 16384

noncomputable section

namespace RefProj

open Cert.Reference2Ideal Cert.Reference2Ideal.Gen Cert.Reference2Ideal.Value
open Idealize.ShloMosaic Idealize.ShloMosaic.TcCoe Idealize.ShloMosaic.StableHlo

/-- The normalised rows. -/
def norm (x : FVec Ideal S16x4096x1024 .f32) (nw : FVec Ideal S1x1024 .f32) : FVec Ideal S16x4096x1024 .f32 :=
  mulf (mulf x (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf x x) (constant S_ .f32 0x00000000#32) reducesTo_S16x4096x1024_S16x4096_d2 h_S_))
    (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 (shapeCast S1024 nw shapeCasts_S1x1024_S1024)))

/-- The projection. -/
def proj (x : FVec Ideal S16x4096x1024 .f32) (nw : FVec Ideal S1x1024 .f32) (w : FVec Ideal S1x1024x8720 .f32) : FVec Ideal S16x4096x8720 .f32 :=
  Host.dotGeneral dot_S16x4096x1024_S1024x8720_S16x4096x8720_2_0_01_1_n_n none (norm x nw) (shapeCast S1024x8720 w shapeCasts_S1x1024x8720_S1024x8720)

/-- The logistic. -/
def sg {s : Shape} (h : S_.BroadcastsInDim s (![] : Fin 0 → Fin s.rank)) (y : FVec Ideal s .f32) : FVec Ideal s .f32 :=
  Host.divf (broadcastInDim s ![] h (constant S_ .f32 0x3F800000#32)) (addf (broadcastInDim s ![] h (constant S_ .f32 0x3F800000#32)) (Host.exp (Host.negf y)))

/-- The tanh form of GELU. -/
def gel (y : FVec Ideal S16x4096x1280 .f32) : FVec Ideal S16x4096x1280 .f32 :=
  mulf y (mulf (broadcastInDim S16x4096x1280 ![] bcast_S_S16x4096x1280 (constant S_ .f32 0x3F000000#32)) (addf (broadcastInDim S16x4096x1280 ![] bcast_S_S16x4096x1280 (constant S_ .f32 0x3F800000#32))
    (Host.tanh (mulf (broadcastInDim S16x4096x1280 ![] bcast_S_S16x4096x1280 (constant S_ .f32 0x3F4C422A#32)) (addf y (mulf (broadcastInDim S16x4096x1280 ![] bcast_S_S16x4096x1280 (constant S_ .f32 0x3D372713#32))
      (mulf (mulf y y) y)))))))

/-- q, k and v after three zero rows. -/
def padded (p : FVec Ideal S16x4096x8720 .f32) : FVec Ideal S16x4099x3072 .f32 :=
  pad S16x4099x3072 ![0, 3, 0] ![0, 0, 0] ![0, 0, 0] (extractStridedSlice S16x4096x3072 ![0, 0, 2560] p slices_S16x4096x8720_S16x4096x3072_0_0_2560) (sitofp .f32 (constantI S_ 32 0#32))
    pads_S16x4096x3072_S16x4099x3072_000_300_000 h_S_

/-- One tap of the convolution. -/
def tap (xp : FVec Ideal S16x4099x3072 .f32) (cw : FVec Ideal S1x4x3072 .f32) (o : Fin 3 → Nat) (ho : S16x4099x3072.Slices o S16x4096x3072)
    (q : Fin 2 → Nat) (hq : S4x3072.Slices q S1x3072) : FVec Ideal S16x4096x3072 .f32 :=
  mulf (extractStridedSlice S16x4096x3072 o xp ho) (broadcastInDim S16x4096x3072 ![0, 1, 2] bcast_S1x1x3072_S16x4096x3072_0_1_2 (broadcastInDim S1x1x3072 ![2] bcast_S3072_S1x1x3072_2
    (shapeCast S3072 (extractStridedSlice S1x3072 q (shapeCast S4x3072 cw shapeCasts_S1x4x3072_S4x3072) hq) shapeCasts_S1x3072_S3072)))

/-- The convolution. -/
def conv (xp : FVec Ideal S16x4099x3072 .f32) (cw : FVec Ideal S1x4x3072 .f32) : FVec Ideal S16x4096x3072 .f32 :=
  addf (addf (addf (addf (broadcastInDim S16x4096x3072 ![] bcast_S_S16x4096x3072 (constant S_ .f32 0x00000000#32))
    (tap xp cw ![0, 0, 0] slices_S16x4099x3072_S16x4096x3072_0_0_0 ![0, 0] slices_S4x3072_S1x3072_0_0))
    (tap xp cw ![0, 1, 0] slices_S16x4099x3072_S16x4096x3072_0_1_0 ![1, 0] slices_S4x3072_S1x3072_1_0))
    (tap xp cw ![0, 2, 0] slices_S16x4099x3072_S16x4096x3072_0_2_0 ![2, 0] slices_S4x3072_S1x3072_2_0))
    (tap xp cw ![0, 3, 0] slices_S16x4099x3072_S16x4096x3072_0_3_0 ![3, 0] slices_S4x3072_S1x3072_3_0)

/-- Activated. -/
def act (c : FVec Ideal S16x4096x3072 .f32) : FVec Ideal S16x4096x3072 .f32 := mulf c (sg bcast_S_S16x4096x3072 c)

/-- The heads of one of the three parts. -/
def heads (c : FVec Ideal S16x4096x3072 .f32) (o : Fin 5 → Nat) (ho : S16x4096x3x8x128.Slices o S16x4096x1x8x128) : FVec Ideal S16x4096x8x128 .f32 :=
  shapeCast S16x4096x8x128 (extractStridedSlice S16x4096x1x8x128 o (shapeCast S16x4096x3x8x128 c shapeCasts_S16x4096x3072_S16x4096x3x8x128) ho) shapeCasts_S16x4096x1x8x128_S16x4096x8x128

/-- Scaled to unit length. -/
def unitLen (y : FVec Ideal S16x4096x8x128 .f32) : FVec Ideal S16x4096x8x128 .f32 :=
  mulf y (broadcastInDim S16x4096x8x128 ![0, 1, 2, 3] bcast_S16x4096x8x1_S16x4096x8x128_0_1_2_3 (Host.rsqrt (addf
    (broadcastInDim S16x4096x8x1 ![0, 1, 2] bcast_S16x4096x8_S16x4096x8x1_0_1_2 (Host.reduceAdd (mulf y y) (constant S_ .f32 0x00000000#32) reducesTo_S16x4096x8x128_S16x4096x8_d3 h_S_))
    (broadcastInDim S16x4096x8x1 ![] bcast_S_S16x4096x8x1 (constant S_ .f32 0x358637BD#32)))))

/-- Eight columns of the projection, widened with zeros. -/
def narrow (p : FVec Ideal S16x4096x8720 .f32) (o : Fin 3 → Nat) (ho : S16x4096x8720.Slices o S16x4096x8) : FVec Ideal S65536x128 .f32 :=
  pad S65536x128 ![0, 0] ![0, 120] ![0, 0] (shapeCast S65536x8 (extractStridedSlice S16x4096x8 o p ho) shapeCasts_S16x4096x8_S65536x8) (sitofp .f32 (constantI S_ 32 0#32))
    pads_S65536x8_S65536x128_000_01200 h_S_

section
variable (m : (ℓ : Loc nD τ sig) → Buf (Elt Ideal) ℓ) (c : Dev nD)

/-- The projection and the activated convolution, as launched. -/
def P : FVec Ideal S16x4096x8720 .f32 := proj (m ((c.tc : Thread nD τ).loc main_arg0)) (m ((c.tc : Thread nD τ).loc main_arg1)) (m ((c.tc : Thread nD τ).loc main_arg2))
def C : FVec Ideal S16x4096x3072 .f32 := act (conv (padded (P m c)) (m ((c.tc : Thread nD τ).loc main_arg3)))

/-- The four long results are these stages. -/
theorem rg_eq : res_main_v111 m c = truncf .bf16 (shapeCast S65536x1280 (gel (extractStridedSlice S16x4096x1280 ![0, 0, 1280] (P m c) slices_S16x4096x8720_S16x4096x1280_0_0_1280))
    shapeCasts_S16x4096x1280_S65536x1280) bitsLt_bf16_f32 := rfl

theorem q_eq : res_main_v112 m c = shapeCast S65536x1024 (mulf (unitLen (heads (C m c) ![0, 0, 0, 0, 0] slices_S16x4096x3x8x128_S16x4096x1x8x128_0_0_0_0_0))
    (broadcastInDim S16x4096x8x128 ![] bcast_S_S16x4096x8x128 (constant S_ .f32 0x3DB504F3#32))) shapeCasts_S16x4096x8x128_S65536x1024 := rfl

theorem k_eq : res_main_v113 m c = shapeCast S65536x1024 (unitLen (heads (C m c) ![0, 0, 1, 0, 0] slices_S16x4096x3x8x128_S16x4096x1x8x128_0_0_1_0_0)) shapeCasts_S16x4096x8x128_S65536x1024 := rfl

theorem v_eq : res_main_v114 m c = shapeCast S65536x1024 (heads (C m c) ![0, 0, 2, 0, 0] slices_S16x4096x3x8x128_S16x4096x1x8x128_0_0_2_0_0) shapeCasts_S16x4096x8x128_S65536x1024 := rfl

/-- The other six results. -/
def rxR : FVec Ideal S65536x1280 .f32 := shapeCast S65536x1280 (extractStridedSlice S16x4096x1280 ![0, 0, 0] (P m c) slices_S16x4096x8720_S16x4096x1280_0_0_0) shapeCasts_S16x4096x1280_S65536x1280

def swish (y : FVec Ideal S16x4096x1024 .f32) : FVec Ideal S16x4096x1024 .f32 := mulf y (sg bcast_S_S16x4096x1024 y)

def zR : FVec Ideal S65536x1024 .bf16 := truncf .bf16 (shapeCast S65536x1024 (swish (extractStridedSlice S16x4096x1024 ![0, 0, 5632] (P m c) slices_S16x4096x8720_S16x4096x1024_0_0_5632))
  shapeCasts_S16x4096x1024_S65536x1024) bitsLt_bf16_f32

def gaR : FVec Ideal S65536x1024 .bf16 := truncf .bf16 (shapeCast S65536x1024 (sg bcast_S_S16x4096x1024 (extractStridedSlice S16x4096x1024 ![0, 0, 6672] (P m c) slices_S16x4096x8720_S16x4096x1024_0_0_6672))
  shapeCasts_S16x4096x1024_S65536x1024) bitsLt_bf16_f32

def gbR : FVec Ideal S65536x1024 .bf16 := truncf .bf16 (shapeCast S65536x1024 (sg bcast_S_S16x4096x1024 (extractStridedSlice S16x4096x1024 ![0, 0, 7696] (P m c) slices_S16x4096x8720_S16x4096x1024_0_0_7696))
  shapeCasts_S16x4096x1024_S65536x1024) bitsLt_bf16_f32

def aR : FVec Ideal S65536x128 .f32 := narrow (P m c) ![0, 0, 6656] slices_S16x4096x8720_S16x4096x8_0_0_6656

def bR : FVec Ideal S65536x128 .f32 := narrow (P m c) ![0, 0, 6664] slices_S16x4096x8720_S16x4096x8_0_0_6664
end

end RefProj

end
-- ==== Proof.InRefRead.lean ====
/-
  The reference of the input projection, element by element: its columns, and the heads of q, k and v.
-/
module

public import proofs.«01_k».proof.Proof.InRefStages
public import proofs.«01_k».proof.Proof.InEntry
public import proofs.«01_k».proof.Proof.Algebra
public import Idealize.ShloMosaic.Lib.KernelVsHost
public import Idealize.ShloMosaic.Lib.Pointwise.Tactic
public import Idealize.ShloMosaic.Lib.Pointwise.Contract
public import Idealize.ShloMosaic.Lib.Pointwise.Reduce

@[expose] public section

set_option maxRecDepth 16384
set_option backward.proofsInPublic true

noncomputable section

namespace RefProj

open Cert.Reference2Ideal Cert.Reference2Ideal.Gen Cert.Reference2Ideal.Value
open Idealize.ShloMosaic Idealize.ShloMosaic.TcCoe Idealize.ShloMosaic.StableHlo
open InProj (Data mk cast_mat cast_vec cast_rows zero_conv lane silu gelu)

theorem rowSum_apply (y : FVec Ideal S16x4096x1024 .f32) (b : Fin 16) (s : Fin 4096) :
    Host.reduceAdd y (constant S_ .f32 0x00000000#32) reducesTo_S16x4096x1024_S16x4096_d2 h_S_ (ix2 b s) = ∑ k : Fin 1024, y (ix3 b s k) := by
  pointwise

theorem headSum_apply (y : FVec Ideal S16x4096x8x128 .f32) (b : Fin 16) (s : Fin 4096) (h : Fin 8) :
    Host.reduceAdd y (constant S_ .f32 0x00000000#32) reducesTo_S16x4096x8x128_S16x4096x8_d3 h_S_ (ix3 b s h) = ∑ l : Fin 128, y (ix4 b s h l) := by
  pointwise

theorem perRow_apply (v : FVec Ideal S16x4096x1 .f32) (b : Fin 16) (s : Fin 4096) (k : Fin 1024) :
    broadcastInDim S16x4096x1024 ![0, 1, 2] bcast_S16x4096x1_S16x4096x1024_0_1_2 v (ix3 b s k) = v (ix3 b s 0) := by pointwise

theorem unitRow_apply (v : FVec Ideal S16x4096 .f32) (b : Fin 16) (s : Fin 4096) :
    broadcastInDim S16x4096x1 ![0, 1] bcast_S16x4096_S16x4096x1_0_1 v (ix3 b s 0) = v (ix2 b s) := by pointwise

theorem perHead_apply (v : FVec Ideal S16x4096x8x1 .f32) (b : Fin 16) (s : Fin 4096) (h : Fin 8) (l : Fin 128) :
    broadcastInDim S16x4096x8x128 ![0, 1, 2, 3] bcast_S16x4096x8x1_S16x4096x8x128_0_1_2_3 v (ix4 b s h l) = v (ix4 b s h 0) := by pointwise

theorem unitHead_apply (v : FVec Ideal S16x4096x8 .f32) (b : Fin 16) (s : Fin 4096) (h : Fin 8) :
    broadcastInDim S16x4096x8x1 ![0, 1, 2] bcast_S16x4096x8_S16x4096x8x1_0_1_2 v (ix4 b s h 0) = v (ix3 b s h) := by pointwise

theorem weight_apply (v : FVec Ideal S1024 .f32) (b : Fin 16) (s : Fin 4096) (k : Fin 1024) :
    broadcastInDim S16x4096x1024 ![0, 1, 2] bcast_S1x1x1024_S16x4096x1024_0_1_2 (broadcastInDim S1x1x1024 ![2] bcast_S1024_S1x1x1024_2 v) (ix3 b s k) = v (ix1 k) := by pointwise

theorem chan_apply (v : FVec Ideal S3072 .f32) (b : Fin 16) (s : Fin 4096) (j : Fin 3072) :
    broadcastInDim S16x4096x3072 ![0, 1, 2] bcast_S1x1x3072_S16x4096x3072_0_1_2 (broadcastInDim S1x1x3072 ![2] bcast_S3072_S1x1x3072_2 v) (ix3 b s j) = v (ix1 j) := by pointwise

theorem dot_apply (L : FVec Ideal S16x4096x1024 .f32) (R : FVec Ideal S1024x8720 .f32) (b : Fin 16) (s : Fin 4096) (j : Fin 8720) :
    Host.dotGeneral dot_S16x4096x1024_S1024x8720_S16x4096x8720_2_0_01_1_n_n none L R (ix3 b s j) = ∑ k : Fin 1024, L (ix3 b s k) * R (ix2 k j) := by
  pointwise

/-- Columns of a row. -/
theorem cols_apply {A B n n' : Nat} {α : Type} (o : Nat) (x : (⟨3, ![A, B, n]⟩ : Shape).Idx → α) (h : (⟨3, ![A, B, n]⟩ : Shape).Slices ![0, 0, o] ⟨3, ![A, B, n']⟩) (b : Fin A) (s : Fin B)
    (j : Fin n') (hj : o + j.val < n) : extractStridedSlice ⟨3, ![A, B, n']⟩ ![0, 0, o] x h (ix3 b s j) = x (ix3 b s ⟨o + j.val, hj⟩) :=
  extractStridedSlice_apply _ _ _ _ _ fun a => by
    match a with
    | ⟨0, _⟩ => show b.val = 0 + b.val; omega
    | ⟨1, _⟩ => show s.val = 0 + s.val; omega
    | ⟨2, _⟩ => rfl

theorem sg_apply {s : Shape} (h : S_.BroadcastsInDim s (![] : Fin 0 → Fin s.rank)) (y : FVec Ideal s .f32) (i : s.Idx) : sg h y i = Branch.sgm (y i) := by
  rw [Branch.sgm_eq]
  refine Eq.trans (b := Ideal.div (Ideal.ofBits .f32 0x3F800000#32) (Ideal.ofBits .f32 0x3F800000#32 + Ideal.exp (-(y i)))) rfl ?_
  rw [Ideal.ofBits_one_f32]
  rfl

theorem gel_apply (y : FVec Ideal S16x4096x1280 .f32) (i : S16x4096x1280.Idx) : gel y i = gelu (y i) := by
  unfold gelu
  rw [mul_comm (y i) (y i * y i)]
  rfl

variable (x : FVec Ideal S16x4096x1024 .f32) (nw : FVec Ideal S1x1024 .f32) (w : FVec Ideal S1x1024x8720 .f32) (dw : FVec Ideal S1x4x3072 .f32)

theorem x_at (b : Fin 16) (s : Fin 4096) (k : Fin 1024) : (mk x nw w dw).x (b.val * 4096 + s.val) k = x (ix3 b s k) := by
  refine (dif_pos (show b.val * 4096 + s.val < 65536 by omega)).trans ?_
  refine congrArg₂ (fun b s => x (ix3 b s k)) (Fin.ext ?_) (Fin.ext ?_)
  · show (b.val * 4096 + s.val) / 4096 = b.val; omega
  · show (b.val * 4096 + s.val) % 4096 = s.val; omega

theorem norm_apply (b : Fin 16) (s : Fin 4096) (k : Fin 1024) : norm x nw (ix3 b s k) = (mk x nw w dw).u (b.val * 4096 + s.val) k := by
  unfold InProj.Data.u
  simp only [x_at]
  refine congrArg₂ (fun x y : EReal => x * y) (congrArg₂ (fun x y : EReal => x * y) rfl ((perRow_apply _ b s k).trans ?_)) ((weight_apply _ b s k).trans (cast_vec nw _ k))
  exact congrArg (fun z => Ideal.rsqrt (Ideal.div z InProj.dim + InProj.eps)) ((unitRow_apply _ b s).trans (rowSum_apply _ b s))

theorem proj_apply (b : Fin 16) (s : Fin 4096) (j : Fin 8720) : proj x nw w (ix3 b s j) = (mk x nw w dw).pre (b.val * 4096 + s.val) j :=
  (dot_apply _ _ b s j).trans (Finset.sum_congr rfl fun k _ => congrArg₂ (fun x y : EReal => x * y) (norm_apply x nw w dw b s k) (cast_mat w _ k j))

theorem padded_apply (b : Fin 16) (s : Fin 4099) (j : Fin 3072) :
    padded (proj x nw w) (ix3 b s j) = if h : 3 ≤ s.val then (mk x nw w dw).qkv (b.val * 4096 + (s.val - 3)) j else 0 := by
  unfold padded
  by_cases h : 3 ≤ s.val
  · rw [dif_pos h]
    refine (pad_apply_of_inside _ _ _ _ _ _ _ (ix3 b s j) (ix3 b ⟨s.val - 3, by omega⟩ j) fun a => ?_).trans
      ((cols_apply 2560 _ _ b ⟨s.val - 3, by omega⟩ j (by omega)).trans (proj_apply x nw w dw b _ _))
    match a with
    | ⟨0, _⟩ => show b.val = 0 + b.val * (0 + 1); omega
    | ⟨1, _⟩ => show s.val = 3 + (s.val - 3) * (0 + 1); omega
    | ⟨2, _⟩ => show j.val = 0 + j.val * (0 + 1); omega
  · rw [dif_neg h]
    exact (pad_apply_of_not_inside _ _ _ _ _ _ _ (ix3 b s j) 1 fun h' => h h'.1).trans (zero_conv (s := S_) _)

theorem tap_apply (xp : FVec Ideal S16x4099x3072 .f32) (k : Fin 4) (ho : S16x4099x3072.Slices ![0, k.val, 0] S16x4096x3072)
    (hq : S4x3072.Slices ![k.val, 0] S1x3072) (b : Fin 16) (s : Fin 4096) (j : Fin 3072) :
    tap xp dw ![0, k.val, 0] ho ![k.val, 0] hq (ix3 b s j) = dw (ix3 0 k j) * xp (ix3 b ⟨s.val + k.val, by omega⟩ j) := by
  unfold tap
  rw [mul_comm (dw _)]
  refine congrArg₂ (fun x y : EReal => x * y) ?_ ?_
  · refine extractStridedSlice_apply _ xp ho (ix3 b s j) _ fun a => ?_
    match a with
    | ⟨0, _⟩ => show b.val = 0 + b.val; omega
    | ⟨1, _⟩ => show s.val + k.val = k.val + s.val; omega
    | ⟨2, _⟩ => show j.val = 0 + j.val; omega
  · refine (chan_apply _ b s j).trans ((cast_vec _ _ j).trans ?_)
    refine (extractStridedSlice_apply _ _ hq (ix2 0 j) (ix2 k j) fun a => ?_).trans (cast_mat dw _ k j)
    match a with
    | ⟨0, _⟩ => show k.val = k.val + 0; omega
    | ⟨1, _⟩ => show j.val = 0 + j.val; omega

theorem conv_apply (b : Fin 16) (s : Fin 4096) (j : Fin 3072) : conv (padded (proj x nw w)) dw (ix3 b s j) = (mk x nw w dw).cv (b.val * 4096 + s.val) j := by
  have e : ∀ k : Fin 4, padded (proj x nw w) (ix3 b ⟨s.val + k.val, by omega⟩ j) = (mk x nw w dw).tap (b.val * 4096 + s.val) k.val j := fun k => by
    refine (padded_apply x nw w dw b ⟨s.val + k.val, by omega⟩ j).trans ?_
    unfold InProj.Data.tap
    by_cases h : 3 ≤ s.val + k.val
    · rw [dif_pos h, if_pos (by omega)]
      exact congrArg (fun r => (mk x nw w dw).qkv r j) (show b.val * 4096 + (s.val + k.val - 3) = b.val * 4096 + s.val + k.val - 3 by omega)
    · rw [dif_neg h, if_neg (by omega)]
  have t0 : tap (padded (proj x nw w)) dw ![0, 0, 0] slices_S16x4099x3072_S16x4096x3072_0_0_0 ![0, 0] slices_S4x3072_S1x3072_0_0 (ix3 b s j) = _ := tap_apply dw _ 0 _ _ b s j
  have t1 : tap (padded (proj x nw w)) dw ![0, 1, 0] slices_S16x4099x3072_S16x4096x3072_0_1_0 ![1, 0] slices_S4x3072_S1x3072_1_0 (ix3 b s j) = _ := tap_apply dw _ 1 _ _ b s j
  have t2 : tap (padded (proj x nw w)) dw ![0, 2, 0] slices_S16x4099x3072_S16x4096x3072_0_2_0 ![2, 0] slices_S4x3072_S1x3072_2_0 (ix3 b s j) = _ := tap_apply dw _ 2 _ _ b s j
  have t3 : tap (padded (proj x nw w)) dw ![0, 3, 0] slices_S16x4099x3072_S16x4096x3072_0_3_0 ![3, 0] slices_S4x3072_S1x3072_3_0 (ix3 b s j) = _ := tap_apply dw _ 3 _ _ b s j
  rw [e] at t0 t1 t2 t3
  let P : EReal → EReal → EReal := fun x y => x + y
  exact congrArg₂ P (congrArg₂ P (congrArg₂ P (congrArg₂ P Ideal.ofBits_zero_f32 t0) t1) t2) t3

theorem act_val (y : FVec Ideal S16x4096x3072 .f32) (i : S16x4096x3072.Idx) : act y i = silu (y i) :=
  congrArg (fun z : EReal => y i * z) (sg_apply bcast_S_S16x4096x3072 y i)

theorem act_apply (b : Fin 16) (s : Fin 4096) (j : Fin 3072) : act (conv (padded (proj x nw w)) dw) (ix3 b s j) = (mk x nw w dw).cs (b.val * 4096 + s.val) j :=
  (act_val _ _).trans (congrArg silu (conv_apply x nw w dw b s j))

theorem heads_apply (p : Fin 3) (ho : S16x4096x3x8x128.Slices ![0, 0, p.val, 0, 0] S16x4096x1x8x128) (b : Fin 16) (s : Fin 4096) (h : Fin 8) (l : Fin 128) :
    heads (act (conv (padded (proj x nw w)) dw)) ![0, 0, p.val, 0, 0] ho (ix4 b s h l) = (mk x nw w dw).cs (b.val * 4096 + s.val) (lane p h l) := by
  unfold heads
  refine (shapeCast_apply _ _ (ix4 b s h l) (ix5 b s 0 h l) ?_).trans ?_
  · rw [Shape.rowMajor_val_four, Shape.rowMajor_val_five]
    show (((b.val * 4096 + s.val) * 1 + 0) * 8 + h.val) * 128 + l.val = ((b.val * 4096 + s.val) * 8 + h.val) * 128 + l.val
    omega
  refine (extractStridedSlice_apply _ _ ho (ix5 b s 0 h l) (ix5 b s p h l) fun a => ?_).trans ?_
  · match a with
    | ⟨0, _⟩ => show b.val = 0 + b.val; omega
    | ⟨1, _⟩ => show s.val = 0 + s.val; omega
    | ⟨2, _⟩ => show p.val = p.val + 0; omega
    | ⟨3, _⟩ => show h.val = 0 + h.val; omega
    | ⟨4, _⟩ => show l.val = 0 + l.val; omega
  refine (shapeCast_apply _ _ (ix5 b s p h l) (ix3 b s (lane p h l)) ?_).trans (act_apply x nw w dw b s _)
  rw [Shape.rowMajor_val_five, Shape.rowMajor_val_three]
  show (b.val * 4096 + s.val) * 3072 + (p.val * 1024 + h.val * 128 + l.val) = (((b.val * 4096 + s.val) * 3 + p.val) * 8 + h.val) * 128 + l.val
  omega

theorem unitLen_val (y : FVec Ideal S16x4096x8x128 .f32) (b : Fin 16) (s : Fin 4096) (h : Fin 8) (l : Fin 128) :
    unitLen y (ix4 b s h l) = y (ix4 b s h l) * Ideal.rsqrt ((∑ l : Fin 128, y (ix4 b s h l) * y (ix4 b s h l)) + InProj.eps) :=
  congrArg (fun z : EReal => y (ix4 b s h l) * z) ((perHead_apply _ b s h l).trans
    (congrArg (fun z => Ideal.rsqrt (z + InProj.eps)) ((unitHead_apply _ b s h).trans (headSum_apply _ b s h))))

theorem unitLen_apply (p : Fin 3) (ho : S16x4096x3x8x128.Slices ![0, 0, p.val, 0, 0] S16x4096x1x8x128) (b : Fin 16) (s : Fin 4096) (h : Fin 8) (l : Fin 128) :
    unitLen (heads (act (conv (padded (proj x nw w)) dw)) ![0, 0, p.val, 0, 0] ho) (ix4 b s h l)
      = (mk x nw w dw).cs (b.val * 4096 + s.val) (lane p h l) * (mk x nw w dw).len (b.val * 4096 + s.val) p h := by
  rw [unitLen_val]
  unfold InProj.Data.len
  simp only [heads_apply x nw w dw p ho b s h]

/-- The heads of a row, side by side. -/
theorem flat_apply {α : Type} (y : S16x4096x8x128.Idx → α) (r : Fin 65536) (j : Fin 1024) : shapeCast S65536x1024 y shapeCasts_S16x4096x8x128_S65536x1024 (ix2 r j)
    = y (ix4 ⟨r.val / 4096, by omega⟩ ⟨r.val % 4096, by omega⟩ ⟨j.val / 128, by omega⟩ ⟨j.val % 128, by omega⟩) := by
  refine shapeCast_apply _ _ _ _ ?_
  rw [Shape.rowMajor_val_four, Shape.rowMajor_val_two]
  show ((r.val / 4096 * 4096 + r.val % 4096) * 8 + j.val / 128) * 128 + j.val % 128 = r.val * 1024 + j.val
  omega

/-- Eight columns of the rows, widened. -/
theorem narrow_apply (o : Nat) (ho : S16x4096x8720.Slices ![0, 0, o] S16x4096x8) (hn : o + 8 ≤ 8720) (r : Fin 65536) (j : Fin 128) :
    narrow (proj x nw w) ![0, 0, o] ho (ix2 r j) = if h : j.val < 8 then (mk x nw w dw).pre r.val ⟨o + j.val, by omega⟩ else 0 := by
  unfold narrow
  by_cases hj : j.val < 8
  · rw [dif_pos hj]
    refine (pad_apply_of_inside _ _ _ _ _ _ _ (ix2 r j) (ix2 r ⟨j.val, hj⟩) fun a => ?_).trans ((cast_rows _ _ r ⟨j.val, hj⟩).trans
      ((cols_apply o _ _ _ _ ⟨j.val, hj⟩ (by show o + j.val < 8720; omega)).trans ((proj_apply x nw w dw _ _ _).trans ?_)))
    · match a with
      | ⟨0, _⟩ => show r.val = 0 + r.val * (0 + 1); omega
      | ⟨1, _⟩ => show j.val = 0 + j.val * (0 + 1); omega
    · exact congrArg (fun r => (mk x nw w dw).pre r _) (Nat.div_add_mod' r.val 4096)
  · rw [dif_neg hj]
    refine (pad_apply_of_not_inside _ _ _ _ _ _ _ (ix2 r j) 1 fun h' => hj ?_).trans (zero_conv (s := S_) _)
    have h2 : (j.val - 0) / (0 + 1) < 8 := h'.2.2
    omega

/-- Columns of the rows, one below the other. -/
theorem rows_apply {n : Nat} (o : Nat) (ho : S16x4096x8720.Slices ![0, 0, o] ⟨3, ![16, 4096, n]⟩) (r : Fin 65536) (j : Fin n) (hj : o + j.val < 8720) :
    extractStridedSlice ⟨3, ![16, 4096, n]⟩ ![0, 0, o] (proj x nw w) ho (ix3 ⟨r.val / 4096, by omega⟩ ⟨r.val % 4096, by omega⟩ j) = (mk x nw w dw).pre r.val ⟨o + j.val, hj⟩ :=
  (cols_apply o _ ho _ _ j hj).trans ((proj_apply x nw w dw _ _ _).trans (congrArg (fun r => (mk x nw w dw).pre r _) (Nat.div_add_mod' r.val 4096)))

end RefProj

end
-- ==== Proof.InRefResult.lean ====
/-
  The ten results of the input projection's reference, element by element.
-/
module

public import proofs.«01_k».proof.Proof.InRefRead

@[expose] public section

set_option maxRecDepth 16384
set_option backward.proofsInPublic true

noncomputable section

namespace RefProj

open Cert.Reference2Ideal Cert.Reference2Ideal.Gen Cert.Reference2Ideal.Value
open Idealize.ShloMosaic Idealize.ShloMosaic.TcCoe Idealize.ShloMosaic.StableHlo
open InProj (Data mk cast_rows lane silu gelu)

variable (m : (ℓ : Loc nD τ sig) → Buf (Elt Ideal) ℓ) (c : Dev nD)

/-- The reference's data, as launched. -/
def ER : Data := mk (m ((c : Thread nD τ).loc main_arg0)) (m ((c : Thread nD τ).loc main_arg1)) (m ((c : Thread nD τ).loc main_arg2)) (m ((c : Thread nD τ).loc main_arg3))

/-- Columns of the rows, one below the other. -/
theorem rows {n : Nat} (o : Nat) (ho : S16x4096x8720.Slices ![0, 0, o] ⟨3, ![16, 4096, n]⟩) (r : Fin 65536) (j : Fin n) (hj : o + j.val < 8720) :
    extractStridedSlice ⟨3, ![16, 4096, n]⟩ ![0, 0, o] (P m c) ho (ix3 ⟨r.val / 4096, by omega⟩ ⟨r.val % 4096, by omega⟩ j) = (ER m c).pre r.val ⟨o + j.val, hj⟩ := rows_apply _ _ _ _ o ho r j hj

theorem rx_ref (r : Fin 65536) (j : Fin 1280) : rxR m c (ix2 r j) = (ER m c).rx r.val j :=
  (cast_rows _ _ r j).trans ((rows m c 0 _ r j (by omega)).trans (congrArg (fun j => (ER m c).pre r.val j) (Fin.ext (Nat.zero_add _))))

theorem rg_ref (r : Fin 65536) (j : Fin 1280) : res_main_v111 m c (ix2 r j) = (ER m c).rg r.val j := by
  rw [rg_eq]
  exact (cast_rows _ _ r j).trans ((gel_apply _ _).trans (congrArg gelu (rows m c 1280 _ r j (by omega))))

theorem swish_apply (y : FVec Ideal S16x4096x1024 .f32) (i : S16x4096x1024.Idx) : swish y i = silu (y i) :=
  congrArg (fun z : EReal => y i * z) (sg_apply bcast_S_S16x4096x1024 y i)

theorem z_ref (r : Fin 65536) (j : Fin 1024) : zR m c (ix2 r j) = (ER m c).z r.val j :=
  (cast_rows _ _ r j).trans ((swish_apply _ _).trans (congrArg silu (rows m c 5632 _ r j (by omega))))

theorem ga_ref (r : Fin 65536) (j : Fin 1024) : gaR m c (ix2 r j) = (ER m c).ga r.val j :=
  (cast_rows _ _ r j).trans ((sg_apply _ _ _).trans (congrArg Branch.sgm (rows m c 6672 _ r j (by omega))))

theorem gb_ref (r : Fin 65536) (j : Fin 1024) : gbR m c (ix2 r j) = (ER m c).gb r.val j :=
  (cast_rows _ _ r j).trans ((sg_apply _ _ _).trans (congrArg Branch.sgm (rows m c 7696 _ r j (by omega))))

theorem a_ref (r : Fin 65536) (j : Fin 128) : aR m c (ix2 r j) = (ER m c).a r.val j := narrow_apply _ _ _ _ 6656 _ (by omega) r j

theorem b_ref (r : Fin 65536) (j : Fin 128) : bR m c (ix2 r j) = (ER m c).b r.val j := narrow_apply _ _ _ _ 6664 _ (by omega) r j

/-- A head's lane in the row that holds it. -/
theorem head (p : Fin 3) (ho : S16x4096x3x8x128.Slices ![0, 0, p.val, 0, 0] S16x4096x1x8x128) (r : Fin 65536) (h : Fin 8) (l : Fin 128) :
    heads (C m c) ![0, 0, p.val, 0, 0] ho (ix4 ⟨r.val / 4096, by omega⟩ ⟨r.val % 4096, by omega⟩ h l) = (ER m c).cs r.val (lane p h l) :=
  (heads_apply _ _ _ _ p ho _ _ h l).trans (congrArg (fun r => (ER m c).cs r (lane p h l)) (Nat.div_add_mod' r.val 4096))

theorem unit (p : Fin 3) (ho : S16x4096x3x8x128.Slices ![0, 0, p.val, 0, 0] S16x4096x1x8x128) (r : Fin 65536) (h : Fin 8) (l : Fin 128) :
    unitLen (heads (C m c) ![0, 0, p.val, 0, 0] ho) (ix4 ⟨r.val / 4096, by omega⟩ ⟨r.val % 4096, by omega⟩ h l) = (ER m c).cs r.val (lane p h l) * (ER m c).len r.val p h :=
  (unitLen_apply _ _ _ _ p ho _ _ h l).trans (congrArg (fun r => (ER m c).cs r (lane p h l) * (ER m c).len r p h) (Nat.div_add_mod' r.val 4096))

theorem scaled_apply (y : FVec Ideal S16x4096x8x128 .f32) (i : S16x4096x8x128.Idx) :
    mulf y (broadcastInDim S16x4096x8x128 ![] bcast_S_S16x4096x8x128 (constant S_ .f32 0x3DB504F3#32)) i = y i * InProj.scale := rfl

theorem q_ref (r : Fin 65536) (j : Fin 1024) : res_main_v112 m c (ix2 r j) = (ER m c).q r.val ⟨j.val / 128, by omega⟩ ⟨j.val % 128, by omega⟩ := by
  unfold InProj.Data.q
  rw [q_eq, flat_apply, scaled_apply, ← mul_assoc]
  exact congrArg (fun z : EReal => z * InProj.scale) (unit m c 0 slices_S16x4096x3x8x128_S16x4096x1x8x128_0_0_0_0_0 r ⟨j.val / 128, by omega⟩ ⟨j.val % 128, by omega⟩)

theorem k_ref (r : Fin 65536) (j : Fin 1024) : res_main_v113 m c (ix2 r j) = (ER m c).k r.val ⟨j.val / 128, by omega⟩ ⟨j.val % 128, by omega⟩ := by
  rw [k_eq, flat_apply]
  exact unit m c 1 _ r _ _

theorem v_ref (r : Fin 65536) (j : Fin 1024) : res_main_v114 m c (ix2 r j) = (ER m c).v r.val ⟨j.val / 128, by omega⟩ ⟨j.val % 128, by omega⟩ := by
  rw [v_eq, flat_apply]
  exact head m c 2 _ r _ _

end RefProj

end
-- ==== Proof.InMatch.lean ====
/-
  The input projection's ten results and its reference's, array by array.
-/
module

public import proofs.«01_k».proof.Proof.InChain
public import proofs.«01_k».proof.Proof.InRefResult

@[expose] public section

set_option maxRecDepth 16384
set_option backward.proofsInPublic true

noncomputable section

namespace InProj

open Idealize.ShloMosaic Idealize.ShloMosaic.TcCoe

/-- Two matrices with the same entries. -/
theorem same {p q : Nat} {α : Type} {A B : (⟨2, ![p, q]⟩ : Shape).Idx → α} (h : ∀ r j, A (ix2 r j) = B (ix2 r j)) : A = B :=
  funext fun i => by rw [eq_ix2 i]; exact h _ _

variable (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hE : RefProj.ER m' c = E m c)
include hE

theorem rx_same : RefProj.rxR m' c = Cert.Kernel2Ideal.Value.G6 m c :=
  same fun r j => (RefProj.rx_ref m' c r j).trans ((congrArg (fun D : Data => D.rx r.val j) hE).trans (rx_result m c r j).symm)

theorem rg_same : Cert.Reference2Ideal.Value.res_main_v111 m' c = Cert.Kernel2Ideal.Value.G7 m c :=
  same fun r j => (RefProj.rg_ref m' c r j).trans ((congrArg (fun D : Data => D.rg r.val j) hE).trans (rg_result m c r j).symm)

theorem q_same : Cert.Reference2Ideal.Value.res_main_v112 m' c = Cert.Kernel2Ideal.Value.G8 m c :=
  same fun r j => (RefProj.q_ref m' c r j).trans ((congrArg (fun D : Data => D.q r.val ⟨j.val / 128, by omega⟩ ⟨j.val % 128, by omega⟩) hE).trans (q_result m c r j).symm)

theorem k_same : Cert.Reference2Ideal.Value.res_main_v113 m' c = Cert.Kernel2Ideal.Value.G9 m c :=
  same fun r j => (RefProj.k_ref m' c r j).trans ((congrArg (fun D : Data => D.k r.val ⟨j.val / 128, by omega⟩ ⟨j.val % 128, by omega⟩) hE).trans (k_result m c r j).symm)

theorem v_same : Cert.Reference2Ideal.Value.res_main_v114 m' c = Cert.Kernel2Ideal.Value.G10 m c :=
  same fun r j => (RefProj.v_ref m' c r j).trans ((congrArg (fun D : Data => D.v r.val ⟨j.val / 128, by omega⟩ ⟨j.val % 128, by omega⟩) hE).trans (v_result m c r j).symm)

theorem z_same : RefProj.zR m' c = Cert.Kernel2Ideal.Value.G11 m c :=
  same fun r j => (RefProj.z_ref m' c r j).trans ((congrArg (fun D : Data => D.z r.val j) hE).trans (z_result m c r j).symm)

theorem ga_same : RefProj.gaR m' c = Cert.Kernel2Ideal.Value.G12 m c :=
  same fun r j => (RefProj.ga_ref m' c r j).trans ((congrArg (fun D : Data => D.ga r.val j) hE).trans (ga_result m c r j).symm)

theorem gb_same : RefProj.gbR m' c = Cert.Kernel2Ideal.Value.G13 m c :=
  same fun r j => (RefProj.gb_ref m' c r j).trans ((congrArg (fun D : Data => D.gb r.val j) hE).trans (gb_result m c r j).symm)

theorem a_same : RefProj.aR m' c = Cert.Kernel2Ideal.Value.G14 m c :=
  same fun r j => (RefProj.a_ref m' c r j).trans ((congrArg (fun D : Data => D.a r.val j) hE).trans (a_result m c r j).symm)

theorem b_same : RefProj.bR m' c = Cert.Kernel2Ideal.Value.G15 m c :=
  same fun r j => (RefProj.b_ref m' c r j).trans ((congrArg (fun D : Data => D.b r.val j) hE).trans (b_result m c r j).symm)

end InProj

end
-- ==== Proof.lean ====
/-
  The branch's kernel and the input projection's, as written and idealized, run to their end and leave their arguments alone; idealized, each computes its reference.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Chain
public import proofs.«01_k».proof.Proof.RefLoop
public import proofs.«01_k».proof.Proof.Gen.Kernel2.Frame
public import proofs.«01_k».proof.Proof.Gen.Kernel2Ideal.Value
public import proofs.«01_k».proof.Proof.Gen.Reference2Ideal.Run
public import proofs.«01_k».proof.Proof.InMatch

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hE : RefBranch.ER m' c = Branch.E m c := by
    obtain ⟨h0, h1, h2, h3, h4, h5, h6, h7, h8, h9, h10⟩ := hagree c
    unfold RefBranch.ER Branch.E
    rw [h0, h1, h2, h3, h4, h5, h6, h7, h8, h9, h10]
  funext i
  obtain ⟨b, s, j, rfl⟩ : ∃ (b : Fin 16) (s : Fin 4096) (j : Fin 1024), i = ix3 b s j := ⟨i 0, i 1, i 2, eq_ix3 i⟩
  refine (RefBranch.reference_result m' c b s j).trans ?_
  rw [hE]
  exact (Branch.kernel_result m c b s j).symm

theorem quiescent_Reference2Ideal : quiescent_Reference2Ideal := fun m ρ _ =>
  (θ_run Cert.Reference2Ideal.defs _ _).mono (fun r h => ⟨fun c => (h c).2.2.2.2.2.2.2.2.2.2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, _, _, _, _, _, _, _, _, _, Cert.Kernel2Ideal.Value.run (F := Ideal) m ρ, ?_⟩
  refine (θ_run Cert.Reference2Ideal.defs _ _).mono (fun _ h c => ?_) (Cert.Reference2Ideal.Value.run (F := Ideal) m' ρ')
  have hE : RefProj.ER m' c = InProj.E m c := by
    obtain ⟨h0, h1, h2, h3⟩ := hagree c
    unfold RefProj.ER InProj.E
    rw [h0, h1, h2, h3]
  obtain ⟨r0, r1, r2, r3, r4, r5, r6, r7, r8, r9, hargs⟩ := h c
  exact ⟨r0.trans (InProj.rx_same m m' c hE), r1.trans (InProj.rg_same m m' c hE), r2.trans (InProj.q_same m m' c hE), r3.trans (InProj.k_same m m' c hE),
    r4.trans (InProj.v_same m m' c hE), r5.trans (InProj.z_same m m' c hE), r6.trans (InProj.ga_same m m' c hE), r7.trans (InProj.gb_same m m' c hE),
    r8.trans (InProj.a_same m m' c hE), r9.trans (InProj.b_same m m' c hE), hargs⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  (trivial : preserves_Kernel_KernelIdeal), algebraic_KernelIdeal_ReferenceIdeal,
  (trivial : preserves_Kernel2_Kernel2Ideal), algebraic_Kernel2Ideal_Reference2Ideal⟩

end Cert.Proof

end
